-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)) (v3 : (c : Dev Cert.Kernel9Ideal.nD) → Buf (Elt Ideal) ((c.tc : Thread Cert.Kernel9Ideal.nD Cert.Kernel9Ideal.τ).loc Cert.Kernel9Ideal.main_v18_3)) (v4 : (c : Dev Cert.Kernel9Ideal.nD) → Buf (Elt Ideal) ((c.tc : Thread Cert.Kernel9Ideal.nD Cert.Kernel9Ideal.τ).loc Cert.Kernel9Ideal.main_v18_4)) (v5 : (c : Dev Cert.Kernel9Ideal.nD) → Buf (Elt Ideal) ((c.tc : Thread Cert.Kernel9Ideal.nD Cert.Kernel9Ideal.τ).loc Cert.Kernel9Ideal.main_v18_5)) (v6 : (c : Dev Cert.Kernel9Ideal.nD) → Buf (Elt Ideal) ((c.tc : Thread Cert.Kernel9Ideal.nD Cert.Kernel9Ideal.τ).loc Cert.Kernel9Ideal.main_v18_6)) (v7 : (c : Dev Cert.Kernel9Ideal.nD) → Buf (Elt Ideal) ((c.tc : Thread Cert.Kernel9Ideal.nD Cert.Kernel9Ideal.τ).loc Cert.Kernel9Ideal.main_v18_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_v18_3) = v3 c
          ∧ r.2.mem ((c.tc : Thread Cert.Kernel9Ideal.nD Cert.Kernel9Ideal.τ).loc Cert.Kernel9Ideal.main_v18_4) = v4 c
          ∧ r.2.mem ((c.tc : Thread Cert.Kernel9Ideal.nD Cert.Kernel9Ideal.τ).loc Cert.Kernel9Ideal.main_v18_5) = v5 c
          ∧ r.2.mem ((c.tc : Thread Cert.Kernel9Ideal.nD Cert.Kernel9Ideal.τ).loc Cert.Kernel9Ideal.main_v18_6) = v6 c
          ∧ r.2.mem ((c.tc : Thread Cert.Kernel9Ideal.nD Cert.Kernel9Ideal.τ).loc Cert.Kernel9Ideal.main_v18_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v80) = v1 c
          ∧ r.2.mem ((c.tc : Thread Cert.Reference9Ideal.nD Cert.Reference9Ideal.τ).loc Cert.Reference9Ideal.main_v68) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_v60) = v4 c
          ∧ r.2.mem ((c.tc : Thread Cert.Reference9Ideal.nD Cert.Reference9Ideal.τ).loc Cert.Reference9Ideal.main_v81) = v5 c
          ∧ r.2.mem ((c.tc : Thread Cert.Reference9Ideal.nD Cert.Reference9Ideal.τ).loc Cert.Reference9Ideal.main_v47) = v6 c
          ∧ r.2.mem ((c.tc : Thread Cert.Reference9Ideal.nD Cert.Reference9Ideal.τ).loc Cert.Reference9Ideal.main_v82) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S8192x4096 : Shape := ⟨2, ![8192, 4096]⟩
abbrev S8192x128 : Shape := ⟨2, ![8192, 128]⟩
abbrev S4x2048 : Shape := ⟨2, ![4, 2048]⟩
abbrev S4 : Shape := ⟨1, ![4]⟩
abbrev S1024 : Shape := ⟨1, ![1024]⟩
abbrev S8192x3072 : Shape := ⟨2, ![8192, 3072]⟩
abbrev S_ : Shape := ⟨0, ![]⟩

class Facts : Prop where
  slices_S8192x4096_S8192x3072_0_0 : S8192x4096.Slices ![0, 0] S8192x3072
  bcast_S_S8192x3072 : S_.BroadcastsInDim S8192x3072 (![] : Fin 0 → Fin S8192x3072.rank)
  bcast_S_S4x2048 : S_.BroadcastsInDim S4x2048 (![] : Fin 0 → Fin S4x2048.rank)

variable [Facts]

def fn {F : FTy → Type} [FloatOps F] (main_arg0 : FVec F S8192x4096 .f32) (main_arg1 : FVec F S8192x128 .f32) (main_arg2 : FVec F S4x2048 .f32) (main_arg3 : FVec F S4 .f32) (main_arg4 : FVec F S4 .f32) (main_arg5 : FVec F S1024 .f32) : IVec S8192x3072 1 × IVec S4x2048 1 :=
  let main_v0 : FVec F S8192x3072 .f32 := (extractStridedSlice S8192x3072 ![0, 0] · slices_S8192x4096_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S4x2048 .f32 := Host.absf main_arg2
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  (main_v3, main_v6)
-- ==== Pre_finite9.lean ====
abbrev S8192x2048 : Shape := ⟨2, ![8192, 2048]⟩
abbrev S2048x2048 : Shape := ⟨2, ![2048, 2048]⟩
abbrev S1984 : Shape := ⟨1, ![1984]⟩
abbrev S512 : Shape := ⟨1, ![512]⟩
abbrev S96x512 : Shape := ⟨2, ![96, 512]⟩
abbrev S256x512 : Shape := ⟨2, ![256, 512]⟩
abbrev S_ : Shape := ⟨0, ![]⟩
abbrev S1024x2048 : Shape := ⟨2, ![1024, 2048]⟩
abbrev S1024 : Shape := ⟨1, ![1024]⟩

class Facts : Prop where
  bcast_S_S8192x2048 : S_.BroadcastsInDim S8192x2048 (![] : Fin 0 → Fin S8192x2048.rank)
  slices_S2048x2048_S1024x2048_0_0 : S2048x2048.Slices ![0, 0] S1024x2048
  bcast_S_S1024x2048 : S_.BroadcastsInDim S1024x2048 (![] : Fin 0 → Fin S1024x2048.rank)
  slices_S1984_S1024_0 : S1984.Slices ![0] S1024
  bcast_S_S1024 : S_.BroadcastsInDim S1024 (![] : Fin 0 → Fin S1024.rank)
  bcast_S_S512 : S_.BroadcastsInDim S512 (![] : Fin 0 → Fin S512.rank)

variable [Facts]

def fn_part1 {F : FTy → Type} [FloatOps F] (main_v2 : IVec S8192x2048 1) (main_v6 : IVec S1024x2048 1) (main_v10 : IVec S1024 1) (main_v13 : IVec S512 1) (main_v16 : IVec S512 1) (main_v17 : FVec F S512 .f32) (main_cst_4 : FVec F S_ .f32) : IVec S8192x2048 1 × IVec S1024x2048 1 × IVec S1024 1 × IVec S512 1 × IVec S512 1 × IVec S512 1 :=
  let main_v18 : FVec F S512 .f32 := broadcastInDim S512 ![] bcast_S_S512 main_cst_4
  let main_v19 : IVec S512 1 := cmpf .olt main_v17 main_v18
  (main_v2, main_v6, main_v10, main_v13, main_v16, main_v19)

def fn {F : FTy → Type} [FloatOps F] (main_arg0 : FVec F S8192x2048 .bf16) (main_arg1 : FVec F S2048x2048 .bf16) (main_arg2 : FVec F S1984 .f32) (main_arg3 : FVec F S512 .f32) (main_arg4 : FVec F S96x512 .f32) (main_arg5 : FVec F S512 .f32) (main_arg6 : FVec F S96x512 .f32) (main_arg7 : FVec F S256x512 .f32) (main_arg8 : FVec F S512 .f32) (main_arg9 : FVec F S512 .f32) (main_arg10 : FVec F S512 .f32) : IVec S8192x2048 1 × IVec S1024x2048 1 × IVec S1024 1 × IVec S512 1 × IVec S512 1 × IVec S512 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S1024x2048 .bf16 := (extractStridedSlice S1024x2048 ![0, 0] · slices_S2048x2048_S1024x2048_0_0) main_arg1
  let main_v4 : FVec F S1024x2048 .bf16 := Host.absf main_v3
  let main_cst_0 : FVec F S_ .bf16 := constant S_ .bf16 0x7F80#16
  let main_v5 : FVec F S1024x2048 .bf16 := broadcastInDim S1024x2048 ![] bcast_S_S1024x2048 main_cst_0
  let main_v6 : IVec S1024x2048 1 := cmpf .olt main_v4 main_v5
  let main_v7 : FVec F S1024 .f32 := (extractStridedSlice S1024 ![0] · slices_S1984_S1024_0) main_arg2
  let main_v8 : FVec F S1024 .f32 := Host.absf main_v7
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S512 .f32 := Host.absf main_arg8
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_v14 : FVec F S512 .f32 := Host.absf main_arg9
  let main_cst_3 : FVec F S_ .f32 := constant S_ .f32 0x7F800000#32
  let main_v15 : FVec F S512 .f32 := broadcastInDim S512 ![] bcast_S_S512 main_cst_3
  let main_v16 : IVec S512 1 := cmpf .olt main_v14 main_v15
  let main_v17 : FVec F S512 .f32 := Host.absf main_arg10
  let main_cst_4 : FVec F S_ .f32 := constant S_ .f32 0x7F800000#32
  fn_part1 (F := F) main_v2 main_v6 main_v10 main_v13 main_v16 main_v17 main_cst_4
-- ==== Kernel.lean ====
abbrev S8192x4096 : Shape := ⟨2, ![8192, 4096]⟩
abbrev S8192x128 : Shape := ⟨2, ![8192, 128]⟩
abbrev S4x2048 : Shape := ⟨2, ![4, 2048]⟩
abbrev S4 : Shape := ⟨1, ![4]⟩
abbrev S1024 : Shape := ⟨1, ![1024]⟩
abbrev S8 : Shape := ⟨1, ![8]⟩
abbrev S_ : Shape := ⟨0, ![]⟩
abbrev S128 : Shape := ⟨1, ![128]⟩
abbrev S1x128 : Shape := ⟨2, ![1, 128]⟩
abbrev S1x1024 : Shape := ⟨2, ![1, 1024]⟩
abbrev S8192x1024 : Shape := ⟨2, ![8192, 1024]⟩
abbrev S256x1024 : Shape := ⟨2, ![256, 1024]⟩
abbrev S256x128 : Shape := ⟨2, ![256, 128]⟩
abbrev S4x1024 : Shape := ⟨2, ![4, 1024]⟩
abbrev S4x256x256 : Shape := ⟨3, ![4, 256, 256]⟩
abbrev S8x1024 : Shape := ⟨2, ![8, 1024]⟩
abbrev S264x1024 : Shape := ⟨2, ![264, 1024]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S1x1 : Shape := ⟨2, ![1, 1]⟩
abbrev S1x256x256 : Shape := ⟨3, ![1, 256, 256]⟩
abbrev S256 : Shape := ⟨1, ![256]⟩

abbrev nBuf : Space → Nat
  | .hbm => 13
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192x128, .f32⟩
  | .hbm, ⟨2, _⟩ => ⟨S4x2048, .f32⟩
  | .hbm, ⟨3, _⟩ => ⟨S4, .f32⟩
  | .hbm, ⟨4, _⟩ => ⟨S4, .f32⟩
  | .hbm, ⟨5, _⟩ => ⟨S1024, .f32⟩
  | .hbm, ⟨6, _⟩ => ⟨S8, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1x1024, .f32⟩
  | .hbm, ⟨12, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S4x1024, .f32⟩
  | .local _ .vmem, ⟨11, _⟩ => ⟨S4x1024, .f32⟩
  | .local _ .vmem, ⟨12, _⟩ => ⟨S1x128, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S4x256x256, .f32⟩
  | .local _ .vmem, ⟨17, _⟩ => ⟨S1x1024, .f32⟩
  | .local _ .vmem, ⟨18, _⟩ => ⟨S8x1024, .f32⟩
  | .local _ .vmem, ⟨19, _⟩ => ⟨S8x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x4096 : Shape := ⟨2, ![8192, 4096]⟩
abbrev S8192x128 : Shape := ⟨2, ![8192, 128]⟩
abbrev S4x2048 : Shape := ⟨2, ![4, 2048]⟩
abbrev S4 : Shape := ⟨1, ![4]⟩
abbrev S1024 : Shape := ⟨1, ![1024]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8193x2048 : Shape := ⟨2, ![8193, 2048]⟩
abbrev S8194x2048 : Shape := ⟨2, ![8194, 2048]⟩
abbrev S8195x2048 : Shape := ⟨2, ![8195, 2048]⟩
abbrev S8192x1024 : Shape := ⟨2, ![8192, 1024]⟩
abbrev S8192x4 : Shape := ⟨2, ![8192, 4]⟩
abbrev S1x4 : Shape := ⟨2, ![1, 4]⟩
abbrev S128x64x4x256 : Shape := ⟨4, ![128, 64, 4, 256]⟩
abbrev S128x4x64x256 : Shape := ⟨4, ![128, 4, 64, 256]⟩
abbrev S128x64x4 : Shape := ⟨3, ![128, 64, 4]⟩
abbrev S128x4x64 : Shape := ⟨3, ![128, 4, 64]⟩
abbrev S64x64 : Shape := ⟨2, ![64, 64]⟩
abbrev S4x256x256 : Shape := ⟨3, ![4, 256, 256]⟩
abbrev S4x256 : Shape := ⟨2, ![4, 256]⟩
abbrev S1x4x64x256 : Shape := ⟨4, ![1, 4, 64, 256]⟩
abbrev S4x64x256 : Shape := ⟨3, ![4, 64, 256]⟩
abbrev S1x4x64 : Shape := ⟨3, ![1, 4, 64]⟩
abbrev S4x64 : Shape := ⟨2, ![4, 64]⟩
abbrev S4x64x1 : Shape := ⟨3, ![4, 64, 1]⟩
abbrev S4x1x64 : Shape := ⟨3, ![4, 1, 64]⟩
abbrev S4x64x64 : Shape := ⟨3, ![4, 64, 64]⟩
abbrev S4x1 : Shape := ⟨2, ![4, 1]⟩
abbrev S4x1x1 : Shape := ⟨3, ![4, 1, 1]⟩
abbrev S8192x4x256 : Shape := ⟨3, ![8192, 4, 256]⟩
abbrev S8192x4x1 : Shape := ⟨3, ![8192, 4, 1]⟩
abbrev S1x1024 : Shape := ⟨2, ![1, 1024]⟩

abbrev nBuf : Space → Nat
  | .hbm => 276
  | .vmem => 0
  | .smem => 0
  | _ => 0

abbrev hbmTy0_0 (i : Nat) : BufTy := match i % 128 with
  | 0 => ⟨S8192x4096, .f32⟩
  | 1 => ⟨S8192x128, .f32⟩
  | 2 => ⟨S4x2048, .f32⟩
  | 3 => ⟨S4, .f32⟩
  | 4 => ⟨S4, .f32⟩
  | 5 => ⟨S1024, .f32⟩
  | 6 => ⟨S8192x2048, .f32⟩
  | 7 => ⟨S1x2048, .f32⟩
  | 8 => ⟨S2048, .f32⟩
  | 9 => ⟨S1x2048, .f32⟩
  | 10 => ⟨S8192x2048, .f32⟩
  | 11 => ⟨S8192x2048, .f32⟩
  | 12 => ⟨S1x2048, .f32⟩
  | 13 => ⟨S2048, .f32⟩
  | 14 => ⟨S_, .i32⟩
  | 15 => ⟨S_, .f32⟩
  | 16 => ⟨S8193x2048, .f32⟩
  | 17 => ⟨S8192x2048, .f32⟩
  | 18 => ⟨S1x2048, .f32⟩
  | 19 => ⟨S8192x2048, .f32⟩
  | 20 => ⟨S8192x2048, .f32⟩
  | 21 => ⟨S8192x2048, .f32⟩
  | 22 => ⟨S1x2048, .f32⟩
  | 23 => ⟨S2048, .f32⟩
  | 24 => ⟨S_, .i32⟩
  | 25 => ⟨S_, .f32⟩
  | 26 => ⟨S8194x2048, .f32⟩
  | 27 => ⟨S8192x2048, .f32⟩
  | 28 => ⟨S1x2048, .f32⟩
  | 29 => ⟨S8192x2048, .f32⟩
  | 30 => ⟨S8192x2048, .f32⟩
  | 31 => ⟨S8192x2048, .f32⟩
  | 32 => ⟨S1x2048, .f32⟩
  | 33 => ⟨S2048, .f32⟩
  | 34 => ⟨S_, .i32⟩
  | 35 => ⟨S_, .f32⟩
  | 36 => ⟨S8195x2048, .f32⟩
  | 37 => ⟨S8192x2048, .f32⟩
  | 38 => ⟨S1x2048, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S_, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S8192x2048, .f32⟩
  | 51 => ⟨S8192x1024, .f32⟩
  | 52 => ⟨S8192x1024, .f32⟩
  | 53 => ⟨S8192x1024, .f32⟩
  | 54 => ⟨S8192x4, .f32⟩
  | 55 => ⟨S1x4, .f32⟩
  | 56 => ⟨S8192x4, .f32⟩
  | 57 => ⟨S8192x4, .f32⟩
  | 58 => ⟨S8192x4, .f32⟩
  | 59 => ⟨S1x4, .f32⟩
  | 60 => ⟨S8192x4, .f32⟩
  | 61 => ⟨S8192x4, .f32⟩
  | 62 => ⟨S128x64x4x256, .f32⟩
  | 63 => ⟨S128x4x64x256, .f32⟩
  | 64 => ⟨S_, .f32⟩
  | 65 => ⟨S128x4x64x256, .f32⟩
  | 66 => ⟨S128x4x64x256, .f32⟩
  | 67 => ⟨S128x64x4x256, .f32⟩
  | 68 => ⟨S128x4x64x256, .f32⟩
  | 69 => ⟨S128x64x4x256, .f32⟩
  | 70 => ⟨S128x4x64x256, .f32⟩
  | 71 => ⟨S_, .f32⟩
  | 72 => ⟨S8192x4, .f32⟩
  | 73 => ⟨S8192x4, .f32⟩
  | 74 => ⟨S8192x4, .f32⟩
  | 75 => ⟨S_, .f32⟩
  | 76 => ⟨S8192x4, .f32⟩
  | 77 => ⟨S8192x4, .f32⟩
  | 78 => ⟨S128x64x4, .f32⟩
  | 79 => ⟨S128x4x64, .f32⟩
  | 80 => ⟨S_, .f32⟩
  | 81 => ⟨S8192x4, .f32⟩
  | 82 => ⟨S8192x4, .f32⟩
  | 83 => ⟨S8192x4, .f32⟩
  | 84 => ⟨S_, .f32⟩
  | 85 => ⟨S8192x4, .f32⟩
  | 86 => ⟨S8192x4, .f32⟩
  | 87 => ⟨S8192x4, .f32⟩
  | 88 => ⟨S_, .f32⟩
  | 89 => ⟨S8192x4, .f32⟩
  | 90 => ⟨S8192x4, .f32⟩
  | 91 => ⟨S8192x4, .f32⟩
  | 92 => ⟨S8192x4, .f32⟩
  | 93 => ⟨S8192x4, .i1⟩
  | 94 => ⟨S8192x4, .f32⟩
  | 95 => ⟨S8192x4, .f32⟩
  | 96 => ⟨S8192x4, .f32⟩
  | 97 => ⟨S8192x4, .f32⟩
  | 98 => ⟨S8192x4, .f32⟩
  | 99 => ⟨S8192x4, .f32⟩
  | 100 => ⟨S8192x4, .f32⟩
  | 101 => ⟨S8192x4, .f32⟩
  | 102 => ⟨S8192x4, .f32⟩
  | 103 => ⟨S128x64x4, .f32⟩
  | 104 => ⟨S128x4x64, .f32⟩
  | 105 => ⟨S_, .f32⟩
  | 106 => ⟨S_, .f32⟩
  | 107 => ⟨S128x4x64, .f32⟩
  | 108 => ⟨S_, .i1⟩
  | 109 => ⟨S64x64, .i1⟩
  | 110 => ⟨S64x64, .i32⟩
  | 111 => ⟨S_, .i32⟩
  | 112 => ⟨S64x64, .i32⟩
  | 113 => ⟨S64x64, .i32⟩
  | 114 => ⟨S64x64, .i32⟩
  | 115 => ⟨S64x64, .i1⟩
  | 116 => ⟨S_, .i1⟩
  | 117 => ⟨S64x64, .i1⟩
  | 118 => ⟨S64x64, .i1⟩
  | 119 => ⟨S_, .f32⟩
  | 120 => ⟨S4x256x256, .f32⟩
  | 121 => ⟨S_, .f32⟩
  | 122 => ⟨S4x256, .f32⟩
  | 123 => ⟨S_, .f32⟩
  | 124 => ⟨S4, .f32⟩
  | 125 => ⟨S_, .f32⟩
  | 126 => ⟨S128x4x64x256, .f32⟩
  | 127 => ⟨S_, .i32⟩
  | _ => ⟨S8192x4096, .f32⟩

abbrev hbmTy0_1 (i : Nat) : BufTy := match i % 128 with
  | 0 => ⟨S128x4x64x256, .f32⟩
  | 1 => ⟨S128x4x64x256, .f32⟩
  | 2 => ⟨S128x4x64x256, .f32⟩
  | 3 => ⟨S128x4x64, .f32⟩
  | 4 => ⟨S128x4x64, .f32⟩
  | 5 => ⟨S64x64, .i1⟩
  | 6 => ⟨S_, .i32⟩
  | 7 => ⟨S4x256x256, .f32⟩
  | 8 => ⟨S4x256, .f32⟩
  | 9 => ⟨S4, .f32⟩
  | 10 => ⟨S128x4x64x256, .f32⟩
  | 11 => ⟨S_, .i32⟩
  | 12 => ⟨S_, .i1⟩
  | 13 => ⟨S_, .i32⟩
  | 14 => ⟨S_, .i32⟩
  | 15 => ⟨S_, .i32⟩
  | 16 => ⟨S1x4x64x256, .f32⟩
  | 17 => ⟨S4x64x256, .f32⟩
  | 18 => ⟨S_, .i32⟩
  | 19 => ⟨S_, .i32⟩
  | 20 => ⟨S_, .i32⟩
  | 21 => ⟨S1x4x64x256, .f32⟩
  | 22 => ⟨S4x64x256, .f32⟩
  | 23 => ⟨S_, .i32⟩
  | 24 => ⟨S_, .i32⟩
  | 25 => ⟨S_, .i32⟩
  | 26 => ⟨S1x4x64x256, .f32⟩
  | 27 => ⟨S4x64x256, .f32⟩
  | 28 => ⟨S_, .i32⟩
  | 29 => ⟨S_, .i32⟩
  | 30 => ⟨S1x4x64, .f32⟩
  | 31 => ⟨S4x64, .f32⟩
  | 32 => ⟨S_, .i32⟩
  | 33 => ⟨S_, .i32⟩
  | 34 => ⟨S1x4x64, .f32⟩
  | 35 => ⟨S4x64, .f32⟩
  | 36 => ⟨S4x64x1, .f32⟩
  | 37 => ⟨S4x1x64, .f32⟩
  | 38 => ⟨S4x64x64, .f32⟩
  | 39 => ⟨S4x64x64, .f32⟩
  | 40 => ⟨S4x64x64, .f32⟩
  | 41 => ⟨S4x1x64, .f32⟩
  | 42 => ⟨S4x64x64, .f32⟩
  | 43 => ⟨S4x64x64, .f32⟩
  | 44 => ⟨S_, .f32⟩
  | 45 => ⟨S_, .f32⟩
  | 46 => ⟨S4x64x64, .i1⟩
  | 47 => ⟨S4x64x64, .f32⟩
  | 48 => ⟨S4x64x64, .f32⟩
  | 49 => ⟨S4x1, .f32⟩
  | 50 => ⟨S4x64, .f32⟩
  | 51 => ⟨S4x64, .f32⟩
  | 52 => ⟨S_, .f32⟩
  | 53 => ⟨S4x64, .f32⟩
  | 54 => ⟨S4x64, .f32⟩
  | 55 => ⟨S4x64x64, .f32⟩
  | 56 => ⟨S4x64x1, .f32⟩
  | 57 => ⟨S4x64x64, .f32⟩
  | 58 => ⟨S4x64x64, .f32⟩
  | 59 => ⟨S4x64x64, .f32⟩
  | 60 => ⟨S4x64x64, .f32⟩
  | 61 => ⟨S4x64, .f32⟩
  | 62 => ⟨S4x64, .f32⟩
  | 63 => ⟨S4x64x256, .f32⟩
  | 64 => ⟨S4x64x1, .f32⟩
  | 65 => ⟨S4x64x256, .f32⟩
  | 66 => ⟨S4x64x256, .f32⟩
  | 67 => ⟨S4x64x256, .f32⟩
  | 68 => ⟨S4x64x256, .f32⟩
  | 69 => ⟨S_, .f32⟩
  | 70 => ⟨S4x64, .f32⟩
  | 71 => ⟨S4x64, .f32⟩
  | 72 => ⟨S4x64, .f32⟩
  | 73 => ⟨S4x64, .f32⟩
  | 74 => ⟨S4x64, .f32⟩
  | 75 => ⟨S4x64, .f32⟩
  | 76 => ⟨S4x64, .f32⟩
  | 77 => ⟨S4x64, .f32⟩
  | 78 => ⟨S4x64x1, .f32⟩
  | 79 => ⟨S4x64x256, .f32⟩
  | 80 => ⟨S4x64x256, .f32⟩
  | 81 => ⟨S4x1, .f32⟩
  | 82 => ⟨S4, .f32⟩
  | 83 => ⟨S4x1, .f32⟩
  | 84 => ⟨S4x64, .f32⟩
  | 85 => ⟨S4x64, .f32⟩
  | 86 => ⟨S4x64, .f32⟩
  | 87 => ⟨S4, .f32⟩
  | 88 => ⟨S_, .f32⟩
  | 89 => ⟨S4, .f32⟩
  | 90 => ⟨S4, .f32⟩
  | 91 => ⟨S4, .f32⟩
  | 92 => ⟨S4, .f32⟩
  | 93 => ⟨S4, .f32⟩
  | 94 => ⟨S4x1, .f32⟩
  | 95 => ⟨S4x64, .f32⟩
  | 96 => ⟨S4x64, .f32⟩
  | 97 => ⟨S4x64, .f32⟩
  | 98 => ⟨S4x1x1, .f32⟩
  | 99 => ⟨S4x256x256, .f32⟩
  | 100 => ⟨S4x256x256, .f32⟩
  | 101 => ⟨S4x64x1, .f32⟩
  | 102 => ⟨S4x64x256, .f32⟩
  | 103 => ⟨S4x64x256, .f32⟩
  | 104 => ⟨S4x256x256, .f32⟩
  | 105 => ⟨S4x256x256, .f32⟩
  | 106 => ⟨S4x1, .f32⟩
  | 107 => ⟨S4x256, .f32⟩
  | 108 => ⟨S4x256, .f32⟩
  | 109 => ⟨S4x256, .f32⟩
  | 110 => ⟨S4x256, .f32⟩
  | 111 => ⟨S1x4x64x256, .f32⟩
  | 112 => ⟨S_, .i32⟩
  | 113 => ⟨S_, .i32⟩
  | 114 => ⟨S_, .i32⟩
  | 115 => ⟨S128x4x64x256, .f32⟩
  | 116 => ⟨S_, .i32⟩
  | 117 => ⟨S_, .i32⟩
  | 118 => ⟨S128x64x4x256, .f32⟩
  | 119 => ⟨S8192x4x256, .f32⟩
  | 120 => ⟨S8192x4x256, .f32⟩
  | 121 => ⟨S_, .f32⟩
  | 122 => ⟨S8192x4, .f32⟩
  | 123 => ⟨S8192x4x1, .f32⟩
  | 124 => ⟨S_, .f32⟩
  | 125 => ⟨S8192x4x1, .f32⟩
  | 126 => ⟨S8192x4x1, .f32⟩
  | 127 => ⟨S_, .f32⟩
  | _ => ⟨S8192x4096, .f32⟩

abbrev hbmTy0_2 (i : Nat) : BufTy := match i % 128 with
  | 0 => ⟨S8192x4x1, .f32⟩
  | 1 => ⟨S8192x4x1, .f32⟩
  | 2 => ⟨S8192x4x1, .f32⟩
  | 3 => ⟨S8192x4x256, .f32⟩
  | 4 => ⟨S8192x4x256, .f32⟩
  | 5 => ⟨S8192x1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .bf16⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_call2_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call3_v0 : Ref sig .tc := ⟨.hbm, 42, rfl⟩
abbrev main_call3_v1 : Ref sig .tc := ⟨.hbm, 43, rfl⟩
abbrev main_call3_cst : Ref sig .tc := ⟨.hbm, 44, rfl⟩
abbrev main_call3_v2 : Ref sig .tc := ⟨.hbm, 45, rfl⟩
abbrev main_call3_v3 : Ref sig .tc := ⟨.hbm, 46, rfl⟩
abbrev main_call3_cst_0 : Ref sig .tc := ⟨.hbm, 47, rfl⟩
abbrev main_call3_v4 : Ref sig .tc := ⟨.hbm, 48, rfl⟩
abbrev main_call3_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_3 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call5_call0_cst : Ref sig .tc := ⟨.hbm, 105, rfl⟩
abbrev main_call5_call0_v0 : Ref sig .tc := ⟨.hbm, 106, rfl⟩
abbrev main_v67 : Ref sig .tc := ⟨.hbm, 107, rfl⟩
abbrev main_c_6 : Ref sig .tc := ⟨.hbm, 108, rfl⟩
abbrev main_v68 : Ref sig .tc := ⟨.hbm, 109, rfl⟩
abbrev main_call6_v0 : Ref sig .tc := ⟨.hbm, 110, rfl⟩
abbrev main_call6_c : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_c_0 : Ref sig .tc := ⟨.hbm, 116, rfl⟩
abbrev main_call6_v5 : Ref sig .tc := ⟨.hbm, 117, rfl⟩
abbrev main_v69 : Ref sig .tc := ⟨.hbm, 118, rfl⟩
abbrev main_cst_7 : Ref sig .tc := ⟨.hbm, 119, rfl⟩
abbrev main_v70 : Ref sig .tc := ⟨.hbm, 120, rfl⟩
abbrev main_cst_8 : Ref sig .tc := ⟨.hbm, 121, rfl⟩
abbrev main_v71 : Ref sig .tc := ⟨.hbm, 122, rfl⟩
abbrev main_cst_9 : Ref sig .tc := ⟨.hbm, 123, rfl⟩
abbrev main_v72 : Ref sig .tc := ⟨.hbm, 124, rfl⟩
abbrev main_cst_10 : Ref sig .tc := ⟨.hbm, 125, rfl⟩
abbrev main_v73 : Ref sig .tc := ⟨.hbm, 126, rfl⟩
abbrev main_c_11 : Ref sig .tc := ⟨.hbm, 127, rfl⟩
abbrev main_v74_0 : Ref sig .tc := ⟨.hbm, 128, rfl⟩
abbrev main_v74_1 : Ref sig .tc := ⟨.hbm, 129, rfl⟩
abbrev main_v74_2 : Ref sig .tc := ⟨.hbm, 130, rfl⟩
abbrev main_v74_3 : Ref sig .tc := ⟨.hbm, 131, rfl⟩
abbrev main_v74_4 : Ref sig .tc := ⟨.hbm, 132, rfl⟩
abbrev main_v74_5 : Ref sig .tc := ⟨.hbm, 133, rfl⟩
abbrev main_v74_6 : Ref sig .tc := ⟨.hbm, 134, rfl⟩
abbrev main_v74_7 : Ref sig .tc := ⟨.hbm, 135, rfl⟩
abbrev main_v74_8 : Ref sig .tc := ⟨.hbm, 136, rfl⟩
abbrev main_v74_9 : Ref sig .tc := ⟨.hbm, 137, rfl⟩
abbrev main_v74_10 : Ref sig .tc := ⟨.hbm, 138, rfl⟩
abbrev main_while0c_c_27 : Ref sig .tc := ⟨.hbm, 139, rfl⟩
abbrev main_while0c_v100 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_v0 : Ref sig .tc := ⟨.hbm, 144, rfl⟩
abbrev main_while0b_v100 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_v0 : Ref sig .tc := ⟨.hbm, 149, rfl⟩
abbrev main_while0b_v101 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_call9_v0 : Ref sig .tc := ⟨.hbm, 154, rfl⟩
abbrev main_while0b_v102 : Ref sig .tc := ⟨.hbm, 155, rfl⟩
abbrev main_while0b_call10_c : Ref sig .tc := ⟨.hbm, 156, rfl⟩
abbrev main_while0b_call10_c_0 : Ref sig .tc := ⟨.hbm, 157, rfl⟩
abbrev main_while0b_call10_v0 : Ref sig .tc := ⟨.hbm, 158, rfl⟩
abbrev main_while0b_v103 : Ref sig .tc := ⟨.hbm, 159, rfl⟩
abbrev main_while0b_call11_c : Ref sig .tc := ⟨.hbm, 160, rfl⟩
abbrev main_while0b_call11_c_0 : Ref sig .tc := ⟨.hbm, 161, rfl⟩
abbrev main_while0b_call11_v0 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_cst_27 : Ref sig .tc := ⟨.hbm, 172, rfl⟩
abbrev main_while0b_call12_v0 : Ref sig .tc := ⟨.hbm, 173, rfl⟩
abbrev main_while0b_call12_v1 : Ref sig .tc := ⟨.hbm, 174, rfl⟩
abbrev main_while0b_call12_v2 : Ref sig .tc := ⟨.hbm, 175, rfl⟩
abbrev main_while0b_v113 : Ref sig .tc := ⟨.hbm, 176, rfl⟩
abbrev main_while0b_v114 : Ref sig .tc := ⟨.hbm, 177, rfl⟩
abbrev main_while0b_v115 : Ref sig .tc := ⟨.hbm, 178, rfl⟩
abbrev main_while0b_v116 : Ref sig .tc := ⟨.hbm, 179, rfl⟩
abbrev main_while0b_cst_28 : Ref sig .tc := ⟨.hbm, 180, rfl⟩
abbrev main_while0b_v117 : Ref sig .tc := ⟨.hbm, 181, rfl⟩
abbrev main_while0b_v118 : Ref sig .tc := ⟨.hbm, 182, rfl⟩
abbrev main_while0b_v119 : Ref sig .tc := ⟨.hbm, 183, rfl⟩
abbrev main_while0b_v120 : Ref sig .tc := ⟨.hbm, 184, rfl⟩
abbrev main_while0b_v121 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_v126 : Ref sig .tc := ⟨.hbm, 190, rfl⟩
abbrev main_while0b_v127 : Ref sig .tc := ⟨.hbm, 191, rfl⟩
abbrev main_while0b_v128 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_cst_29 : Ref sig .tc := ⟨.hbm, 197, rfl⟩
abbrev main_while0b_v133 : Ref sig .tc := ⟨.hbm, 198, rfl⟩
abbrev main_while0b_v134 : Ref sig .tc := ⟨.hbm, 199, rfl⟩
abbrev main_while0b_v135 : Ref sig .tc := ⟨.hbm, 200, rfl⟩
abbrev main_while0b_v136 : Ref sig .tc := ⟨.hbm, 201, rfl⟩
abbrev main_while0b_v137 : Ref sig .tc := ⟨.hbm, 202, rfl⟩
abbrev main_while0b_v138 : Ref sig .tc := ⟨.hbm, 203, rfl⟩
abbrev main_while0b_v139 : Ref sig .tc := ⟨.hbm, 204, rfl⟩
abbrev main_while0b_v140 : Ref sig .tc := ⟨.hbm, 205, rfl⟩
abbrev main_while0b_v141 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_v146 : Ref sig .tc := ⟨.hbm, 211, rfl⟩
abbrev main_while0b_v147 : Ref sig .tc := ⟨.hbm, 212, rfl⟩
abbrev main_while0b_v148 : Ref sig .tc := ⟨.hbm, 213, rfl⟩
abbrev main_while0b_v149 : Ref sig .tc := ⟨.hbm, 214, rfl⟩
abbrev main_while0b_v150 : Ref sig .tc := ⟨.hbm, 215, rfl⟩
abbrev main_while0b_cst_30 : Ref sig .tc := ⟨.hbm, 216, rfl⟩
abbrev main_while0b_v151 : Ref sig .tc := ⟨.hbm, 217, rfl⟩
abbrev main_while0b_v152 : Ref sig .tc := ⟨.hbm, 218, rfl⟩
abbrev main_while0b_v153 : Ref sig .tc := ⟨.hbm, 219, rfl⟩
abbrev main_while0b_v154 : Ref sig .tc := ⟨.hbm, 220, rfl⟩
abbrev main_while0b_v155 : Ref sig .tc := ⟨.hbm, 221, rfl⟩
abbrev main_while0b_v156 : Ref sig .tc := ⟨.hbm, 222, rfl⟩
abbrev main_while0b_v157 : Ref sig .tc := ⟨.hbm, 223, rfl⟩
abbrev main_while0b_v158 : Ref sig .tc := ⟨.hbm, 224, rfl⟩
abbrev main_while0b_v159 : Ref sig .tc := ⟨.hbm, 225, rfl⟩
abbrev main_while0b_v160 : Ref sig .tc := ⟨.hbm, 226, rfl⟩
abbrev main_while0b_v161 : Ref sig .tc := ⟨.hbm, 227, rfl⟩
abbrev main_while0b_v162 : Ref sig .tc := ⟨.hbm, 228, rfl⟩
abbrev main_while0b_v163 : Ref sig .tc := ⟨.hbm, 229, rfl⟩
abbrev main_while0b_v164 : Ref sig .tc := ⟨.hbm, 230, rfl⟩
abbrev main_while0b_v165 : Ref sig .tc := ⟨.hbm, 231, rfl⟩
abbrev main_while0b_v166 : Ref sig .tc := ⟨.hbm, 232, rfl⟩
abbrev main_while0b_v167 : Ref sig .tc := ⟨.hbm, 233, rfl⟩
abbrev main_while0b_v168 : Ref sig .tc := ⟨.hbm, 234, rfl⟩
abbrev main_while0b_v169 : Ref sig .tc := ⟨.hbm, 235, rfl⟩
abbrev main_while0b_v170 : Ref sig .tc := ⟨.hbm, 236, rfl⟩
abbrev main_while0b_v171 : Ref sig .tc := ⟨.hbm, 237, rfl⟩
abbrev main_while0b_v172 : Ref sig .tc := ⟨.hbm, 238, rfl⟩
abbrev main_while0b_call13_v0 : Ref sig .tc := ⟨.hbm, 239, rfl⟩
abbrev main_while0b_call13_c : Ref sig .tc := ⟨.hbm, 240, rfl⟩
abbrev main_while0b_call13_c_0 : Ref sig .tc := ⟨.hbm, 241, rfl⟩
abbrev main_while0b_call13_c_1 : Ref sig .tc := ⟨.hbm, 242, rfl⟩
abbrev main_while0b_v173 : Ref sig .tc := ⟨.hbm, 243, rfl⟩
abbrev main_while0b_c_31 : Ref sig .tc := ⟨.hbm, 244, rfl⟩
abbrev main_while0b_v174 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_cst_12 : Ref sig .tc := ⟨.hbm, 249, rfl⟩
abbrev main_v78 : Ref sig .tc := ⟨.hbm, 250, rfl⟩
abbrev main_v79 : Ref sig .tc := ⟨.hbm, 251, rfl⟩
abbrev main_cst_13 : Ref sig .tc := ⟨.hbm, 252, rfl⟩
abbrev main_v80 : Ref sig .tc := ⟨.hbm, 253, rfl⟩
abbrev main_v81 : Ref sig .tc := ⟨.hbm, 254, rfl⟩
abbrev main_cst_14 : Ref sig .tc := ⟨.hbm, 255, rfl⟩
abbrev main_v82 : Ref sig .tc := ⟨.hbm, 256, rfl⟩
abbrev main_v83 : Ref sig .tc := ⟨.hbm, 257, rfl⟩
abbrev main_v84 : Ref sig .tc := ⟨.hbm, 258, rfl⟩
abbrev main_v85 : Ref sig .tc := ⟨.hbm, 259, rfl⟩
abbrev main_v86 : Ref sig .tc := ⟨.hbm, 260, rfl⟩
abbrev main_v87 : Ref sig .tc := ⟨.hbm, 261, rfl⟩
abbrev main_v88 : Ref sig .tc := ⟨.hbm, 262, rfl⟩
abbrev main_v89 : Ref sig .tc := ⟨.hbm, 263, rfl⟩
abbrev main_v90 : Ref sig .tc := ⟨.hbm, 264, rfl⟩
abbrev main_v91 : Ref sig .tc := ⟨.hbm, 265, rfl⟩
abbrev main_v92 : Ref sig .tc := ⟨.hbm, 266, rfl⟩
abbrev main_v93 : Ref sig .tc := ⟨.hbm, 267, rfl⟩
abbrev main_cst_15 : Ref sig .tc := ⟨.hbm, 268, rfl⟩
abbrev main_v94 : Ref sig .tc := ⟨.hbm, 269, rfl⟩
abbrev main_v95 : Ref sig .tc := ⟨.hbm, 270, rfl⟩
abbrev main_cst_16 : Ref sig .tc := ⟨.hbm, 271, rfl⟩
abbrev main_v96 : Ref sig .tc := ⟨.hbm, 272, rfl⟩
abbrev main_v97 : Ref sig .tc := ⟨.hbm, 273, rfl⟩
abbrev main_v98 : Ref sig .tc := ⟨.hbm, 274, rfl⟩
abbrev main_v99 : Ref sig .tc := ⟨.hbm, 275, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S2x2048x5632 : Shape := ⟨3, ![2, 2048, 5632]⟩
abbrev S8192x5632 : Shape := ⟨2, ![8192, 5632]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2x2048x12744 : Shape := ⟨3, ![2, 2048, 12744]⟩
abbrev S2x12744x2048 : Shape := ⟨3, ![2, 12744, 2048]⟩
abbrev S8192x6144 : Shape := ⟨2, ![8192, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x12744, .f32⟩
  | .hbm, ⟨2, _⟩ => ⟨S2x12744x2048, .f32⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c6600_i32 : BitVec 32 := 6600#32
  let c1024_i32 : BitVec 32 := 1024#32
  let arg0 : BitVec 32 := BitVec.ofNat 32 (i 0).val
  let v0 : BitVec 32 := Scalar.muli c1024_i32 arg0
  let v1 : BitVec 32 := Scalar.addi c6600_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c6600_i32 : BitVec 32 := 6600#32
  let v1 : BitVec 32 := Scalar.addi c6600_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x12744 : Shape := ⟨3, ![2, 2048, 12744]⟩
abbrev S1x2048x12744 : Shape := ⟨3, ![1, 2048, 12744]⟩
abbrev S2048x12744 : Shape := ⟨2, ![2048, 12744]⟩
abbrev S8192x12744 : Shape := ⟨2, ![8192, 12744]⟩
abbrev S8192x6144 : Shape := ⟨2, ![8192, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x12744, .f32⟩
  | .hbm, ⟨2, _⟩ => ⟨S8192x2048, .f32⟩
  | .hbm, ⟨3, _⟩ => ⟨S1x2048x12744, .f32⟩
  | .hbm, ⟨4, _⟩ => ⟨S2048x12744, .f32⟩
  | .hbm, ⟨5, _⟩ => ⟨S8192x12744, .f32⟩
  | .hbm, ⟨6, _⟩ => ⟨S8192x6144, .f32⟩
  | .hbm, ⟨7, _⟩ => ⟨S8192x6144, .f32⟩
  | .hbm, ⟨8, _⟩ => ⟨S8192x6144, .f32⟩
  | .hbm, ⟨9, _⟩ => ⟨S_, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S8192x2048 : Shape := ⟨2, ![8192, 2048]⟩
abbrev S2x2048x12744 : Shape := ⟨3, ![2, 2048, 12744]⟩
abbrev S2x12744x2048 : Shape := ⟨3, ![2, 12744, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x12744, .f32⟩
  | .hbm, ⟨2, _⟩ => ⟨S2x12744x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c0_i32 : BitVec 32 := 0#32
  let c1024_i32 : BitVec 32 := 1024#32
  let arg0 : BitVec 32 := BitVec.ofNat 32 (i 0).val
  let v0 : BitVec 32 := Scalar.muli c1024_i32 arg0
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli c1024_i32 arg0
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2x2048x12744 : Shape := ⟨3, ![2, 2048, 12744]⟩
abbrev S1x2048x12744 : Shape := ⟨3, ![1, 2048, 12744]⟩
abbrev S2048x12744 : Shape := ⟨2, ![2048, 12744]⟩
abbrev S8192x12744 : Shape := ⟨2, ![8192, 12744]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x12744, .f32⟩
  | .hbm, ⟨2, _⟩ => ⟨S8192x2048, .f32⟩
  | .hbm, ⟨3, _⟩ => ⟨S1x2048x12744, .f32⟩
  | .hbm, ⟨4, _⟩ => ⟨S2048x12744, .f32⟩
  | .hbm, ⟨5, _⟩ => ⟨S8192x12744, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S8192x6144 : Shape := ⟨2, ![8192, 6144]⟩
abbrev S2x1024x2048 : Shape := ⟨3, ![2, 1024, 2048]⟩
abbrev S2x512x2048 : Shape := ⟨3, ![2, 512, 2048]⟩
abbrev S8192x2048 : Shape := ⟨2, ![8192, 2048]⟩
abbrev S1024x1024 : Shape := ⟨2, ![1024, 1024]⟩
abbrev S1024x512 : Shape := ⟨2, ![1024, 512]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 8
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S2x1024x2048, .f32⟩
  | .hbm, ⟨5, _⟩ => ⟨S2x512x2048, .f32⟩
  | .hbm, ⟨6, _⟩ => ⟨S2x512x2048, .f32⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .bf16⟩
  | .local _ .vmem, ⟨22, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x1024 : Shape := ⟨2, ![8192, 1024]⟩
abbrev S8192x512 : Shape := ⟨2, ![8192, 512]⟩
abbrev S8192x6144 : Shape := ⟨2, ![8192, 6144]⟩
abbrev S2x1024x2048 : Shape := ⟨3, ![2, 1024, 2048]⟩
abbrev S2x512x2048 : Shape := ⟨3, ![2, 512, 2048]⟩
abbrev S8192x2048 : Shape := ⟨2, ![8192, 2048]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x6144, .bf16⟩
  | .hbm, ⟨4, _⟩ => ⟨S2x1024x2048, .f32⟩
  | .hbm, ⟨5, _⟩ => ⟨S2x512x2048, .f32⟩
  | .hbm, ⟨6, _⟩ => ⟨S2x512x2048, .f32⟩
  | .hbm, ⟨7, _⟩ => ⟨S8192x6144, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x1024, .f32⟩
  | .hbm, ⟨12, _⟩ => ⟨S1x1024x2048, .f32⟩
  | .hbm, ⟨13, _⟩ => ⟨S1024x2048, .f32⟩
  | .hbm, ⟨14, _⟩ => ⟨S8192x2048, .f32⟩
  | .hbm, ⟨15, _⟩ => ⟨S8192x2048, .f32⟩
  | .hbm, ⟨16, _⟩ => ⟨S8192x512, .f32⟩
  | .hbm, ⟨17, _⟩ => ⟨S1x512x2048, .f32⟩
  | .hbm, ⟨18, _⟩ => ⟨S512x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x512, .f32⟩
  | .hbm, ⟨23, _⟩ => ⟨S1x512x2048, .f32⟩
  | .hbm, ⟨24, _⟩ => ⟨S512x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S8192x2048 : Shape := ⟨2, ![8192, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S2x2048x2048, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S8192x2048 : Shape := ⟨2, ![8192, 2048]⟩
abbrev S2x1x8192x256 : Shape := ⟨4, ![2, 1, 8192, 256]⟩
abbrev S2x2048x2048 : Shape := ⟨3, ![2, 2048, 2048]⟩
abbrev S2x256x2048 : Shape := ⟨3, ![2, 256, 2048]⟩
abbrev S2x2048 : Shape := ⟨2, ![2, 2048]⟩
abbrev S2048 : Shape := ⟨1, ![2048]⟩
abbrev S1x2048 : Shape := ⟨2, ![1, 2048]⟩
abbrev S512x2048 : Shape := ⟨2, ![512, 2048]⟩
abbrev S1x1x512x256 : Shape := ⟨4, ![1, 1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S1x1x256x256 : Shape := ⟨4, ![1, 1, 256, 256]⟩
abbrev S256x256 : Shape := ⟨2, ![256, 256]⟩

abbrev nBuf : Space → Nat
  | .hbm => 15
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x1x8192x256, .f32⟩
  | .hbm, ⟨2, _⟩ => ⟨S2x2048x2048, .f32⟩
  | .hbm, ⟨3, _⟩ => ⟨S2x256x2048, .f32⟩
  | .hbm, ⟨4, _⟩ => ⟨S2x2048, .f32⟩
  | .hbm, ⟨5, _⟩ => ⟨S2048, .f32⟩
  | .hbm, ⟨6, _⟩ => ⟨S2x2048x2048, .bf16⟩
  | .hbm, ⟨7, _⟩ => ⟨S2x256x2048, .bf16⟩
  | .hbm, ⟨8, _⟩ => ⟨S2x1x8192x256, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x512x256, .bf16⟩
  | .local _ .vmem, ⟨3, _⟩ => ⟨S1x1x512x256, .bf16⟩
  | .local _ .vmem, ⟨4, _⟩ => ⟨S1x2048x2048, .bf16⟩
  | .local _ .vmem, ⟨5, _⟩ => ⟨S1x256x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x2048 : Shape := ⟨2, ![8192, 2048]⟩
abbrev S2x1x8192x256 : Shape := ⟨4, ![2, 1, 8192, 256]⟩
abbrev S2x2048x2048 : Shape := ⟨3, ![2, 2048, 2048]⟩
abbrev S2x256x2048 : Shape := ⟨3, ![2, 256, 2048]⟩
abbrev S2x2048 : Shape := ⟨2, ![2, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x8192x256, .f32⟩
  | .hbm, ⟨2, _⟩ => ⟨S2x2048x2048, .f32⟩
  | .hbm, ⟨3, _⟩ => ⟨S2x256x2048, .f32⟩
  | .hbm, ⟨4, _⟩ => ⟨S2x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x1x8192x256, .f32⟩
  | .hbm, ⟨25, _⟩ => ⟨S8192x256, .f32⟩
  | .hbm, ⟨26, _⟩ => ⟨S1x256x2048, .f32⟩
  | .hbm, ⟨27, _⟩ => ⟨S256x2048, .f32⟩
  | .hbm, ⟨28, _⟩ => ⟨S8192x2048, .f32⟩
  | .hbm, ⟨29, _⟩ => ⟨S1x2048x2048, .f32⟩
  | .hbm, ⟨30, _⟩ => ⟨S2048x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1984 : Shape := ⟨1, ![1984]⟩
abbrev S512 : Shape := ⟨1, ![512]⟩
abbrev S96x512 : Shape := ⟨2, ![96, 512]⟩
abbrev S256x512 : Shape := ⟨2, ![256, 512]⟩
abbrev S1536 : Shape := ⟨1, ![1536]⟩
abbrev S96 : Shape := ⟨1, ![96]⟩
abbrev S_ : Shape := ⟨0, ![]⟩
abbrev S128 : Shape := ⟨1, ![128]⟩
abbrev S256 : Shape := ⟨1, ![256]⟩
abbrev S2048 : Shape := ⟨1, ![2048]⟩
abbrev S1x2048 : Shape := ⟨2, ![1, 2048]⟩
abbrev S1x512 : Shape := ⟨2, ![1, 512]⟩
abbrev S128x512 : Shape := ⟨2, ![128, 512]⟩
abbrev S8192x512 : Shape := ⟨2, ![8192, 512]⟩
abbrev S512x2048 : Shape := ⟨2, ![512, 2048]⟩
abbrev S512x512 : Shape := ⟨2, ![512, 512]⟩
abbrev S264x2048 : Shape := ⟨2, ![264, 2048]⟩
abbrev S8x2048 : Shape := ⟨2, ![8, 2048]⟩
abbrev S256x2048 : Shape := ⟨2, ![256, 2048]⟩
abbrev S256x128 : Shape := ⟨2, ![256, 128]⟩
abbrev S256x256 : Shape := ⟨2, ![256, 256]⟩

abbrev nBuf : Space → Nat
  | .hbm => 45
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1984, .f32⟩
  | .hbm, ⟨3, _⟩ => ⟨S512, .f32⟩
  | .hbm, ⟨4, _⟩ => ⟨S96x512, .f32⟩
  | .hbm, ⟨5, _⟩ => ⟨S512, .f32⟩
  | .hbm, ⟨6, _⟩ => ⟨S96x512, .f32⟩
  | .hbm, ⟨7, _⟩ => ⟨S256x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1536, .f32⟩
  | .hbm, ⟨12, _⟩ => ⟨S96, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S96, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S256, .f32⟩
  | .hbm, ⟨21, _⟩ => ⟨S2048, .f32⟩
  | .hbm, ⟨22, _⟩ => ⟨S1x2048, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .i32⟩
  | .hbm, ⟨29, _⟩ => ⟨S_, .f32⟩
  | .hbm, ⟨30, _⟩ => ⟨S128x512, .f32⟩
  | .hbm, ⟨31, _⟩ => ⟨S128x512, .bf16⟩
  | .hbm, ⟨32, _⟩ => ⟨S_, .i32⟩
  | .hbm, ⟨33, _⟩ => ⟨S_, .f32⟩
  | .hbm, ⟨34, _⟩ => ⟨S128x512, .f32⟩
  | .hbm, ⟨35, _⟩ => ⟨S128x512, .bf16⟩
  | .hbm, ⟨36, _⟩ => ⟨S256x512, .bf16⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | .local _ .vmem, ⟨11, _⟩ => ⟨S256x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S264x2048, .f32⟩
  | .local _ .vmem, ⟨29, _⟩ => ⟨S264x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call2_v0 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_call3_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_v18_6 : Ref sig .tc := ⟨.hbm, 43, rfl⟩
abbrev main_v18_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference9Ideal.lean ====
abbrev S8192x2048 : Shape := ⟨2, ![8192, 2048]⟩
abbrev S2048x2048 : Shape := ⟨2, ![2048, 2048]⟩
abbrev S1984 : Shape := ⟨1, ![1984]⟩
abbrev S512 : Shape := ⟨1, ![512]⟩
abbrev S96x512 : Shape := ⟨2, ![96, 512]⟩
abbrev S256x512 : Shape := ⟨2, ![256, 512]⟩
abbrev S1632x2048 : Shape := ⟨2, ![1632, 2048]⟩
abbrev S96x2048 : Shape := ⟨2, ![96, 2048]⟩
abbrev S256x2048 : Shape := ⟨2, ![256, 2048]⟩
abbrev S1984x2048 : Shape := ⟨2, ![1984, 2048]⟩
abbrev S2048x1984 : Shape := ⟨2, ![2048, 1984]⟩
abbrev S8192x1984 : Shape := ⟨2, ![8192, 1984]⟩
abbrev S_ : Shape := ⟨0, ![]⟩
abbrev S8193x1984 : Shape := ⟨2, ![8193, 1984]⟩
abbrev S1x1984 : Shape := ⟨2, ![1, 1984]⟩
abbrev S8192x512 : Shape := ⟨2, ![8192, 512]⟩
abbrev S8192x96 : Shape := ⟨2, ![8192, 96]⟩
abbrev S8192x256 : Shape := ⟨2, ![8192, 256]⟩
abbrev S1x512 : Shape := ⟨2, ![1, 512]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 119
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1984, .f32⟩
  | .hbm, ⟨3, _⟩ => ⟨S512, .f32⟩
  | .hbm, ⟨4, _⟩ => ⟨S96x512, .f32⟩
  | .hbm, ⟨5, _⟩ => ⟨S512, .f32⟩
  | .hbm, ⟨6, _⟩ => ⟨S96x512, .f32⟩
  | .hbm, ⟨7, _⟩ => ⟨S256x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S2048x2048, .f32⟩
  | .hbm, ⟨12, _⟩ => ⟨S1632x2048, .f32⟩
  | .hbm, ⟨13, _⟩ => ⟨S96x2048, .f32⟩
  | .hbm, ⟨14, _⟩ => ⟨S256x2048, .f32⟩
  | .hbm, ⟨15, _⟩ => ⟨S1984x2048, .f32⟩
  | .hbm, ⟨16, _⟩ => ⟨S8192x2048, .f32⟩
  | .hbm, ⟨17, _⟩ => ⟨S2048x1984, .f32⟩
  | .hbm, ⟨18, _⟩ => ⟨S8192x1984, .f32⟩
  | .hbm, ⟨19, _⟩ => ⟨S_, .i32⟩
  | .hbm, ⟨20, _⟩ => ⟨S_, .f32⟩
  | .hbm, ⟨21, _⟩ => ⟨S8193x1984, .f32⟩
  | .hbm, ⟨22, _⟩ => ⟨S8192x1984, .f32⟩
  | .hbm, ⟨23, _⟩ => ⟨S8192x1984, .f32⟩
  | .hbm, ⟨24, _⟩ => ⟨S1x1984, .f32⟩
  | .hbm, ⟨25, _⟩ => ⟨S8192x1984, .f32⟩
  | .hbm, ⟨26, _⟩ => ⟨S8192x1984, .f32⟩
  | .hbm, ⟨27, _⟩ => ⟨S8192x1984, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x96, .f32⟩
  | .hbm, ⟨32, _⟩ => ⟨S8192x96, .f32⟩
  | .hbm, ⟨33, _⟩ => ⟨S8192x256, .f32⟩
  | .hbm, ⟨34, _⟩ => ⟨S8192x96, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .i1⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S1x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x256, .f32⟩
  | .hbm, ⟨71, _⟩ => ⟨S8192x256, .f32⟩
  | .hbm, ⟨72, _⟩ => ⟨S_, .f32⟩
  | .hbm, ⟨73, _⟩ => ⟨S8192x256, .f32⟩
  | .hbm, ⟨74, _⟩ => ⟨S8192x256, .f32⟩
  | .hbm, ⟨75, _⟩ => ⟨S_, .f32⟩
  | .hbm, ⟨76, _⟩ => ⟨S8192x256, .f32⟩
  | .hbm, ⟨77, _⟩ => ⟨S8192x256, .f32⟩
  | .hbm, ⟨78, _⟩ => ⟨S8192x512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S8192x8x64, .f32⟩
  | .hbm, ⟨83, _⟩ => ⟨S8192x8x64, .f32⟩
  | .hbm, ⟨84, _⟩ => ⟨S_, .f32⟩
  | .hbm, ⟨85, _⟩ => ⟨S8192x8, .f32⟩
  | .hbm, ⟨86, _⟩ => ⟨S8192x8x1, .f32⟩
  | .hbm, ⟨87, _⟩ => ⟨S8192x8x1, .f32⟩
  | .hbm, ⟨88, _⟩ => ⟨S_, .f32⟩
  | .hbm, ⟨89, _⟩ => ⟨S8192x8x1, .f32⟩
  | .hbm, ⟨90, _⟩ => ⟨S8192x8x1, .f32⟩
  | .hbm, ⟨91, _⟩ => ⟨S8192x8x64, .f32⟩
  | .hbm, ⟨92, _⟩ => ⟨S8192x8x64, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S1x512, .f32⟩
  | .hbm, ⟨98, _⟩ => ⟨S8192x512, .f32⟩
  | .hbm, ⟨99, _⟩ => ⟨S8192x512, .f32⟩
  | .hbm, ⟨100, _⟩ => ⟨S_, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S1x512, .f32⟩
  | .hbm, ⟨106, _⟩ => ⟨S8192x512, .f32⟩
  | .hbm, ⟨107, _⟩ => ⟨S8192x512, .f32⟩
  | .hbm, ⟨108, _⟩ => ⟨S8192x8x64, .f32⟩
  | .hbm, ⟨109, _⟩ => ⟨S_, .f32⟩
  | .hbm, ⟨110, _⟩ => ⟨S8192x8, .f32⟩
  | .hbm, ⟨111, _⟩ => ⟨S8192x8x1, .f32⟩
  | .hbm, ⟨112, _⟩ => ⟨S8192x8x64, .f32⟩
  | .hbm, ⟨113, _⟩ => ⟨S8192x8x64, .f32⟩
  | .hbm, ⟨114, _⟩ => ⟨S8192x8x64, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_0 : Ref sig .tc := ⟨.hbm, 64, rfl⟩
abbrev main_v37 : Ref sig .tc := ⟨.hbm, 65, rfl⟩
abbrev main_v38 : Ref sig .tc := ⟨.hbm, 66, rfl⟩
abbrev main_cst_1 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_4 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_7 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_8 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Proof.Trips.lean ====
/- The reference's run, stated over the step of Gen/ReferenceIdeal/Step.lean. A valuation holds a state when the carried
   buffers the body writes hold its fields, the set-up values the loop's constants, and the counters the trip's number;
   every value of one trip is then the step's, one lemma each, and the results are the step iterated from `init`. After the
   generated module of the same statement, with the row the scan writes closed by its own read. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v74_7) = s.main_v74_7
  f_8 : V0 (Proc.devRef .tc main_v74_8) = s.main_v74_8
  f_9 : V0 (Proc.devRef .tc main_v74_9) = s.main_v74_9
  f_10 : V0 (Proc.devRef .tc main_v74_10) = s.main_v74_10
  f_0 : V0 (Proc.devRef .tc main_v74_0) = s.main_v74_0
  f_1 : V0 (Proc.devRef .tc main_v74_1) = s.main_v74_1
  f_2 : V0 (Proc.devRef .tc main_v74_2) = s.main_v74_2
  f_3 : V0 (Proc.devRef .tc main_v74_3) = s.main_v74_3
  f_4 : V0 (Proc.devRef .tc main_v74_4) = s.main_v74_4
  n_6 : V0 (Proc.devRef .tc main_v74_6) = constantI S_ 32 (BitVec.ofNat 32 j)
  k_5 : V0 (Proc.devRef .tc main_v74_5) = Cert.ReferenceIdeal.Step.K_main_v69 (F := F)

variable {V0 s j}

set_option maxRecDepth 8192 in
theorem al_0 (h : Holds V0 s j) : (constantI S_ 32 0#32 : (Proc.devRef .tc main_while0b_call7_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call7_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call7_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x64x256 (V0 (Proc.devRef .tc main_v74_0)) (fun k => (((![V0 (Proc.devRef .tc main_v74_6), constantI S_ 32 0#32, constantI S_ 32 0#32, constantI S_ 32 0#32] : Fin 4 → (⟨S_, .i32⟩ : BufTy).Contents (Elt F))) k (Shape.Idx.first h_S_)).toInt) sliceFits_S128x4x64x256_S1x4x64x256 : (Proc.devRef .tc main_while0b_call7_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (res_main_while0b_v100 V0 : (Proc.devRef .tc main_while0b_v100 : DevRef τ sig).ty.Contents (Elt F)) = Cert.ReferenceIdeal.Step.b4 j s := by
  unfold res_main_while0b_v100 Cert.ReferenceIdeal.Step.b4
  rw [← al_3 h]
  try rfl
set_option maxRecDepth 8192 in
theorem al_5 (h : Holds V0 s j) : (constantI S_ 32 0#32 : (Proc.devRef .tc main_while0b_call8_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call8_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call8_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x64x256 (V0 (Proc.devRef .tc main_v74_1)) (fun k => (((![V0 (Proc.devRef .tc main_v74_6), constantI S_ 32 0#32, constantI S_ 32 0#32, constantI S_ 32 0#32] : Fin 4 → (⟨S_, .i32⟩ : BufTy).Contents (Elt F))) k (Shape.Idx.first h_S_)).toInt) sliceFits_S128x4x64x256_S1x4x64x256 : (Proc.devRef .tc main_while0b_call8_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (res_main_while0b_v101 V0 : (Proc.devRef .tc main_while0b_v101 : DevRef τ sig).ty.Contents (Elt F)) = Cert.ReferenceIdeal.Step.b9 j s := by
  unfold res_main_while0b_v101 Cert.ReferenceIdeal.Step.b9
  rw [← al_8 h]
  try rfl
set_option maxRecDepth 8192 in
theorem al_10 (h : Holds V0 s j) : (constantI S_ 32 0#32 : (Proc.devRef .tc main_while0b_call9_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call9_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call9_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x64x256 (V0 (Proc.devRef .tc main_v74_2)) (fun k => (((![V0 (Proc.devRef .tc main_v74_6), constantI S_ 32 0#32, constantI S_ 32 0#32, constantI S_ 32 0#32] : Fin 4 → (⟨S_, .i32⟩ : BufTy).Contents (Elt F))) k (Shape.Idx.first h_S_)).toInt) sliceFits_S128x4x64x256_S1x4x64x256 : (Proc.devRef .tc main_while0b_call9_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (res_main_while0b_v102 V0 : (Proc.devRef .tc main_while0b_v102 : DevRef τ sig).ty.Contents (Elt F)) = Cert.ReferenceIdeal.Step.b14 j s := by
  unfold res_main_while0b_v102 Cert.ReferenceIdeal.Step.b14
  rw [← al_13 h]
  try rfl
set_option maxRecDepth 8192 in
theorem al_15 (h : Holds V0 s j) : (constantI S_ 32 0#32 : (Proc.devRef .tc main_while0b_call10_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call10_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64 (V0 (Proc.devRef .tc main_v74_3)) (fun k => (((![V0 (Proc.devRef .tc main_v74_6), constantI S_ 32 0#32, constantI S_ 32 0#32] : Fin 3 → (⟨S_, .i32⟩ : BufTy).Contents (Elt F))) k (Shape.Idx.first h_S_)).toInt) sliceFits_S128x4x64_S1x4x64 : (Proc.devRef .tc main_while0b_call10_v0 : DevRef τ sig).ty.Contents (Elt F)) = Cert.ReferenceIdeal.Step.b17 j s := by
  unfold Cert.ReferenceIdeal.Step.b17
  rw [← al_15 h, ← al_16 h, h.f_3, h.n_6]
  try rfl
set_option maxRecDepth 8192 in
theorem al_18 (h : Holds V0 s j) : (res_main_while0b_v103 V0 : (Proc.devRef .tc main_while0b_v103 : DevRef τ sig).ty.Contents (Elt F)) = Cert.ReferenceIdeal.Step.b18 j s := by
  unfold res_main_while0b_v103 Cert.ReferenceIdeal.Step.b18
  rw [← al_17 h]
  try rfl
set_option maxRecDepth 8192 in
theorem al_19 (h : Holds V0 s j) : (constantI S_ 32 0#32 : (Proc.devRef .tc main_while0b_call11_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call11_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x64 (V0 (Proc.devRef .tc main_v74_4)) (fun k => (((![V0 (Proc.devRef .tc main_v74_6), constantI S_ 32 0#32, constantI S_ 32 0#32] : Fin 3 → (⟨S_, .i32⟩ : BufTy).Contents (Elt F))) k (Shape.Idx.first h_S_)).toInt) sliceFits_S128x4x64_S1x4x64 : (Proc.devRef .tc main_while0b_call11_v0 : DevRef τ sig).ty.Contents (Elt F)) = Cert.ReferenceIdeal.Step.b21 j s := by
  unfold Cert.ReferenceIdeal.Step.b21
  rw [← al_19 h, ← al_20 h, h.f_4, h.n_6]
  try rfl
set_option maxRecDepth 8192 in
theorem al_22 (h : Holds V0 s j) : (res_main_while0b_v104 V0 : (Proc.devRef .tc main_while0b_v104 : DevRef τ sig).ty.Contents (Elt F)) = Cert.ReferenceIdeal.Step.b22 j s := by
  unfold res_main_while0b_v104 Cert.ReferenceIdeal.Step.b22
  rw [← al_21 h]
  try rfl
set_option maxRecDepth 8192 in
theorem al_23 (h : Holds V0 s j) : (broadcastInDim S4x64x1 ![0, 1] bcast_S4x64_S4x64x1_0_1 (res_main_while0b_v104 V0) : (Proc.devRef .tc main_while0b_v105 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (broadcastInDim S4x1x64 ![0, 2] bcast_S4x64_S4x1x64_0_2 (res_main_while0b_v104 V0) : (Proc.devRef .tc main_while0b_v106 : DevRef τ sig).ty.Contents (Elt F)) = Cert.ReferenceIdeal.Step.b24 j s := by
  unfold Cert.ReferenceIdeal.Step.b24
  rw [← al_22 h]
  try rfl
set_option maxRecDepth 8192 in
theorem al_25 (h : Holds V0 s j) : (broadcastInDim S4x64x64 ![0, 1, 2] bcast_S4x64x1_S4x64x64_0_1_2 (broadcastInDim S4x64x1 ![0, 1] bcast_S4x64_S4x64x1_0_1 (res_main_while0b_v104 V0)) : (Proc.devRef .tc main_while0b_v107 : DevRef τ sig).ty.Contents (Elt F)) = Cert.ReferenceIdeal.Step.b25 j s := by
  unfold Cert.ReferenceIdeal.Step.b25
  rw [← al_23 h]
  try rfl
set_option maxRecDepth 8192 in
theorem al_26 (h : Holds V0 s j) : (broadcastInDim S4x64x64 ![0, 1, 2] bcast_S4x1x64_S4x64x64_0_1_2 (broadcastInDim S4x1x64 ![0, 2] bcast_S4x64_S4x1x64_0_2 (res_main_while0b_v104 V0)) : (Proc.devRef .tc main_while0b_v108 : DevRef τ sig).ty.Contents (Elt F)) = Cert.ReferenceIdeal.Step.b26 j s := by
  unfold Cert.ReferenceIdeal.Step.b26
  rw [← al_24 h]
  try rfl
set_option maxRecDepth 8192 in
theorem al_27 (h : Holds V0 s j) : (subf (broadcastInDim S4x64x64 ![0, 1, 2] bcast_S4x64x1_S4x64x64_0_1_2 (broadcastInDim S4x64x1 ![0, 1] bcast_S4x64_S4x64x1_0_1 (res_main_while0b_v104 V0))) (broadcastInDim S4x64x64 ![0, 1, 2] bcast_S4x1x64_S4x64x64_0_1_2 (broadcastInDim S4x1x64 ![0, 2] bcast_S4x64_S4x1x64_0_2 (res_main_while0b_v104 V0))) : (Proc.devRef .tc main_while0b_v109 : DevRef τ sig).ty.Contents (Elt F)) = Cert.ReferenceIdeal.Step.b27 j s := by
  unfold Cert.ReferenceIdeal.Step.b27
  rw [← al_25 h, ← al_26 h]
  try rfl
set_option maxRecDepth 8192 in
theorem al_28 (h : Holds V0 s j) : (broadcastInDim S4x1x64 ![0, 2] bcast_S4x64_S4x1x64_0_2 (res_main_while0b_v103 V0) : (Proc.devRef .tc main_while0b_v110 : DevRef τ sig).ty.Contents (Elt F)) = Cert.ReferenceIdeal.Step.b28 j s := by
  unfold Cert.ReferenceIdeal.Step.b28
  rw [← al_18 h]
  try rfl
set_option maxRecDepth 8192 in
theorem al_29 (h : Holds V0 s j) : (broadcastInDim S4x64x64 ![0, 1, 2] bcast_S4x1x64_S4x64x64_0_1_2 (broadcastInDim S4x1x64 ![0, 2] bcast_S4x64_S4x1x64_0_2 (res_main_while0b_v103 V0)) : (Proc.devRef .tc main_while0b_v111 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (addf (subf (broadcastInDim S4x64x64 ![0, 1, 2] bcast_S4x64x1_S4x64x64_0_1_2 (broadcastInDim S4x64x1 ![0, 1] bcast_S4x64_S4x64x1_0_1 (res_main_while0b_v104 V0))) (broadcastInDim S4x64x64 ![0, 1, 2] bcast_S4x1x64_S4x64x64_0_1_2 (broadcastInDim S4x1x64 ![0, 2] bcast_S4x64_S4x1x64_0_2 (res_main_while0b_v104 V0)))) (broadcastInDim S4x64x64 ![0, 1, 2] bcast_S4x1x64_S4x64x64_0_1_2 (broadcastInDim S4x1x64 ![0, 2] bcast_S4x64_S4x1x64_0_2 (res_main_while0b_v103 V0))) : (Proc.devRef .tc main_while0b_v112 : DevRef τ sig).ty.Contents (Elt F)) = Cert.ReferenceIdeal.Step.b30 j s := by
  unfold Cert.ReferenceIdeal.Step.b30
  rw [← al_27 h, ← al_29 h]
  try rfl
set_option maxRecDepth 8192 in
theorem al_31 (h : Holds V0 s j) : (constant S_ .f32 0xFF800000#32 : (Proc.devRef .tc main_while0b_cst_27 : DevRef τ sig).ty.Contents (Elt F)) = Cert.ReferenceIdeal.Step.b31 j s := by
  unfold Cert.ReferenceIdeal.Step.b31
  rfl
set_option maxRecDepth 8192 in
theorem al_32 (h : Holds V0 s j) : (id (constant S_ .f32 0xFF800000#32) : (Proc.devRef .tc main_while0b_call12_v0 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (broadcastInDim S4x64x64 ![1, 2] bcast_S64x64_S4x64x64_1_2 (V0 (Proc.devRef .tc main_v74_5)) : (Proc.devRef .tc main_while0b_call12_v1 : DevRef τ sig).ty.Contents (Elt F)) = Cert.ReferenceIdeal.Step.b33 j s := by
  unfold Cert.ReferenceIdeal.Step.b33
  rw [h.k_5]
  try rfl
set_option maxRecDepth 8192 in
theorem al_34 (h : Holds V0 s j) : (broadcastInDim S4x64x64 ![] bcast_S_S4x64x64 (id (constant S_ .f32 0xFF800000#32)) : (Proc.devRef .tc main_while0b_call12_v2 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (res_main_while0b_v113 V0 : (Proc.devRef .tc main_while0b_v113 : DevRef τ sig).ty.Contents (Elt F)) = Cert.ReferenceIdeal.Step.b35 j s := by
  unfold res_main_while0b_v113 Cert.ReferenceIdeal.Step.b35
  rw [← al_33 h, ← al_30 h, ← al_34 h]
  try rfl
set_option maxRecDepth 8192 in
theorem al_36 (h : Holds V0 s j) : (broadcastInDim S4x1 ![0] bcast_S4_S4x1_0 (V0 (Proc.devRef .tc main_v74_9)) : (Proc.devRef .tc main_while0b_v114 : DevRef τ sig).ty.Contents (Elt F)) = Cert.ReferenceIdeal.Step.b36 j s := by
  unfold Cert.ReferenceIdeal.Step.b36
  rw [h.f_9]
  try rfl
set_option maxRecDepth 8192 in
theorem al_37 (h : Holds V0 s j) : (broadcastInDim S4x64 ![0, 1] bcast_S4x1_S4x64_0_1 (broadcastInDim S4x1 ![0] bcast_S4_S4x1_0 (V0 (Proc.devRef .tc main_v74_9))) : (Proc.devRef .tc main_while0b_v115 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (res_main_while0b_v116 V0 : (Proc.devRef .tc main_while0b_v116 : DevRef τ sig).ty.Contents (Elt F)) = Cert.ReferenceIdeal.Step.b38 j s := by
  unfold res_main_while0b_v116 Cert.ReferenceIdeal.Step.b38
  rw [← al_22 h, ← al_37 h]
  try rfl
set_option maxRecDepth 8192 in
theorem al_39 (h : Holds V0 s j) : (constant S_ .f32 0xFF800000#32 : (Proc.devRef .tc main_while0b_cst_28 : DevRef τ sig).ty.Contents (Elt F)) = Cert.ReferenceIdeal.Step.b39 j s := by
  unfold Cert.ReferenceIdeal.Step.b39
  rfl
set_option maxRecDepth 8192 in
theorem al_40 (h : Holds V0 s j) : (Host.reduce FloatOps.maximumf (res_main_while0b_v113 V0) (constant S_ .f32 0xFF800000#32) reducesTo_S4x64x64_S4x64_d2 h_S_ : (Proc.devRef .tc main_while0b_v117 : DevRef τ sig).ty.Contents (Elt F)) = Cert.ReferenceIdeal.Step.b40 j s := by
  unfold Cert.ReferenceIdeal.Step.b40
  rw [← al_35 h, ← al_39 h]
  try rfl
set_option maxRecDepth 8192 in
theorem al_41 (h : Holds V0 s j) : (res_main_while0b_v118 V0 : (Proc.devRef .tc main_while0b_v118 : DevRef τ sig).ty.Contents (Elt F)) = Cert.ReferenceIdeal.Step.b41 j s := by
  unfold res_main_while0b_v118 Cert.ReferenceIdeal.Step.b41
  rw [← al_38 h, ← al_40 h]
  try rfl
set_option maxRecDepth 8192 in
theorem al_42 (h : Holds V0 s j) : (Host.dotGeneral dot_S4x64x256_S4x64x256_S4x64x64_2_2_1_1_0_0 none (res_main_while0b_v100 V0) (res_main_while0b_v101 V0) : (Proc.devRef .tc main_while0b_v119 : DevRef τ sig).ty.Contents (Elt F)) = Cert.ReferenceIdeal.Step.b42 j s := by
  unfold Cert.ReferenceIdeal.Step.b42
  rw [← al_4 h, ← al_9 h]
  try rfl
set_option maxRecDepth 8192 in
theorem al_43 (h : Holds V0 s j) : (broadcastInDim S4x64x1 ![0, 1] bcast_S4x64_S4x64x1_0_1 (res_main_while0b_v118 V0) : (Proc.devRef .tc main_while0b_v120 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S4x64x64 ![0, 1, 2] bcast_S4x64x1_S4x64x64_0_1_2 (broadcastInDim S4x64x1 ![0, 1] bcast_S4x64_S4x64x1_0_1 (res_main_while0b_v118 V0)) : (Proc.devRef .tc main_while0b_v121 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (subf (res_main_while0b_v113 V0) (broadcastInDim S4x64x64 ![0, 1, 2] bcast_S4x64x1_S4x64x64_0_1_2 (broadcastInDim S4x64x1 ![0, 1] bcast_S4x64_S4x64x1_0_1 (res_main_while0b_v118 V0))) : (Proc.devRef .tc main_while0b_v122 : DevRef τ sig).ty.Contents (Elt F)) = Cert.ReferenceIdeal.Step.b45 j s := by
  unfold Cert.ReferenceIdeal.Step.b45
  rw [← al_35 h, ← al_44 h]
  try rfl
set_option maxRecDepth 8192 in
theorem al_46 (h : Holds V0 s j) : (Host.exp (subf (res_main_while0b_v113 V0) (broadcastInDim S4x64x64 ![0, 1, 2] bcast_S4x64x1_S4x64x64_0_1_2 (broadcastInDim S4x64x1 ![0, 1] bcast_S4x64_S4x64x1_0_1 (res_main_while0b_v118 V0)))) : (Proc.devRef .tc main_while0b_v123 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (res_main_while0b_v124 V0 : (Proc.devRef .tc main_while0b_v124 : DevRef τ sig).ty.Contents (Elt F)) = Cert.ReferenceIdeal.Step.b47 j s := by
  unfold res_main_while0b_v124 Cert.ReferenceIdeal.Step.b47
  rw [← al_42 h, ← al_46 h]
  try rfl
set_option maxRecDepth 8192 in
theorem al_48 (h : Holds V0 s j) : (subf (res_main_while0b_v116 V0) (res_main_while0b_v118 V0) : (Proc.devRef .tc main_while0b_v125 : DevRef τ sig).ty.Contents (Elt F)) = Cert.ReferenceIdeal.Step.b48 j s := by
  unfold Cert.ReferenceIdeal.Step.b48
  rw [← al_38 h, ← al_41 h]
  try rfl
set_option maxRecDepth 8192 in
theorem al_49 (h : Holds V0 s j) : (res_main_while0b_v126 V0 : (Proc.devRef .tc main_while0b_v126 : DevRef τ sig).ty.Contents (Elt F)) = Cert.ReferenceIdeal.Step.b49 j s := by
  unfold res_main_while0b_v126 Cert.ReferenceIdeal.Step.b49
  rw [← al_48 h]
  try rfl
set_option maxRecDepth 8192 in
theorem al_50 (h : Holds V0 s j) : (Host.dotGeneral dot_S4x64x64_S4x64x256_S4x64x256_2_1_1_2_0_0 none (res_main_while0b_v124 V0) (res_main_while0b_v102 V0) : (Proc.devRef .tc main_while0b_v127 : DevRef τ sig).ty.Contents (Elt F)) = Cert.ReferenceIdeal.Step.b50 j s := by
  unfold Cert.ReferenceIdeal.Step.b50
  rw [← al_47 h, ← al_14 h]
  try rfl
set_option maxRecDepth 8192 in
theorem al_51 (h : Holds V0 s j) : (broadcastInDim S4x64x1 ![0, 1] bcast_S4x64_S4x64x1_0_1 (res_main_while0b_v126 V0) : (Proc.devRef .tc main_while0b_v128 : DevRef τ sig).ty.Contents (Elt F)) = Cert.ReferenceIdeal.Step.b51 j s := by
  unfold Cert.ReferenceIdeal.Step.b51
  rw [← al_49 h]
  try rfl
set_option maxRecDepth 8192 in
theorem al_52 (h : Holds V0 s j) : (Host.dotGeneral dot_S4x64x256_S4x256x256_S4x64x256_2_2_1_1_0_0 none (res_main_while0b_v100 V0) (V0 (Proc.devRef .tc main_v74_7)) : (Proc.devRef .tc main_while0b_v129 : DevRef τ sig).ty.Contents (Elt F)) = Cert.ReferenceIdeal.Step.b52 j s := by
  unfold Cert.ReferenceIdeal.Step.b52
  rw [← al_4 h, h.f_7]
  try rfl
set_option maxRecDepth 8192 in
theorem al_53 (h : Holds V0 s j) : (broadcastInDim S4x64x256 ![0, 1, 2] bcast_S4x64x1_S4x64x256_0_1_2 (broadcastInDim S4x64x1 ![0, 1] bcast_S4x64_S4x64x1_0_1 (res_main_while0b_v126 V0)) : (Proc.devRef .tc main_while0b_v130 : DevRef τ sig).ty.Contents (Elt F)) = Cert.ReferenceIdeal.Step.b53 j s := by
  unfold Cert.ReferenceIdeal.Step.b53
  rw [← al_51 h]
  try rfl
set_option maxRecDepth 8192 in
theorem al_54 (h : Holds V0 s j) : (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7))) : (Proc.devRef .tc main_while0b_v131 : DevRef τ sig).ty.Contents (Elt F)) = Cert.ReferenceIdeal.Step.b54 j s := by
  unfold Cert.ReferenceIdeal.Step.b54
  rw [← al_53 h, ← al_52 h]
  try rfl
set_option maxRecDepth 8192 in
theorem al_55 (h : Holds V0 s j) : (addf (Host.dotGeneral dot_S4x64x64_S4x64x256_S4x64x256_2_1_1_2_0_0 none (res_main_while0b_v124 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7)))) : (Proc.devRef .tc main_while0b_v132 : DevRef τ sig).ty.Contents (Elt F)) = Cert.ReferenceIdeal.Step.b55 j s := by
  unfold Cert.ReferenceIdeal.Step.b55
  rw [← al_50 h, ← al_54 h]
  try rfl
set_option maxRecDepth 8192 in
theorem al_56 (h : Holds V0 s j) : (constant S_ .f32 0x00000000#32 : (Proc.devRef .tc main_while0b_cst_29 : DevRef τ sig).ty.Contents (Elt F)) = Cert.ReferenceIdeal.Step.b56 j s := by
  unfold Cert.ReferenceIdeal.Step.b56
  rfl
set_option maxRecDepth 8192 in
theorem al_57 (h : Holds V0 s j) : (Host.reduceAdd (res_main_while0b_v124 V0) (constant S_ .f32 0x00000000#32) reducesTo_S4x64x64_S4x64_d2 h_S_ : (Proc.devRef .tc main_while0b_v133 : DevRef τ sig).ty.Contents (Elt F)) = Cert.ReferenceIdeal.Step.b57 j s := by
  unfold Cert.ReferenceIdeal.Step.b57
  rw [← al_47 h, ← al_56 h]
  try rfl
set_option maxRecDepth 8192 in
theorem al_58 (h : Holds V0 s j) : (Host.dotGeneral dot_S4x64x256_S4x256_S4x64_2_1_1_n_0_0 none (res_main_while0b_v100 V0) (V0 (Proc.devRef .tc main_v74_8)) : (Proc.devRef .tc main_while0b_v134 : DevRef τ sig).ty.Contents (Elt F)) = Cert.ReferenceIdeal.Step.b58 j s := by
  unfold Cert.ReferenceIdeal.Step.b58
  rw [← al_4 h, h.f_8]
  try rfl
set_option maxRecDepth 8192 in
theorem al_59 (h : Holds V0 s j) : (mulf (res_main_while0b_v126 V0) (Host.dotGeneral dot_S4x64x256_S4x256_S4x64_2_1_1_n_0_0 none (res_main_while0b_v100 V0) (V0 (Proc.devRef .tc main_v74_8))) : (Proc.devRef .tc main_while0b_v135 : DevRef τ sig).ty.Contents (Elt F)) = Cert.ReferenceIdeal.Step.b59 j s := by
  unfold Cert.ReferenceIdeal.Step.b59
  rw [← al_49 h, ← al_58 h]
  try rfl
set_option maxRecDepth 8192 in
theorem al_60 (h : Holds V0 s j) : (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))) : (Proc.devRef .tc main_while0b_v136 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8))))) : (Proc.devRef .tc main_while0b_v137 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (Host.negf (res_main_while0b_v118 V0) : (Proc.devRef .tc main_while0b_v138 : DevRef τ sig).ty.Contents (Elt F)) = Cert.ReferenceIdeal.Step.b62 j s := by
  unfold Cert.ReferenceIdeal.Step.b62
  rw [← al_41 h]
  try rfl
set_option maxRecDepth 8192 in
theorem al_63 (h : Holds V0 s j) : (Host.exp (Host.negf (res_main_while0b_v118 V0)) : (Proc.devRef .tc main_while0b_v139 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0))) : (Proc.devRef .tc main_while0b_v140 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0)))) : (Proc.devRef .tc main_while0b_v141 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0))))) : (Proc.devRef .tc main_while0b_v142 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (Host.divf (addf (Host.dotGeneral dot_S4x64x64_S4x64x256_S4x64x256_2_1_1_2_0_0 none (res_main_while0b_v124 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0)))))) : (Proc.devRef .tc main_while0b_v143 : DevRef τ sig).ty.Contents (Elt F)) = Cert.ReferenceIdeal.Step.b67 j s := by
  unfold Cert.ReferenceIdeal.Step.b67
  rw [← al_55 h, ← al_66 h]
  try rfl
set_option maxRecDepth 8192 in
theorem al_68 (h : Holds V0 s j) : (extractStridedSlice S4x1 ![0, 63] (res_main_while0b_v104 V0) slices_S4x64_S4x1_0_63 : (Proc.devRef .tc main_while0b_v144 : DevRef τ sig).ty.Contents (Elt F)) = Cert.ReferenceIdeal.Step.b68 j s := by
  unfold Cert.ReferenceIdeal.Step.b68
  rw [← al_22 h]
  try rfl
set_option maxRecDepth 8192 in
theorem al_69 (h : Holds V0 s j) : (res_main_while0b_v145 V0 : (Proc.devRef .tc main_while0b_v145 : DevRef τ sig).ty.Contents (Elt F)) = Cert.ReferenceIdeal.Step.b69 j s := by
  unfold res_main_while0b_v145 Cert.ReferenceIdeal.Step.b69
  rw [← al_68 h]
  try rfl
set_option maxRecDepth 8192 in
theorem al_70 (h : Holds V0 s j) : (broadcastInDim S4x1 ![0] bcast_S4_S4x1_0 (res_main_while0b_v145 V0) : (Proc.devRef .tc main_while0b_v146 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (broadcastInDim S4x64 ![0, 1] bcast_S4x1_S4x64_0_1 (broadcastInDim S4x1 ![0] bcast_S4_S4x1_0 (res_main_while0b_v145 V0)) : (Proc.devRef .tc main_while0b_v147 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (subf (broadcastInDim S4x64 ![0, 1] bcast_S4x1_S4x64_0_1 (broadcastInDim S4x1 ![0] bcast_S4_S4x1_0 (res_main_while0b_v145 V0))) (res_main_while0b_v104 V0) : (Proc.devRef .tc main_while0b_v148 : DevRef τ sig).ty.Contents (Elt F)) = Cert.ReferenceIdeal.Step.b72 j s := by
  unfold Cert.ReferenceIdeal.Step.b72
  rw [← al_71 h, ← al_22 h]
  try rfl
set_option maxRecDepth 8192 in
theorem al_73 (h : Holds V0 s j) : (res_main_while0b_v149 V0 : (Proc.devRef .tc main_while0b_v149 : DevRef τ sig).ty.Contents (Elt F)) = Cert.ReferenceIdeal.Step.b73 j s := by
  unfold res_main_while0b_v149 Cert.ReferenceIdeal.Step.b73
  rw [← al_72 h, ← al_18 h]
  try rfl
set_option maxRecDepth 8192 in
theorem al_74 (h : Holds V0 s j) : (addf (res_main_while0b_v145 V0) (V0 (Proc.devRef .tc main_v74_9)) : (Proc.devRef .tc main_while0b_v150 : DevRef τ sig).ty.Contents (Elt F)) = Cert.ReferenceIdeal.Step.b74 j s := by
  unfold Cert.ReferenceIdeal.Step.b74
  rw [← al_69 h, h.f_9]
  try rfl
set_option maxRecDepth 8192 in
theorem al_75 (h : Holds V0 s j) : (constant S_ .f32 0xFF800000#32 : (Proc.devRef .tc main_while0b_cst_30 : DevRef τ sig).ty.Contents (Elt F)) = Cert.ReferenceIdeal.Step.b75 j s := by
  unfold Cert.ReferenceIdeal.Step.b75
  rfl
set_option maxRecDepth 8192 in
theorem al_76 (h : Holds V0 s j) : (Host.reduce FloatOps.maximumf (res_main_while0b_v149 V0) (constant S_ .f32 0xFF800000#32) reducesTo_S4x64_S4_d1 h_S_ : (Proc.devRef .tc main_while0b_v151 : DevRef τ sig).ty.Contents (Elt F)) = Cert.ReferenceIdeal.Step.b76 j s := by
  unfold Cert.ReferenceIdeal.Step.b76
  rw [← al_73 h, ← al_75 h]
  try rfl
set_option maxRecDepth 8192 in
theorem al_77 (h : Holds V0 s j) : (res_main_while0b_v152 V0 : (Proc.devRef .tc main_while0b_v152 : DevRef τ sig).ty.Contents (Elt F)) = Cert.ReferenceIdeal.Step.b77 j s := by
  unfold res_main_while0b_v152 Cert.ReferenceIdeal.Step.b77
  rw [← al_74 h, ← al_76 h]
  try rfl
set_option maxRecDepth 8192 in
theorem al_78 (h : Holds V0 s j) : (addf (res_main_while0b_v145 V0) (V0 (Proc.devRef .tc main_v74_9)) : (Proc.devRef .tc main_while0b_v153 : DevRef τ sig).ty.Contents (Elt F)) = Cert.ReferenceIdeal.Step.b78 j s := by
  unfold Cert.ReferenceIdeal.Step.b78
  rw [← al_69 h, h.f_9]
  try rfl
set_option maxRecDepth 8192 in
theorem al_79 (h : Holds V0 s j) : (subf (addf (res_main_while0b_v145 V0) (V0 (Proc.devRef .tc main_v74_9))) (res_main_while0b_v152 V0) : (Proc.devRef .tc main_while0b_v154 : DevRef τ sig).ty.Contents (Elt F)) = Cert.ReferenceIdeal.Step.b79 j s := by
  unfold Cert.ReferenceIdeal.Step.b79
  rw [← al_78 h, ← al_77 h]
  try rfl
set_option maxRecDepth 8192 in
theorem al_80 (h : Holds V0 s j) : (res_main_while0b_v155 V0 : (Proc.devRef .tc main_while0b_v155 : DevRef τ sig).ty.Contents (Elt F)) = Cert.ReferenceIdeal.Step.b80 j s := by
  unfold res_main_while0b_v155 Cert.ReferenceIdeal.Step.b80
  rw [← al_79 h]
  try rfl
set_option maxRecDepth 8192 in
theorem al_81 (h : Holds V0 s j) : (broadcastInDim S4x1 ![0] bcast_S4_S4x1_0 (res_main_while0b_v152 V0) : (Proc.devRef .tc main_while0b_v156 : DevRef τ sig).ty.Contents (Elt F)) = Cert.ReferenceIdeal.Step.b81 j s := by
  unfold Cert.ReferenceIdeal.Step.b81
  rw [← al_77 h]
  try rfl
set_option maxRecDepth 8192 in
theorem al_82 (h : Holds V0 s j) : (broadcastInDim S4x64 ![0, 1] bcast_S4x1_S4x64_0_1 (broadcastInDim S4x1 ![0] bcast_S4_S4x1_0 (res_main_while0b_v152 V0)) : (Proc.devRef .tc main_while0b_v157 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (subf (res_main_while0b_v149 V0) (broadcastInDim S4x64 ![0, 1] bcast_S4x1_S4x64_0_1 (broadcastInDim S4x1 ![0] bcast_S4_S4x1_0 (res_main_while0b_v152 V0))) : (Proc.devRef .tc main_while0b_v158 : DevRef τ sig).ty.Contents (Elt F)) = Cert.ReferenceIdeal.Step.b83 j s := by
  unfold Cert.ReferenceIdeal.Step.b83
  rw [← al_73 h, ← al_82 h]
  try rfl
set_option maxRecDepth 8192 in
theorem al_84 (h : Holds V0 s j) : (res_main_while0b_v159 V0 : (Proc.devRef .tc main_while0b_v159 : DevRef τ sig).ty.Contents (Elt F)) = Cert.ReferenceIdeal.Step.b84 j s := by
  unfold res_main_while0b_v159 Cert.ReferenceIdeal.Step.b84
  rw [← al_83 h]
  try rfl
set_option maxRecDepth 8192 in
theorem al_85 (h : Holds V0 s j) : (broadcastInDim S4x1x1 ![0] bcast_S4_S4x1x1_0 (res_main_while0b_v155 V0) : (Proc.devRef .tc main_while0b_v160 : DevRef τ sig).ty.Contents (Elt F)) = Cert.ReferenceIdeal.Step.b85 j s := by
  unfold Cert.ReferenceIdeal.Step.b85
  rw [← al_80 h]
  try rfl
set_option maxRecDepth 8192 in
theorem al_86 (h : Holds V0 s j) : (broadcastInDim S4x256x256 ![0, 1, 2] bcast_S4x1x1_S4x256x256_0_1_2 (broadcastInDim S4x1x1 ![0] bcast_S4_S4x1x1_0 (res_main_while0b_v155 V0)) : (Proc.devRef .tc main_while0b_v161 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (mulf (broadcastInDim S4x256x256 ![0, 1, 2] bcast_S4x1x1_S4x256x256_0_1_2 (broadcastInDim S4x1x1 ![0] bcast_S4_S4x1x1_0 (res_main_while0b_v155 V0))) (V0 (Proc.devRef .tc main_v74_7)) : (Proc.devRef .tc main_while0b_v162 : DevRef τ sig).ty.Contents (Elt F)) = Cert.ReferenceIdeal.Step.b87 j s := by
  unfold Cert.ReferenceIdeal.Step.b87
  rw [← al_86 h, h.f_7]
  try rfl
set_option maxRecDepth 8192 in
theorem al_88 (h : Holds V0 s j) : (broadcastInDim S4x64x1 ![0, 1] bcast_S4x64_S4x64x1_0_1 (res_main_while0b_v159 V0) : (Proc.devRef .tc main_while0b_v163 : DevRef τ sig).ty.Contents (Elt F)) = Cert.ReferenceIdeal.Step.b88 j s := by
  unfold Cert.ReferenceIdeal.Step.b88
  rw [← al_84 h]
  try rfl
set_option maxRecDepth 8192 in
theorem al_89 (h : Holds V0 s j) : (broadcastInDim S4x64x256 ![0, 1, 2] bcast_S4x64x1_S4x64x256_0_1_2 (broadcastInDim S4x64x1 ![0, 1] bcast_S4x64_S4x64x1_0_1 (res_main_while0b_v159 V0)) : (Proc.devRef .tc main_while0b_v164 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (mulf (broadcastInDim S4x64x256 ![0, 1, 2] bcast_S4x64x1_S4x64x256_0_1_2 (broadcastInDim S4x64x1 ![0, 1] bcast_S4x64_S4x64x1_0_1 (res_main_while0b_v159 V0))) (res_main_while0b_v102 V0) : (Proc.devRef .tc main_while0b_v165 : DevRef τ sig).ty.Contents (Elt F)) = Cert.ReferenceIdeal.Step.b90 j s := by
  unfold Cert.ReferenceIdeal.Step.b90
  rw [← al_89 h, ← al_14 h]
  try rfl
set_option maxRecDepth 8192 in
theorem al_91 (h : Holds V0 s j) : (Host.dotGeneral dot_S4x64x256_S4x64x256_S4x256x256_1_1_2_2_0_0 none (mulf (broadcastInDim S4x64x256 ![0, 1, 2] bcast_S4x64x1_S4x64x256_0_1_2 (broadcastInDim S4x64x1 ![0, 1] bcast_S4x64_S4x64x1_0_1 (res_main_while0b_v159 V0))) (res_main_while0b_v102 V0)) (res_main_while0b_v101 V0) : (Proc.devRef .tc main_while0b_v166 : DevRef τ sig).ty.Contents (Elt F)) = Cert.ReferenceIdeal.Step.b91 j s := by
  unfold Cert.ReferenceIdeal.Step.b91
  rw [← al_90 h, ← al_9 h]
  try rfl
set_option maxRecDepth 8192 in
theorem al_92 (h : Holds V0 s j) : (addf (mulf (broadcastInDim S4x256x256 ![0, 1, 2] bcast_S4x1x1_S4x256x256_0_1_2 (broadcastInDim S4x1x1 ![0] bcast_S4_S4x1x1_0 (res_main_while0b_v155 V0))) (V0 (Proc.devRef .tc main_v74_7))) (Host.dotGeneral dot_S4x64x256_S4x64x256_S4x256x256_1_1_2_2_0_0 none (mulf (broadcastInDim S4x64x256 ![0, 1, 2] bcast_S4x64x1_S4x64x256_0_1_2 (broadcastInDim S4x64x1 ![0, 1] bcast_S4x64_S4x64x1_0_1 (res_main_while0b_v159 V0))) (res_main_while0b_v102 V0)) (res_main_while0b_v101 V0)) : (Proc.devRef .tc main_while0b_v167 : DevRef τ sig).ty.Contents (Elt F)) = Cert.ReferenceIdeal.Step.b92 j s := by
  unfold Cert.ReferenceIdeal.Step.b92
  rw [← al_87 h, ← al_91 h]
  try rfl
set_option maxRecDepth 8192 in
theorem al_93 (h : Holds V0 s j) : (broadcastInDim S4x1 ![0] bcast_S4_S4x1_0 (res_main_while0b_v155 V0) : (Proc.devRef .tc main_while0b_v168 : DevRef τ sig).ty.Contents (Elt F)) = Cert.ReferenceIdeal.Step.b93 j s := by
  unfold Cert.ReferenceIdeal.Step.b93
  rw [← al_80 h]
  try rfl
set_option maxRecDepth 8192 in
theorem al_94 (h : Holds V0 s j) : (broadcastInDim S4x256 ![0, 1] bcast_S4x1_S4x256_0_1 (broadcastInDim S4x1 ![0] bcast_S4_S4x1_0 (res_main_while0b_v155 V0)) : (Proc.devRef .tc main_while0b_v169 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S4x256 ![0, 1] bcast_S4x1_S4x256_0_1 (broadcastInDim S4x1 ![0] bcast_S4_S4x1_0 (res_main_while0b_v155 V0))) (V0 (Proc.devRef .tc main_v74_8)) : (Proc.devRef .tc main_while0b_v170 : DevRef τ sig).ty.Contents (Elt F)) = Cert.ReferenceIdeal.Step.b95 j s := by
  unfold Cert.ReferenceIdeal.Step.b95
  rw [← al_94 h, h.f_8]
  try rfl
set_option maxRecDepth 8192 in
theorem al_96 (h : Holds V0 s j) : (Host.dotGeneral dot_S4x64_S4x64x256_S4x256_1_1_n_2_0_0 none (res_main_while0b_v159 V0) (res_main_while0b_v101 V0) : (Proc.devRef .tc main_while0b_v171 : DevRef τ sig).ty.Contents (Elt F)) = Cert.ReferenceIdeal.Step.b96 j s := by
  unfold Cert.ReferenceIdeal.Step.b96
  rw [← al_84 h, ← al_9 h]
  try rfl
set_option maxRecDepth 8192 in
theorem al_97 (h : Holds V0 s j) : (addf (mulf (broadcastInDim S4x256 ![0, 1] bcast_S4x1_S4x256_0_1 (broadcastInDim S4x1 ![0] bcast_S4_S4x1_0 (res_main_while0b_v155 V0))) (V0 (Proc.devRef .tc main_v74_8))) (Host.dotGeneral dot_S4x64_S4x64x256_S4x256_1_1_n_2_0_0 none (res_main_while0b_v159 V0) (res_main_while0b_v101 V0)) : (Proc.devRef .tc main_while0b_v172 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (broadcastInDim S1x4x64x256 ![1, 2, 3] bcast_S4x64x256_S1x4x64x256_1_2_3 (Host.divf (addf (Host.dotGeneral dot_S4x64x64_S4x64x256_S4x64x256_2_1_1_2_0_0 none (res_main_while0b_v124 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0))))))) : (Proc.devRef .tc main_while0b_call13_v0 : DevRef τ sig).ty.Contents (Elt F)) = Cert.ReferenceIdeal.Step.b98 j s := by
  unfold Cert.ReferenceIdeal.Step.b98
  rw [← al_67 h]
  try rfl
set_option maxRecDepth 8192 in
theorem al_99 (h : Holds V0 s j) : (constantI S_ 32 0#32 : (Proc.devRef .tc main_while0b_call13_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call13_c_0 : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call13_c_1 : DevRef τ sig).ty.Contents (Elt F)) = Cert.ReferenceIdeal.Step.b101 j s := by
  unfold Cert.ReferenceIdeal.Step.b101
  rfl
set_option maxRecDepth 8192 in
theorem al_102 (h : Holds V0 s j) : (Host.dynamicUpdateSlice (V0 (Proc.devRef .tc main_v74_10)) (broadcastInDim S1x4x64x256 ![1, 2, 3] bcast_S4x64x256_S1x4x64x256_1_2_3 (Host.divf (addf (Host.dotGeneral dot_S4x64x64_S4x64x256_S4x64x256_2_1_1_2_0_0 none (res_main_while0b_v124 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0)))))))) (fun k => (((![V0 (Proc.devRef .tc main_v74_6), constantI S_ 32 0#32, constantI S_ 32 0#32, constantI S_ 32 0#32] : Fin 4 → (⟨S_, .i32⟩ : BufTy).Contents (Elt F))) k (Shape.Idx.first h_S_)).toInt) updateFits_S128x4x64x256_S1x4x64x256 : (Proc.devRef .tc main_while0b_v173 : DevRef τ sig).ty.Contents (Elt F)) = Cert.ReferenceIdeal.Step.b102 j s := by
  unfold Cert.ReferenceIdeal.Step.b102
  rw [← al_98 h, ← al_99 h, ← al_100 h, ← al_101 h, h.f_10, h.n_6]
  try rfl

/-! One trip's step of the carried values is `step`, field by field; a counter steps to the next number. -/

theorem step_7 (h : Holds V0 s j) : step_main_v74_7 V0 = (step j s).main_v74_7 := by
  unfold step_main_v74_7 Cert.ReferenceIdeal.Step.step
  show id (addf (mulf (broadcastInDim S4x256x256 ![0, 1, 2] bcast_S4x1x1_S4x256x256_0_1_2 (broadcastInDim S4x1x1 ![0] bcast_S4_S4x1x1_0 (res_main_while0b_v155 V0))) (V0 (Proc.devRef .tc main_v74_7))) (Host.dotGeneral dot_S4x64x256_S4x64x256_S4x256x256_1_1_2_2_0_0 none (mulf (broadcastInDim S4x64x256 ![0, 1, 2] bcast_S4x64x1_S4x64x256_0_1_2 (broadcastInDim S4x64x1 ![0, 1] bcast_S4x64_S4x64x1_0_1 (res_main_while0b_v159 V0))) (res_main_while0b_v102 V0)) (res_main_while0b_v101 V0))) = _
  rw [al_92 h]
  try rfl
theorem step_8 (h : Holds V0 s j) : step_main_v74_8 V0 = (step j s).main_v74_8 := by
  unfold step_main_v74_8 Cert.ReferenceIdeal.Step.step
  show id (addf (mulf (broadcastInDim S4x256 ![0, 1] bcast_S4x1_S4x256_0_1 (broadcastInDim S4x1 ![0] bcast_S4_S4x1_0 (res_main_while0b_v155 V0))) (V0 (Proc.devRef .tc main_v74_8))) (Host.dotGeneral dot_S4x64_S4x64x256_S4x256_1_1_n_2_0_0 none (res_main_while0b_v159 V0) (res_main_while0b_v101 V0))) = _
  rw [al_97 h]
  try rfl
theorem step_9 (h : Holds V0 s j) : step_main_v74_9 V0 = (step j s).main_v74_9 := by
  unfold step_main_v74_9 Cert.ReferenceIdeal.Step.step
  show id (res_main_while0b_v152 V0) = _
  rw [al_77 h]
  try rfl
theorem step_10 (h : Holds V0 s j) : step_main_v74_10 V0 = (step j s).main_v74_10 := by
  unfold step_main_v74_10 Cert.ReferenceIdeal.Step.step
  show id (Host.dynamicUpdateSlice (V0 (Proc.devRef .tc main_v74_10)) (broadcastInDim S1x4x64x256 ![1, 2, 3] bcast_S4x64x256_S1x4x64x256_1_2_3 (Host.divf (addf (Host.dotGeneral dot_S4x64x64_S4x64x256_S4x64x256_2_1_1_2_0_0 none (res_main_while0b_v124 V0) (res_main_while0b_v102 V0)) (mulf (broadcastInDim S4x64x256 ![0, 1, 2] bcast_S4x64x1_S4x64x256_0_1_2 (broadcastInDim S4x64x1 ![0, 1] bcast_S4x64_S4x64x1_0_1 (res_main_while0b_v126 V0))) (Host.dotGeneral dot_S4x64x256_S4x256x256_S4x64x256_2_2_1_1_0_0 none (res_main_while0b_v100 V0) (V0 (Proc.devRef .tc main_v74_7))))) (broadcastInDim S4x64x256 ![0, 1, 2] bcast_S4x64x1_S4x64x256_0_1_2 (broadcastInDim S4x64x1 ![0, 1] bcast_S4x64_S4x64x1_0_1 (maximumf (Host.absf (addf (Host.reduceAdd (res_main_while0b_v124 V0) (constant S_ .f32 0x00000000#32) reducesTo_S4x64x64_S4x64_d2 h_S_) (mulf (res_main_while0b_v126 V0) (Host.dotGeneral dot_S4x64x256_S4x256_S4x64_2_1_1_n_0_0 none (res_main_while0b_v100 V0) (V0 (Proc.devRef .tc main_v74_8)))))) (Host.exp (Host.negf (res_main_while0b_v118 V0)))))))) (fun k => (((![V0 (Proc.devRef .tc main_v74_6), constantI S_ 32 0#32, constantI S_ 32 0#32, constantI S_ 32 0#32] : Fin 4 → (⟨S_, .i32⟩ : BufTy).Contents (Elt F))) k (Shape.Idx.first h_S_)).toInt) updateFits_S128x4x64x256_S1x4x64x256) = _
  exact al_102 h
theorem step_6 (h : Holds V0 s j) : step_main_v74_6 V0 = constantI S_ 32 (BitVec.ofNat 32 (j + 1)) := by
  unfold step_main_v74_6
  rw [h.n_6]
  funext i
  show BitVec.ofNat 32 j + 1#32 = BitVec.ofNat 32 (j + 1)
  simp only [BitVec.ofNat_add]

set_option maxRecDepth 8192 in
theorem out_main_v99_holds (h : Holds V0 s j) {x_main_arg0 : (⟨S8192x4096, .f32⟩ : BufTy).Contents (Elt F)} (h_main_arg0 : V0 (Proc.devRef .tc main_arg0) = x_main_arg0) {x_main_arg5 : (⟨S1024, .f32⟩ : BufTy).Contents (Elt F)} (h_main_arg5 : V0 (Proc.devRef .tc main_arg5) = x_main_arg5) : out_main_v99 V0 = Cert.ReferenceIdeal.Step.R_main_v99 s x_main_arg0 x_main_arg5 := by
  unfold out_main_v99 Cert.ReferenceIdeal.Step.R_main_v99
  rw [h.f_10, h_main_arg0, h_main_arg5]
  try rfl

/-- One trip keeps the valuation holding: `step` of the state, the same set-up values, the next number. -/
theorem holds_step (h : Holds V0 s j) : Holds (STEP V0) (step j s) (j + 1) where
  f_7 := (STEP_main_v74_7 V0).trans (step_7 h)
  f_8 := (STEP_main_v74_8 V0).trans (step_8 h)
  f_9 := (STEP_main_v74_9 V0).trans (step_9 h)
  f_10 := (STEP_main_v74_10 V0).trans (step_10 h)
  n_6 := (STEP_main_v74_6 V0).trans (step_6 h)
  k_5 := (STEP_main_v74_5 V0).trans h.k_5
  f_0 := (STEP_main_v74_0 V0).trans h.f_0
  f_1 := (STEP_main_v74_1 V0).trans h.f_1
  f_2 := (STEP_main_v74_2 V0).trans h.f_2
  f_3 := (STEP_main_v74_3 V0).trans h.f_3
  f_4 := (STEP_main_v74_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v99) = Cert.ReferenceIdeal.Step.R_main_v99 (it c 128) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v99_holds hk (iter_main_arg0 m c 128) (iter_main_arg5 m c 128)), (h c).2.1, (h c).2.2.1, (h c).2.2.2.1, (h c).2.2.2.2.1, (h c).2.2.2.2.2.1, (h c).2.2.2.2.2.2⟩) (Value.run m ρ)

end Cert.ReferenceIdeal.Trips

end
-- ==== Proof.Spec.lean ====
/- The mixer's recurrence over the real numbers: the gated sums it carries, and how a chunk of tokens extends them. -/
module

public import Mathlib.Analysis.SpecialFunctions.Exp
public import Mathlib.Analysis.SpecialFunctions.Log.Basic
public import Mathlib.Data.EReal.Operations

@[expose] public section

noncomputable section

namespace Mlstm

open Finset

/-- The sum of the log forget gates of the first `n` tokens. -/
def pre (f : ℕ → ℝ) (n : ℕ) : ℝ := ∑ s ∈ range n, f s

/-- The weight token `s` has once `n` tokens are in. -/
def wt (f g : ℕ → ℝ) (n s : ℕ) : ℝ := Real.exp (pre f n - pre f (s + 1) + g s)

/-- The gated sum of `x` over the first `n` tokens. -/
def st (f g x : ℕ → ℝ) (n : ℕ) : ℝ := ∑ s ∈ range n, wt f g n s * x s

/-- The sum of the log forget gates of the first `r` tokens of the chunk that starts at token `n0`. -/
def loc (f : ℕ → ℝ) (n0 r : ℕ) : ℝ := ∑ s ∈ range r, f (n0 + s)

theorem pre_add (f : ℕ → ℝ) (n0 r : ℕ) : pre f (n0 + r) = pre f n0 + loc f n0 r := by
  unfold pre loc; rw [sum_range_add]

/-- A chunk of `r` tokens extends a gated sum. -/
theorem st_add (f g x : ℕ → ℝ) (n0 r : ℕ) :
    st f g x (n0 + r) = (∑ s ∈ range r, x (n0 + s) * Real.exp (loc f n0 r - loc f n0 (s + 1) + g (n0 + s)))
      + Real.exp (loc f n0 r) * st f g x n0 := by
  unfold st
  rw [sum_range_add, add_comm]
  congr 1
  · refine sum_congr rfl fun s _ => ?_
    unfold wt
    rw [pre_add, Nat.add_assoc, pre_add f n0 (s + 1), mul_comm]
    congr 2; ring
  · rw [mul_sum]
    refine sum_congr rfl fun s _ => ?_
    unfold wt
    rw [pre_add, ← mul_assoc, ← Real.exp_add]
    congr 2; ring

theorem st_zero (f g x : ℕ → ℝ) : st f g x 0 = 0 := by simp [st]

/-- The gated sum is linear in what it sums. -/
theorem st_lin {ι : Type} [Fintype ι] (f g : ℕ → ℝ) (q : ι → ℝ) (y : ι → ℕ → ℝ) (n : ℕ) :
    ∑ e, q e * st f g (y e) n = st f g (fun s => ∑ e, q e * y e s) n := by
  unfold st
  simp only [mul_sum]
  rw [sum_comm]
  refine sum_congr rfl fun s _ => sum_congr rfl fun e _ => by ring

/-- A sum over a chunk masked to the tokens up to the row's. -/
theorem sum_masked {L : ℕ} (r : Fin L) (a : ℕ → ℝ) :
    (∑ s : Fin L, if s.val ≤ r.val then a s.val else 0) = ∑ s ∈ range (r.val + 1), a s := by
  rw [Fin.sum_univ_eq_sum_range (fun s => if s ≤ r.val then a s else 0) L, ← sum_filter]
  refine sum_congr ?_ fun _ _ => rfl
  ext s; simp only [mem_filter, mem_range]; have := r.isLt; omega

/-- Row `r` of a chunk: the masked sum of the chunk's tokens, and what came before it. -/
theorem st_row {L : ℕ} (f g x : ℕ → ℝ) (n0 : ℕ) (r : Fin L) :
    st f g x (n0 + r.val + 1) =
      (∑ s : Fin L, x (n0 + s.val) * (if s.val ≤ r.val then
          Real.exp (loc f n0 (r.val + 1) - loc f n0 (s.val + 1) + g (n0 + s.val)) else 0))
      + Real.exp (loc f n0 (r.val + 1)) * st f g x n0 := by
  rw [Nat.add_assoc, st_add, ← sum_masked r]
  simp only [mul_ite, mul_zero]

/-- A whole chunk. -/
theorem st_chunk {L : ℕ} (f g x : ℕ → ℝ) (n0 : ℕ) :
    st f g x (n0 + L) =
      (∑ s : Fin L, x (n0 + s.val) * Real.exp (loc f n0 L - loc f n0 (s.val + 1) + g (n0 + s.val)))
      + Real.exp (loc f n0 L) * st f g x n0 := by
  rw [st_add, Fin.sum_univ_eq_sum_range
    (fun s => x (n0 + s) * Real.exp (loc f n0 L - loc f n0 (s + 1) + g (n0 + s))) L]

/-- The head's score of a query against the key of token `s`. -/
def score (q : Fin 256 → ℝ) (k : ℕ → Fin 256 → ℝ) (s : ℕ) : ℝ := ∑ e, q e * k s e

/-- The matrix memory after `n` tokens. -/
def mem (f g : ℕ → ℝ) (k v : ℕ → Fin 256 → ℝ) (e d : Fin 256) (n : ℕ) : ℝ := st f g (fun s => k s e * v s d) n

/-- The normaliser after `n` tokens. -/
def nrm (f g : ℕ → ℝ) (k : ℕ → Fin 256 → ℝ) (e : Fin 256) (n : ℕ) : ℝ := st f g (fun s => k s e) n

/-- The read-out's numerator at token `t`. -/
def num (f g : ℕ → ℝ) (q : Fin 256 → ℝ) (k v : ℕ → Fin 256 → ℝ) (d : Fin 256) (n : ℕ) : ℝ :=
  st f g (fun s => score q k s * v s d) n

/-- The read-out's denominator before its floor. -/
def den (f g : ℕ → ℝ) (q : Fin 256 → ℝ) (k : ℕ → Fin 256 → ℝ) (n : ℕ) : ℝ := st f g (score q k) n

/-- The read-out. -/
def hid (f g : ℕ → ℝ) (q : Fin 256 → ℝ) (k v : ℕ → Fin 256 → ℝ) (d : Fin 256) (n : ℕ) : ℝ :=
  num f g q k v d n / max |den f g q k n| 1

theorem mem_num (f g : ℕ → ℝ) (q : Fin 256 → ℝ) (k v : ℕ → Fin 256 → ℝ) (d : Fin 256) (n : ℕ) :
    ∑ e, q e * mem f g k v e d n = num f g q k v d n := by
  unfold mem num
  rw [st_lin]
  congr 1; funext s; unfold score; rw [sum_mul]
  exact sum_congr rfl fun e _ => by ring

theorem nrm_den (f g : ℕ → ℝ) (q : Fin 256 → ℝ) (k : ℕ → Fin 256 → ℝ) (n : ℕ) :
    ∑ e, q e * nrm f g k e n = den f g q k n := by
  unfold nrm den; rw [st_lin]; rfl

/-- The numerator at a chunk's row. -/
theorem num_row {L : ℕ} (f g : ℕ → ℝ) (q : Fin 256 → ℝ) (k v : ℕ → Fin 256 → ℝ) (d : Fin 256) (n0 : ℕ) (r : Fin L) :
    (∑ s : Fin L, score q k (n0 + s.val) * (if s.val ≤ r.val then
        Real.exp (loc f n0 (r.val + 1) - loc f n0 (s.val + 1) + g (n0 + s.val)) else 0) * v (n0 + s.val) d)
      + Real.exp (loc f n0 (r.val + 1)) * ∑ e, q e * mem f g k v e d n0 = num f g q k v d (n0 + r.val + 1) := by
  rw [mem_num]; unfold num; rw [st_row]
  congr 1; exact sum_congr rfl fun s _ => by ring

/-- The denominator at a chunk's row. -/
theorem den_row {L : ℕ} (f g : ℕ → ℝ) (q : Fin 256 → ℝ) (k : ℕ → Fin 256 → ℝ) (n0 : ℕ) (r : Fin L) :
    (∑ s : Fin L, score q k (n0 + s.val) * (if s.val ≤ r.val then
        Real.exp (loc f n0 (r.val + 1) - loc f n0 (s.val + 1) + g (n0 + s.val)) else 0))
      + Real.exp (loc f n0 (r.val + 1)) * ∑ e, q e * nrm f g k e n0 = den f g q k (n0 + r.val + 1) := by
  rw [nrm_den]; unfold den; rw [st_row]

/-- A common positive factor leaves the read-out as it is. -/
theorem scaled_div (a b c : ℝ) (hc : 0 < c) : (c * a) / max |c * b| c = a / max |b| 1 := by
  have h : max |c * b| c = c * max |b| 1 := by
    rw [abs_mul, abs_of_pos hc, mul_max_of_nonneg _ _ hc.le, mul_one]
  rw [h, mul_div_mul_left _ _ hc.ne']

/-- The coercion to the extended reals takes a sum to a sum. -/
theorem coe_sum {ι : Type} (s : Finset ι) (a : ι → ℝ) : ((∑ i ∈ s, a i : ℝ) : EReal) = ∑ i ∈ s, (a i : EReal) := by
  classical
  induction s using Finset.induction_on with
  | empty => simp
  | insert i s hi ih => rw [sum_insert hi, sum_insert hi, EReal.coe_add, ih]

theorem coe_max (a b : ℝ) : ((max a b : ℝ) : EReal) = max (a : EReal) (b : EReal) :=
  EReal.coe_strictMono.monotone.map_max

end Mlstm

end
-- ==== Proof.Layer.lean ====
/- The mixer's pointwise functions over the real numbers — the short convolution, the gates — and the extended-real
   expressions that take those values. -/
module

public import proofs.«01_k».proof.Proof.Spec
public import Idealize.ShloMosaic.PureOps.Ideal
public import Idealize.ShloMosaic.Lib.IdealHost

@[expose] public section

noncomputable section

namespace Mlstm

open Idealize.ShloMosaic

/-- A sequence behind eight zero rows. -/
def zp (z : ℕ → ℝ) (i : ℕ) : ℝ := if i < 8 then 0 else z (i - 8)

/-- `a` times its sigmoid. -/
def silu (a : ℝ) : ℝ := a * (1 / (1 + Real.exp (-a)))

/-- The causal convolution over four tokens at token `t`, and its activation. -/
def cv (z : ℕ → ℝ) (w : Fin 4 → ℝ) (t : ℕ) : ℝ :=
  silu (zp z (t + 8) * w 0 + zp z (t + 7) * w 1 + zp z (t + 6) * w 2 + zp z (t + 5) * w 3)

/-- The soft cap at fifteen. -/
def capE (x : EReal) : EReal := Ideal.ofBits .f32 0x41700000#32 * Ideal.tanh (Ideal.div x (Ideal.ofBits .f32 0x41700000#32))

def cap (x : EReal) : ℝ := (capE x).toReal

/-- The log of the sigmoid. -/
def lf (a : ℝ) : ℝ := -Real.log (1 + Real.exp (-a))

theorem ofBits_fifteen : Ideal.ofBits .f32 0x41700000#32 = ((15 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem tanh_real (x : EReal) : ∃ r : ℝ, Ideal.tanh x = (r : EReal) := by
  induction x using EReal.rec with
  | bot => exact ⟨-1, by rw [Ideal.tanh_bot, EReal.coe_neg, EReal.coe_one]⟩
  | coe x => exact ⟨_, Ideal.tanh_coe x⟩
  | top => exact ⟨1, by rw [Ideal.tanh_top]; norm_cast⟩

/-- The soft cap is real at every extended real. -/
theorem cap_coe (x : EReal) : capE x = (cap x : EReal) := by
  unfold cap capE
  obtain ⟨r, hr⟩ := tanh_real (Ideal.div x (Ideal.ofBits .f32 0x41700000#32))
  rw [hr, ofBits_fifteen, ← EReal.coe_mul, EReal.toReal_coe]

theorem zero_sub_coe (a : ℝ) : (0 : EReal) - (a : EReal) = ((-a : ℝ) : EReal) := by
  rw [← EReal.coe_zero, ← EReal.coe_sub, zero_sub]

theorem one_add_exp_pos (a : ℝ) : 0 < 1 + Real.exp a := by positivity

theorem div_coe_coe {y : ℝ} (x : ℝ) (h : y ≠ 0) : Ideal.div (x : EReal) (y : EReal) = ((x / y : ℝ) : EReal) := by
  rw [Ideal.div_coe h, ← EReal.coe_mul, mul_one_div]

theorem one_add_exp (a : ℝ) : (1 : EReal) + Ideal.exp (a : EReal) = ((1 + Real.exp a : ℝ) : EReal) := by
  rw [Ideal.exp_coe, ← EReal.coe_one, ← EReal.coe_add]

theorem silu_coe (a : ℝ) : (a : EReal) * Ideal.div 1 (1 + Ideal.exp (0 - (a : EReal))) = (silu a : EReal) := by
  rw [zero_sub_coe, one_add_exp, ← EReal.coe_one, div_coe_coe _ (one_add_exp_pos _).ne', ← EReal.coe_mul]; rfl

theorem silu_coe' (a : ℝ) : (a : EReal) * Ideal.div 1 (1 + Ideal.exp (-(a : EReal))) = (silu a : EReal) := by
  rw [← silu_coe, zero_sub_coe, EReal.coe_neg]

theorem lf_coe (a : ℝ) : 0 - Ideal.log (1 + Ideal.exp (0 - (a : EReal))) = (lf a : EReal) := by
  rw [zero_sub_coe, one_add_exp, Ideal.log_coe, if_neg (not_le.2 (one_add_exp_pos _)), zero_sub_coe]; rfl

/-- The soft plus, written with the larger of its argument and zero apart. -/
theorem softplus_real (a : ℝ) : max (-a) 0 + Real.log (1 + Real.exp (-|a|)) = Real.log (1 + Real.exp (-a)) := by
  rcases le_total 0 a with h | h
  · rw [max_eq_right (by linarith), abs_of_nonneg h, zero_add]
  · rw [max_eq_left (by linarith), abs_of_nonpos h, neg_neg]
    have e : (1 + Real.exp (-a)) = Real.exp (-a) * (1 + Real.exp a) := by
      rw [mul_add, ← Real.exp_add]; simp [add_comm]
    rw [e, Real.log_mul (Real.exp_pos _).ne' (one_add_exp_pos _).ne', Real.log_exp]

theorem softplus_coe (a : ℝ) :
    -(max (-(a : EReal)) 0 + Ideal.log1p (Ideal.exp (-(max (-(a : EReal)) (-(-(a : EReal))))))) = (lf a : EReal) := by
  unfold Ideal.log1p
  rw [← EReal.coe_neg, ← EReal.coe_neg, ← coe_max, ← EReal.coe_neg, one_add_exp, Ideal.log_coe,
    if_neg (not_le.2 (one_add_exp_pos _)), ← EReal.coe_zero, ← coe_max, ← EReal.coe_add, ← EReal.coe_neg]
  congr 1
  unfold lf
  rw [← softplus_real a, show max (-a) (- -a) = |a| by rw [neg_neg, max_comm]; rfl]

/-- One entry of the mixer's output: the head's read-out over its root mean square, scaled and gated. -/
def gated (H : Fin 256 → ℝ) (d : Fin 256) (ng o : EReal) : EReal :=
  Ideal.div 1 (1 + Ideal.exp (-o)) *
    ((H d : EReal) * Ideal.rsqrt (Ideal.div (∑ e, (H e : EReal) * (H e : EReal)) (Ideal.ofBits .f32 0x43800000#32)
      + Ideal.ofBits .f32 0x358637BD#32) * ng)

theorem zero_sub_ereal (o : EReal) : 0 - o = -o := by rw [sub_eq_add_neg, zero_add]

/-- The mixer's inputs as sequences over tokens: the projected columns, the taps, the gates' inputs. -/
structure Inputs where
  zq : Fin 4 → Fin 256 → ℕ → ℝ
  zk : Fin 4 → Fin 256 → ℕ → ℝ
  zv : Fin 4 → Fin 256 → ℕ → ℝ
  wq : Fin 4 → Fin 256 → Fin 4 → ℝ
  wk : Fin 4 → Fin 256 → Fin 4 → ℝ
  gi : Fin 4 → ℕ → EReal
  gf : Fin 4 → ℕ → EReal

namespace Inputs

variable (x : Inputs)

/-- Head `h`'s queries, keys, values, input gates and log forget gates. -/
def q (h : Fin 4) (t : ℕ) (e : Fin 256) : ℝ := cv (x.zq h e) (x.wq h e) t * (1 / 16)
def k (h : Fin 4) (t : ℕ) (e : Fin 256) : ℝ := cv (x.zk h e) (x.wk h e) t
def v (h : Fin 4) (t : ℕ) (e : Fin 256) : ℝ := x.zv h e t
def g (h : Fin 4) (t : ℕ) : ℝ := cap (x.gi h t)
def f (h : Fin 4) (t : ℕ) : ℝ := lf (cap (x.gf h t))

/-- Head `h`'s matrix memory, normaliser and read-out. -/
def mem (h : Fin 4) (e d : Fin 256) (n : ℕ) : ℝ := Mlstm.mem (x.f h) (x.g h) (x.k h) (x.v h) e d n
def nrm (h : Fin 4) (e : Fin 256) (n : ℕ) : ℝ := Mlstm.nrm (x.f h) (x.g h) (x.k h) e n
def hid (h : Fin 4) (t : ℕ) (d : Fin 256) : ℝ := Mlstm.hid (x.f h) (x.g h) (x.q h t) (x.k h) (x.v h) d (t + 1)

end Inputs

end Mlstm

end
-- ==== Proof.Heads.lean ====
/- The kernel's arithmetic for one head of one block of 256 tokens, as functions of that head's slices, and their
   values when the slices hold real numbers. -/
module

public import proofs.«01_k».proof.Proof.Gen.KernelIdeal.Skeleton
public import proofs.«01_k».proof.Proof.Layer
public import Idealize.ShloMosaic.Lib.Pointwise
public import Idealize.ShloMosaic.Lib.IdealHost
public import Idealize.ShloMosaic.PureOps.Ideal

@[expose] public section

noncomputable section

namespace Cert.KernelIdeal.Heads

open Idealize.ShloMosaic Idealize.SL.Sem Cert.KernelIdeal Cert.KernelIdeal.Gen

/-- The decay weights between the rows of a block, from the summed forget gates and the input gates less them. -/
def headW (b : FVec Ideal S256x1 .f32) (er : FVec Ideal S1x256 .f32) : FVec Ideal S256x256 .f32 :=
  select k0_pay12 (exp (select k0_pay12
      (addf (broadcastTo S256x256 b broadcasts_S256x1_S256x256) (broadcastTo S256x256 er broadcasts_S1x256_S256x256))
      (broadcast S256x256 (Scalar.ofBits .f32 0x00000000#32)))) (broadcast S256x256 (Scalar.ofBits .f32 0x00000000#32))

/-- The mask between the rows of a block. -/
theorem mask_apply (r s : Fin 256) : k0_pay12 (ix2 r s) = if s.val ≤ r.val then 1#1 else 0#1 := by
  pointwise [k0_pay12]
  unfold IntOp.cmpi
  have h : ((BitVec.ofNat 32 s.val).sle (BitVec.ofNat 32 r.val)) = decide (s.val ≤ r.val) := by
    have hr := r.isLt; have hs := s.isLt
    rw [BitVec.sle_eq_decide, BitVec.toInt_eq_toNat_of_lt (by simp; omega), BitVec.toInt_eq_toNat_of_lt (by simp; omega)]
    simp only [BitVec.toNat_ofNat]
    congr 1
    rw [Nat.mod_eq_of_lt (by omega), Nat.mod_eq_of_lt (by omega)]
    exact propext Int.ofNat_le
  simp only [h]
  by_cases hsr : s.val ≤ r.val <;> simp [hsr]

theorem headW_apply (b : FVec Ideal S256x1 .f32) (er : FVec Ideal S1x256 .f32) (B E : Fin 256 → ℝ)
    (hb : ∀ r, b (ix2 r 0) = (B r : EReal)) (he : ∀ s, er (ix2 0 s) = (E s : EReal)) (r s : Fin 256) :
    headW b er (ix2 r s) = ((if s.val ≤ r.val then Real.exp (B r + E s) else 0 : ℝ) : EReal) := by
  pointwise [headW]
  rw [mask_apply, hb, he, ← EReal.coe_add]
  by_cases h : s.val ≤ r.val
  · simp only [h, Scalar.select, if_true, Ideal.exp_coe]; rfl
  · simp [h, Scalar.select]

theorem scores_apply (w : FVec Ideal S256x256 .f32) (q k : FVec Ideal S256x256 .bf16) (W Q K : Fin 256 → Fin 256 → ℝ)
    (hw : ∀ r s, w (ix2 r s) = (W r s : EReal)) (hq : ∀ r s, q (ix2 r s) = (Q r s : EReal))
    (hk : ∀ r s, k (ix2 r s) = (K r s : EReal)) (r s : Fin 256) :
    k0_pay61 w q k (ix2 r s) = (((∑ e, Q r e * K s e) * W r s : ℝ) : EReal) := by
  pointwise [k0_pay61, hw, hq, hk]
  simp only [Mlstm.coe_sum, EReal.coe_mul, EReal.coe_add]

theorem inter_apply (q : FVec Ideal S256x256 .bf16) (ct : Vec Ideal S1x256x256 .f32) (Q C : Fin 256 → Fin 256 → ℝ)
    (hq : ∀ r s, q (ix2 r s) = (Q r s : EReal))
    (hc : ∀ r s, ct (ix3 0 r s) = (C r s : EReal)) (r d : Fin 256) :
    k0_pay65 q ct (ix2 r d) = (((∑ e, Q r e * C e d) : ℝ) : EReal) := by
  pointwise [k0_pay65, k0_pay57, hc, hq]
  simp only [Mlstm.coe_sum, EReal.coe_mul, EReal.coe_add]

theorem keys_apply (ec : FVec Ideal S256x1 .f32) (be : FVec Ideal S1x1 .f32) (k : FVec Ideal S256x256 .f32)
    (E : Fin 256 → ℝ) (B : ℝ) (K : Fin 256 → Fin 256 → ℝ) (he : ∀ r, ec (ix2 r 0) = (E r : EReal))
    (hb : be (ix2 0 0) = (B : EReal)) (hk : ∀ r s, k (ix2 r s) = (K r s : EReal)) (r e : Fin 256) :
    k0_pay81 ec be k (ix2 r e) = ((K r e * Real.exp (B + E r) : ℝ) : EReal) := by
  pointwise [k0_pay81]
  rw [hk, hb, he, ← EReal.coe_add, Ideal.exp_coe, ← EReal.coe_mul]

theorem memory_apply (be : FVec Ideal S1x1 .f32) (v : FVec Ideal S256x256 .bf16) (ct : Vec Ideal S1x256x256 .f32)
    (kw : FVec Ideal S256x256 .f32) (B : ℝ) (V C K : Fin 256 → Fin 256 → ℝ) (hb : be (ix2 0 0) = (B : EReal))
    (hv : ∀ r s, v (ix2 r s) = (V r s : EReal)) (hc : ∀ r s, ct (ix3 0 r s) = (C r s : EReal))
    (hk : ∀ r s, kw (ix2 r s) = (K r s : EReal)) (e d : Fin 256) :
    k0_pay89 be v (k0_pay57 ct) kw (ix3 0 e d) = ((Real.exp B * C e d + ∑ r, K r e * V r d : ℝ) : EReal) := by
  pointwise [k0_pay89, k0_pay57, k0_pay88, hc, hv, hk]
  rw [hb, Ideal.exp_coe]
  simp only [Mlstm.coe_sum, EReal.coe_mul, EReal.coe_add]

theorem normaliser_apply (be : FVec Ideal S1x1 .f32) (n : Vec Ideal S1x256 .f32)
    (kw : FVec Ideal S256x256 .f32) (B : ℝ) (N : Fin 256 → ℝ) (K : Fin 256 → Fin 256 → ℝ)
    (hb : be (ix2 0 0) = (B : EReal)) (hn : ∀ e, n (ix2 0 e) = (N e : EReal))
    (hk : ∀ r s, kw (ix2 r s) = (K r s : EReal)) (e : Fin 256) :
    k0_pay90 be n kw (ix2 0 e) = ((Real.exp B * N e + ∑ r, K r e : ℝ) : EReal) := by
  pointwise [k0_pay90, k0_pay88, hn, hk]
  rw [hb, Ideal.exp_coe]
  simp only [Mlstm.coe_sum, EReal.coe_mul, EReal.coe_add]

/-- One head's read-out, normalised, scaled and gated. -/
def headY (eb : FVec Ideal S256x1 .f32) (q : FVec Ideal S256x256 .f32) (v : FVec Ideal S256x256 .bf16)
    (n : Vec Ideal S1x256 .f32) (s inter : FVec Ideal S256x256 .f32) (ng : FVec Ideal S1x256 .f32)
    (o : Vec Ideal S256x256 .f32) : FVec Ideal S256x256 .bf16 :=
  let num : FVec Ideal S256x256 .f32 := k0_pay69 eb v s inter
  let sumS : FVec Ideal S256x1 .f32 := shapeCast S256x1
    (multiReduction .add [1] S256 s 0x00000000#32 reduces_S256x256_S256 (.inl rfl) rfl) shapeCasts_S256_S256x1
  let qn : FVec Ideal S256x256 .f32 := mulf q (broadcastTo S256x256 n broadcasts_S1x256_S256x256)
  let sumN : FVec Ideal S256x1 .f32 := shapeCast S256x1
    (multiReduction .add [1] S256 qn 0x00000000#32 reduces_S256x256_S256 (.inl rfl) rfl) shapeCasts_S256_S256x1
  let den : FVec Ideal S256x1 .f32 := maximumf (absf (addf sumS (mulf eb sumN)))
    (broadcast S256x1 (Scalar.ofBits .f32 0x3F800000#32))
  let h : FVec Ideal S256x256 .f32 := divf num (broadcastTo S256x256 den broadcasts_S256x1_S256x256)
  let sq : FVec Ideal S256x1 .f32 := shapeCast S256x1
    (multiReduction .add [1] S256 (mulf h h) 0x00000000#32 reduces_S256x256_S256 (.inl rfl) rfl) shapeCasts_S256_S256x1
  let rs : FVec Ideal S256x1 .f32 := rsqrt (addf (divf sq (broadcast S256x1 (Scalar.ofBits .f32 0x43800000#32)))
    (broadcast S256x1 (Scalar.ofBits .f32 0x358637BD#32)))
  k0_pay74 (mulf (mulf h (broadcastTo S256x256 rs broadcasts_S256x1_S256x256))
    (broadcastTo S256x256 ng broadcasts_S1x256_S256x256)) o

theorem headY_apply (eb : FVec Ideal S256x1 .f32) (q : FVec Ideal S256x256 .f32) (v : FVec Ideal S256x256 .bf16)
    (n : Vec Ideal S1x256 .f32) (s inter : FVec Ideal S256x256 .f32) (ng : FVec Ideal S1x256 .f32)
    (o : Vec Ideal S256x256 .f32) (B N : Fin 256 → ℝ) (Q V S I : Fin 256 → Fin 256 → ℝ)
    (hb : ∀ r, eb (ix2 r 0) = (B r : EReal)) (hq : ∀ r s, q (ix2 r s) = (Q r s : EReal))
    (hv : ∀ r s, v (ix2 r s) = (V r s : EReal)) (hn : ∀ e, n (ix2 0 e) = (N e : EReal))
    (hs : ∀ r e, s (ix2 r e) = (S r e : EReal)) (hi : ∀ r e, inter (ix2 r e) = (I r e : EReal)) (r d : Fin 256) :
    headY eb q v n s inter ng o (ix2 r d) =
      Mlstm.gated (fun d => ((∑ x, S r x * V x d) + B r * I r d) /
        max |(∑ x, S r x) + B r * ∑ x, Q r x * N x| 1) d (ng (ix2 0 d)) (o (ix2 r d)) := by
  have hden : max (FloatOps.absf (∑ x, s (ix2 r x) + eb (ix2 r 0) * ∑ x, q (ix2 r x) * n (ix2 0 x))) 1
      = ((max |(∑ x, S r x) + B r * ∑ x, Q r x * N x| 1 : ℝ) : EReal) := by
    simp only [hs, hb, hq, hn, Ideal.absf_def]
    simp only [← EReal.coe_mul, ← Mlstm.coe_sum, ← EReal.coe_add, ← EReal.coe_neg, ← Mlstm.coe_max, ← EReal.coe_one]
    rfl
  have hpos : max |(∑ x, S r x) + B r * ∑ x, Q r x * N x| 1 ≠ 0 := (lt_of_lt_of_le one_pos (le_max_right _ _)).ne'
  have hh : ∀ d, Ideal.div (∑ x, s (ix2 r x) * v (ix2 x d) + eb (ix2 r 0) * inter (ix2 r d))
      (max (FloatOps.absf (∑ x, s (ix2 r x) + eb (ix2 r 0) * ∑ x, q (ix2 r x) * n (ix2 0 x))) 1)
      = ((((∑ x, S r x * V x d) + B r * I r d) / max |(∑ x, S r x) + B r * ∑ x, Q r x * N x| 1 : ℝ) : EReal) := by
    intro d
    rw [hden, ← Mlstm.div_coe_coe _ hpos]
    simp only [hs, hb, hv, hi, Mlstm.coe_sum, EReal.coe_mul, EReal.coe_add]
  pointwise [headY, k0_pay69, k0_pay74]
  simp only [hh, Mlstm.zero_sub_ereal]
  rfl

/-- The block's capped gates. -/
theorem caps_apply (gz : Vec Ideal S256x128 .f32) (gb : Vec Ideal S1x128 .f32) (r : Fin 256) (l : Fin 128) :
    k0_pay11 gz gb (ix2 r l) = (Mlstm.cap (gz (ix2 r l) + gb (ix2 0 l)) : EReal) := by
  pointwise [k0_pay11]
  exact Mlstm.cap_coe _

/-- The block's summed forget gates: head `l`'s come from lane `l + 4`. -/
theorem sums_apply (gz : Vec Ideal S256x128 .f32) (gb : Vec Ideal S1x128 .f32) (r : Fin 256) (l m : Fin 128)
    (hm : m.val = l.val + 4) :
    k0_pay13 gz gb (ix2 r l) =
      ((∑ s : Fin 256, if s.val ≤ r.val then Mlstm.lf (Mlstm.cap (gz (ix2 s m) + gb (ix2 0 m))) else 0 : ℝ) : EReal) := by
  pointwise [k0_pay13]
  have e : ∀ h, (⟨(l.val + 128 - 124) % 128, h⟩ : Fin 128) = m := fun h => Fin.ext (by
    have := m.isLt; show (l.val + 128 - 124) % 128 = m.val; omega)
  simp only [e, caps_apply, Mlstm.lf_coe, mask_apply, Mlstm.coe_sum]
  refine Finset.sum_congr rfl fun s _ => ?_
  by_cases h : s.val ≤ r.val
  · rw [if_pos h, if_pos h, show (FloatOps.sitofp (F := Ideal) .f32 (BitVec.setWidth 32 (1#1)) : EReal) = 1 by
      show (((BitVec.setWidth 32 (1#1)).toInt : ℝ) : EReal) = 1
      rw [show (BitVec.setWidth 32 (1#1)).toInt = 1 by decide]; norm_num, one_mul]
  · rw [if_neg h, if_neg h, show (FloatOps.sitofp (F := Ideal) .f32 (BitVec.setWidth 32 (0#1)) : EReal) = 0 by
      show (((BitVec.setWidth 32 (0#1)).toInt : ℝ) : EReal) = 0
      rw [show (BitVec.setWidth 32 (0#1)).toInt = 0 by decide]; norm_num, zero_mul, EReal.coe_zero]

/-- The block's convolution: `X` runs over the eight rows kept from the block before, then the block's own. -/
theorem conv_apply (x : Vec Ideal S256x1024 .f32) (b : Vec Ideal S8x1024 .f32) (w : Vec Ideal S4x1024 .f32)
    (l : Fin 1024) (X : ℕ → ℝ) (W : Fin 4 → ℝ)
    (hx : ∀ r : Fin 256, x (ix2 r l) = (X (r.val + 8) : EReal)) (hb : ∀ r : Fin 8, b (ix2 r l) = (X r.val : EReal))
    (hw : ∀ j, w (ix2 j l) = (W j : EReal)) (r : Fin 256) :
    k0_pay7 x b w (ix2 r l) =
      (Mlstm.silu (X (r.val + 8) * W 0 + X (r.val + 7) * W 1 + X (r.val + 6) * W 2 + X (r.val + 5) * W 3) : EReal) := by
  have hr := r.isLt
  have key : ∀ (j : ℕ) (m : ℕ) (h₁ : m < 8 → m < 8) (h₂ : ¬ m < 8 → m - 8 < 256), m = j →
      (if h : m < 8 then b (ix2 ⟨m, h₁ h⟩ l) else x (ix2 ⟨m - 8, h₂ h⟩ l)) = (X j : EReal) := by
    rintro j m h₁ h₂ rfl
    split
    · rw [hb]
    · rw [hx]; congr 2; show m - 8 + 8 = m; omega
  rw [← Mlstm.silu_coe]
  pointwise [k0_pay7]
  have k1 := key (r.val + 7) ((8 + r.val + 264 - 1) % 264) (fun h => h) (fun h => by omega) (by omega)
  have k2 := key (r.val + 6) ((8 + r.val + 264 - 2) % 264) (fun h => h) (fun h => by omega) (by omega)
  have k3 := key (r.val + 5) ((8 + r.val + 264 - 3) % 264) (fun h => h) (fun h => by omega) (by omega)
  rw [k1, k2, k3, hx, hw, hw, hw, hw]
  simp only [EReal.coe_add, EReal.coe_mul]

/-- The queries' convolution is scaled. -/
theorem scaled_apply (x : FVec Ideal S256x1024 .f32) (l : Fin 1024) (r : Fin 256) (a : ℝ) (hx : x (ix2 r l) = (a : EReal)) :
    k0_pay8 x (Scalar.ofBits .f32 1031798784#32) (ix2 r l) = ((a * (1 / 16) : ℝ) : EReal) := by
  pointwise [k0_pay8]
  rw [hx, EReal.coe_mul, ← Mlstm.ofBits_sixteenth]

end Cert.KernelIdeal.Heads

end
-- ==== Proof.Block.lean ====
/- One block of 256 tokens: what the kernel stores for each head, and its value when the block's inputs and the state
   it finds hold the mixer's real numbers. -/
module

public import proofs.«01_k».proof.Proof.Heads
public import Idealize.ShloMosaic.Lib.Pipeline.Value
public import Idealize.ShloMosaic.Lib.Pipeline.ValueKit

@[expose] public section

noncomputable section

namespace Cert.KernelIdeal.Heads

open Idealize.ShloMosaic Idealize.SL.Sem Cert.KernelIdeal Cert.KernelIdeal.Gen

/-- What a grid point reads: its nine input blocks and the state it finds in the four scratch buffers. -/
structure Blk where
  x0 : Vec Ideal S256x1024 .f32
  x1 : Vec Ideal S256x1024 .f32
  x2 : Vec Ideal S256x1024 .f32
  x3 : Vec Ideal S256x1024 .f32
  x4 : Vec Ideal S256x128 .f32
  x5 : Vec Ideal S4x1024 .f32
  x6 : Vec Ideal S4x1024 .f32
  x7 : Vec Ideal S1x128 .f32
  x8 : Vec Ideal S1x1024 .f32
  s0 : Vec Ideal S4x256x256 .f32
  s1 : Vec Ideal S1x1024 .f32
  s2 : Vec Ideal S8x1024 .f32
  s3 : Vec Ideal S8x1024 .f32

/-- Column `e` of head `h`. -/
def col (h : Fin 4) (e : Fin 256) : Fin 1024 := ⟨256 * h.val + e.val, by omega⟩

/-- The lanes of head `h`'s input gate and forget gate. -/
def laneI (h : Fin 4) : Fin 128 := ⟨h.val, by omega⟩
def laneF (h : Fin 4) : Fin 128 := ⟨h.val + 4, by omega⟩

theorem sl_block (h : Fin 4) : S256x1024.Slices ![0, 256 * h.val] S256x256 :=
  ⟨rfl, fun a => by fin_cases a <;> simp <;> omega⟩
theorem sl_row (h : Fin 4) : S1x1024.Slices ![0, 256 * h.val] S1x256 :=
  ⟨rfl, fun a => by fin_cases a <;> simp <;> omega⟩
theorem sl_gate (h : Fin 4) : S256x128.Slices ![0, h.val] S256x1 :=
  ⟨rfl, fun a => by fin_cases a <;> simp <;> omega⟩
theorem sl_gateT (h : Fin 4) : S128x256.Slices ![h.val, 0] S1x256 :=
  ⟨rfl, fun a => by fin_cases a <;> simp <;> omega⟩

/-- Head `h`'s columns of a block, its plane of the matrix memory, its columns of the normaliser. -/
def rectY (h : Fin 4) : Rect S256x1024 := Rect.unit ![0, 256 * h.val] ![256, 256] (sl_block h).2
def rectC (h : Fin 4) : Rect S4x256x256 :=
  Rect.unit ![h.val, 0, 0] ![1, 256, 256] (fun a => by fin_cases a <;> simp <;> omega)
def rectN (h : Fin 4) : Rect S1x1024 := Rect.unit ![0, 256 * h.val] ![1, 256] (sl_row h).2

theorem slice_block (h : Fin 4) (X : FVec Ideal S256x1024 .f32) (r e : Fin 256) :
    extractStridedSlice S256x256 ![0, 256 * h.val] X (sl_block h) (ix2 r e) = X (ix2 r (col h e)) := by
  refine congrArg X (funext fun a => Fin.ext ?_)
  fin_cases a
  · exact Nat.zero_add _
  · rfl

theorem slice_row (h : Fin 4) (X : FVec Ideal S1x1024 .f32) (e : Fin 256) :
    extractStridedSlice S1x256 ![0, 256 * h.val] X (sl_row h) (ix2 0 e) = X (ix2 0 (col h e)) := by
  refine congrArg X (funext fun a => Fin.ext ?_)
  fin_cases a
  · rfl
  · rfl

theorem slice_gate (h : Fin 4) (X : FVec Ideal S256x128 .f32) (r : Fin 256) :
    extractStridedSlice S256x1 ![0, h.val] X (sl_gate h) (ix2 r 0) = X (ix2 r (laneI h)) := by
  refine congrArg X (funext fun a => Fin.ext ?_)
  fin_cases a
  · exact Nat.zero_add _
  · rfl

theorem slice_gateT (h : Fin 4) (X : FVec Ideal S128x256 .f32) (r : Fin 256) :
    extractStridedSlice S1x256 ![h.val, 0] X (sl_gateT h) (ix2 0 r) = X (ix2 (laneI h) r) := by
  refine congrArg X (funext fun a => Fin.ext ?_)
  fin_cases a
  · rfl
  · exact Nat.zero_add _

theorem rectY_emb (h : Fin 4) (r e : Fin 256) : (rectY h).emb (ix2 r e) = ix2 r (col h e) := by
  refine funext fun a => Fin.ext ?_
  refine (Rect.idx_unit_val _ _ _ _ a).trans ?_
  fin_cases a
  · exact Nat.zero_add _
  · rfl

theorem rectC_emb (h : Fin 4) (e d : Fin 256) : (rectC h).emb (ix3 0 e d) = ix3 h e d := by
  refine funext fun a => Fin.ext ?_
  refine (Rect.idx_unit_val _ _ _ _ a).trans ?_
  fin_cases a
  · rfl
  · exact Nat.zero_add _
  · exact Nat.zero_add _

theorem rectN_emb (h : Fin 4) (e : Fin 256) : (rectN h).emb (ix2 0 e) = ix2 0 (col h e) := by
  refine funext fun a => Fin.ext ?_
  refine (Rect.idx_unit_val _ _ _ _ a).trans ?_
  fin_cases a
  · rfl
  · rfl

namespace Blk

variable (B : Blk)

def colB (h : Fin 4) : FVec Ideal S256x1 .f32 := extractStridedSlice S256x1 ![0, h.val] (k0_pay13 B.x4 B.x7) (sl_gate h)
def colE (h : Fin 4) : FVec Ideal S256x1 .f32 := extractStridedSlice S256x1 ![0, h.val] (k0_pay14 B.x4 B.x7) (sl_gate h)
def rowE (h : Fin 4) : FVec Ideal S1x256 .f32 := extractStridedSlice S1x256 ![h.val, 0] (k0_pay15 B.x4 B.x7) (sl_gateT h)
def qs (h : Fin 4) : FVec Ideal S256x256 .f32 :=
  extractStridedSlice S256x256 ![0, 256 * h.val] (k0_pay8 (k0_pay7 B.x0 B.s2 B.x5) (Scalar.ofBits .f32 1031798784#32)) (sl_block h)
def ks (h : Fin 4) : FVec Ideal S256x256 .f32 :=
  extractStridedSlice S256x256 ![0, 256 * h.val] (k0_pay10 B.x1 B.s3 B.x6) (sl_block h)
def vs (h : Fin 4) : Vec Ideal S256x256 .f32 := View.ld B.x2 (rectY h)
def os (h : Fin 4) : Vec Ideal S256x256 .f32 := View.ld B.x3 (rectY h)
def cs (h : Fin 4) : Vec Ideal S1x256x256 .f32 := View.ld B.s0 (rectC h)
def ns (h : Fin 4) : Vec Ideal S1x256 .f32 := View.ld B.s1 (rectN h)
def gs (h : Fin 4) : FVec Ideal S1x256 .f32 := extractStridedSlice S1x256 ![0, 256 * h.val] (k0_pay72 B.x8) (sl_row h)
def low (X : FVec Ideal S256x256 .f32) : FVec Ideal S256x256 .bf16 := truncf .bf16 X bitsLt_bf16_f32

/-- What the block stores for head `h`: its output, its matrix memory, its normaliser. -/
def pieceY (h : Fin 4) : FVec Ideal S256x256 .bf16 :=
  headY (k0_pay33 (B.colB h)) (B.qs h) (low (B.vs h)) (B.ns h)
    (k0_pay61 (headW (B.colB h) (B.rowE h)) (low (B.qs h)) (low (B.ks h))) (k0_pay65 (low (B.qs h)) (B.cs h))
    (B.gs h) (B.os h)
def pieceC (h : Fin 4) : FVec Ideal S1x256x256 .f32 :=
  k0_pay89 (k0_pay29 (B.colB h)) (low (B.vs h)) (k0_pay57 (B.cs h)) (k0_pay81 (B.colE h) (k0_pay29 (B.colB h)) (B.ks h))
def pieceN (h : Fin 4) : FVec Ideal S1x256 .f32 :=
  k0_pay90 (k0_pay29 (B.colB h)) (B.ns h) (k0_pay81 (B.colE h) (k0_pay29 (B.colB h)) (B.ks h))

end Blk

/-- The block's inputs are the mixer's at tokens `256 t` on. -/
structure Blk.In (B : Blk) (x : Mlstm.Inputs) (t : ℕ) : Prop where
  q : ∀ h e (r : Fin 256), B.x0 (ix2 r (col h e)) = (x.zq h e (256 * t + r.val) : EReal)
  k : ∀ h e (r : Fin 256), B.x1 (ix2 r (col h e)) = (x.zk h e (256 * t + r.val) : EReal)
  v : ∀ h e (r : Fin 256), B.x2 (ix2 r (col h e)) = (x.zv h e (256 * t + r.val) : EReal)
  wq : ∀ h e j, B.x5 (ix2 j (col h e)) = (x.wq h e j : EReal)
  wk : ∀ h e j, B.x6 (ix2 j (col h e)) = (x.wk h e j : EReal)
  gi : ∀ h (r : Fin 256), B.x4 (ix2 r (laneI h)) + B.x7 (ix2 0 (laneI h)) = x.gi h (256 * t + r.val)
  gf : ∀ h (r : Fin 256), B.x4 (ix2 r (laneF h)) + B.x7 (ix2 0 (laneF h)) = x.gf h (256 * t + r.val)

/-- The state holds the mixer's memory after `256 t` tokens, and the last eight rows of queries' and keys' columns. -/
structure Holds (x : Mlstm.Inputs) (t : ℕ) (s0 : Vec Ideal S4x256x256 .f32) (s1 : Vec Ideal S1x1024 .f32)
    (s2 s3 : Vec Ideal S8x1024 .f32) : Prop where
  c : ∀ h e d, s0 (ix3 h e d) = (x.mem h e d (256 * t) : EReal)
  n : ∀ h e, s1 (ix2 0 (col h e)) = (x.nrm h e (256 * t) : EReal)
  q : ∀ h e (r : Fin 8), s2 (ix2 r (col h e)) = (Mlstm.zp (x.zq h e) (256 * t + r.val) : EReal)
  k : ∀ h e (r : Fin 8), s3 (ix2 r (col h e)) = (Mlstm.zp (x.zk h e) (256 * t + r.val) : EReal)

namespace Blk

variable {B : Blk} {x : Mlstm.Inputs} {t : ℕ} (hi : B.In x t) (hs : Holds x t B.s0 B.s1 B.s2 B.s3)
include hi

theorem colB_apply (h : Fin 4) (r : Fin 256) : B.colB h (ix2 r 0) = (Mlstm.loc (x.f h) (256 * t) (r.val + 1) : EReal) := by
  unfold colB
  rw [slice_gate, sums_apply _ _ _ _ (laneF h) rfl]
  simp only [hi.gf]
  exact congrArg _ (Mlstm.sum_masked r (fun s => Mlstm.lf (Mlstm.cap (x.gf h (256 * t + s)))))

theorem colE_apply (h : Fin 4) (r : Fin 256) :
    B.colE h (ix2 r 0) = (x.g h (256 * t + r.val) - Mlstm.loc (x.f h) (256 * t) (r.val + 1) : ℝ) := by
  unfold colE
  rw [slice_gate, EReal.coe_sub, ← colB_apply hi, colB, slice_gate]
  pointwise [k0_pay14]
  rw [caps_apply, hi.gi]; rfl

theorem rowE_apply (h : Fin 4) (r : Fin 256) :
    B.rowE h (ix2 0 r) = (x.g h (256 * t + r.val) - Mlstm.loc (x.f h) (256 * t) (r.val + 1) : ℝ) := by
  rw [← colE_apply hi]
  unfold rowE colE
  rw [slice_gateT, slice_gate]
  pointwise [k0_pay15]

include hs

theorem qs_apply (h : Fin 4) (r e : Fin 256) : B.qs h (ix2 r e) = (x.q h (256 * t + r.val) e : EReal) := by
  unfold qs
  rw [slice_block]
  refine scaled_apply _ _ _ _ (conv_apply _ _ _ _ (fun i => Mlstm.zp (x.zq h e) (256 * t + i)) (x.wq h e) (fun r => ?_)
    (hs.q h e) (hi.wq h e) r)
  rw [hi.q]; unfold Mlstm.zp
  rw [if_neg (by omega)]; congr 2

theorem ks_apply (h : Fin 4) (r e : Fin 256) : B.ks h (ix2 r e) = (x.k h (256 * t + r.val) e : EReal) := by
  unfold ks
  rw [slice_block]
  refine conv_apply _ _ _ _ (fun i => Mlstm.zp (x.zk h e) (256 * t + i)) (x.wk h e) (fun r => ?_)
    (hs.k h e) (hi.wk h e) r
  rw [hi.k]; unfold Mlstm.zp
  rw [if_neg (by omega)]; congr 2

omit hs in
theorem vs_apply (h : Fin 4) (r e : Fin 256) : B.vs h (ix2 r e) = (x.v h (256 * t + r.val) e : EReal) := by
  have := hi.v h e r
  rw [← rectY_emb] at this; exact this

omit hi in
theorem cs_apply (h : Fin 4) (e d : Fin 256) : B.cs h (ix3 0 e d) = (x.mem h e d (256 * t) : EReal) := by
  have := hs.c h e d
  rw [← rectC_emb] at this; exact this

omit hi in
theorem ns_apply (h : Fin 4) (e : Fin 256) : B.ns h (ix2 0 e) = (x.nrm h e (256 * t) : EReal) := by
  have := hs.n h e
  rw [← rectN_emb] at this; exact this

omit hs in
theorem last_apply (h : Fin 4) : k0_pay29 (B.colB h) (ix2 0 0) = (Mlstm.loc (x.f h) (256 * t) 256 : EReal) := by
  pointwise [k0_pay29]
  exact colB_apply hi h 255

theorem kw_apply (h : Fin 4) (r e : Fin 256) : k0_pay81 (B.colE h) (k0_pay29 (B.colB h)) (B.ks h) (ix2 r e)
    = ((x.k h (256 * t + r.val) e * Real.exp (Mlstm.loc (x.f h) (256 * t) 256
        - Mlstm.loc (x.f h) (256 * t) (r.val + 1) + x.g h (256 * t + r.val)) : ℝ) : EReal) := by
  rw [keys_apply _ _ _ (fun r => x.g h (256 * t + r.val) - Mlstm.loc (x.f h) (256 * t) (r.val + 1))
    (Mlstm.loc (x.f h) (256 * t) 256) (fun r e => x.k h (256 * t + r.val) e) (colE_apply hi h) (last_apply hi h)
    (ks_apply hi hs h)]
  congr 3; ring

/-- The matrix memory the block leaves. -/
theorem pieceC_apply (h : Fin 4) (e d : Fin 256) : B.pieceC h (ix3 0 e d) = (x.mem h e d (256 * (t + 1)) : EReal) := by
  unfold pieceC
  rw [memory_apply _ (low (B.vs h)) _ _ _ (fun r d => x.v h (256 * t + r.val) d) _ _ (last_apply hi h) (vs_apply hi h) (cs_apply hs h)
    (kw_apply hi hs h)]
  refine congrArg _ ?_
  unfold Mlstm.Inputs.mem Mlstm.mem
  rw [Nat.mul_succ, Mlstm.st_chunk (L := 256), add_comm]
  congr 1
  exact Finset.sum_congr rfl fun s _ => by ring

/-- The normaliser the block leaves. -/
theorem pieceN_apply (h : Fin 4) (e : Fin 256) : B.pieceN h (ix2 0 e) = (x.nrm h e (256 * (t + 1)) : EReal) := by
  unfold pieceN
  rw [normaliser_apply _ _ _ _ _ _ (last_apply hi h) (ns_apply hs h) (kw_apply hi hs h)]
  refine congrArg _ ?_
  unfold Mlstm.Inputs.nrm Mlstm.nrm
  rw [Nat.mul_succ, Mlstm.st_chunk (L := 256), add_comm]

/-- The output the block stores. -/
theorem pieceY_apply (h : Fin 4) (r d : Fin 256) : B.pieceY h (ix2 r d)
    = Mlstm.gated (x.hid h (256 * t + r.val)) d (B.x8 (ix2 0 (col h d))) (B.x3 (ix2 r (col h d))) := by
  unfold pieceY
  rw [headY_apply _ _ (low (B.vs h)) _ _ _ _ _ (fun r => Real.exp (Mlstm.loc (x.f h) (256 * t) (r.val + 1)))
    (fun e => x.nrm h e (256 * t)) (fun r e => x.q h (256 * t + r.val) e) (fun r e => x.v h (256 * t + r.val) e)
    (fun r s => Mlstm.score (x.q h (256 * t + r.val)) (x.k h) (256 * t + s.val) * (if s.val ≤ r.val then
        Real.exp (Mlstm.loc (x.f h) (256 * t) (r.val + 1) - Mlstm.loc (x.f h) (256 * t) (s.val + 1)
          + x.g h (256 * t + s.val)) else 0))
    (fun r d => ∑ e, x.q h (256 * t + r.val) e * x.mem h e d (256 * t)) ?_ (qs_apply hi hs h) (vs_apply hi h)
    (ns_apply hs h) ?_ ?_]
  · have e1 : B.gs h (ix2 0 d) = B.x8 (ix2 0 (col h d)) := by
      unfold gs; rw [slice_row]; pointwise [k0_pay72]
    have e2 : B.os h (ix2 r d) = B.x3 (ix2 r (col h d)) := by rw [← rectY_emb]; rfl
    rw [e1, e2]
    congr 1
    funext d
    unfold Mlstm.Inputs.hid Mlstm.hid
    rw [← Mlstm.num_row (L := 256), ← Mlstm.den_row (L := 256)]
    rfl
  · intro r
    pointwise [k0_pay33]
    rw [colB_apply hi, Ideal.exp_coe]
  · intro r s
    rw [scores_apply _ (low (B.qs h)) (low (B.ks h)) _ _ _ (headW_apply _ _ _ _ (colB_apply hi h) (rowE_apply hi h)) (qs_apply hi hs h) (ks_apply hi hs h)]
    congr 2
    split
    · congr 1; ring
    · rfl
  · intro r d
    exact inter_apply (low (B.qs h)) _ _ _ (qs_apply hi hs h) (cs_apply hs h) r d

end Blk

end Cert.KernelIdeal.Heads

end
-- ==== Proof.Bridge.lean ====
/- The four heads' named values are the same functions of their slices. -/
module

public import proofs.«01_k».proof.Proof.Heads

@[expose] public section

noncomputable section

namespace Cert.KernelIdeal.Heads

open Idealize.ShloMosaic Idealize.SL.Sem Cert.KernelIdeal Cert.KernelIdeal.Gen

section
variable (gz : Vec Ideal S256x128 .f32) (gb : Vec Ideal S1x128 .f32) (b : FVec Ideal S256x1 .f32)
  (e : FVec Ideal S128x256 .f32) (X : FVec Ideal S256x1024 .f32) (q k : FVec Ideal S256x256 .f32)
  (ql kl vl : FVec Ideal S256x256 .bf16) (w s inter : FVec Ideal S256x256 .f32) (ct : Vec Ideal S1x256x256 .f32)
  (n : Vec Ideal S1x256 .f32) (ng : Vec Ideal S1x1024 .f32) (o v : Vec Ideal S256x256 .f32) (be be' : FVec Ideal S1x1 .f32)
  (ec : FVec Ideal S256x1 .f32) (c : FVec Ideal S256x256 .f32)

theorem w0 : k0_pay24 gz gb = headW (k0_pay16 gz gb) (extractStridedSlice S1x256 ![0, 0] (k0_pay15 gz gb) slices_S128x256_o0_0_S1x256) := rfl
theorem w1 : k0_pay26 k0_pay12 (k0_pay25 gz gb) (Scalar.ofBits .f32 0x00000000#32) =
    headW (k0_pay17 gz gb) (extractStridedSlice S1x256 ![1, 0] (k0_pay15 gz gb) slices_S128x256_o1_0_S1x256) := rfl
theorem w2 : k0_pay27 k0_pay12 e b = headW b (extractStridedSlice S1x256 ![2, 0] e slices_S128x256_o2_0_S1x256) := rfl
theorem w3 : k0_pay28 k0_pay12 e b = headW b (extractStridedSlice S1x256 ![3, 0] e slices_S128x256_o3_0_S1x256) := rfl

theorem last1 : k0_pay30 b = k0_pay29 b := rfl
theorem last2 : k0_pay31 b = k0_pay29 b := rfl
theorem last3 : k0_pay32 b = k0_pay29 b := rfl
theorem exp1 : k0_pay34 b = k0_pay33 b := rfl
theorem exp2 : k0_pay35 b = k0_pay33 b := rfl
theorem exp3 : k0_pay36 b = k0_pay33 b := rfl
theorem sc1 : k0_pay62 w ql kl = k0_pay61 w ql kl := rfl
theorem sc2 : k0_pay63 w ql kl = k0_pay61 w ql kl := rfl
theorem sc3 : k0_pay64 w ql kl = k0_pay61 w ql kl := rfl
theorem in1 : k0_pay66 ql ct = k0_pay65 ql ct := rfl
theorem in2 : k0_pay67 ql ct = k0_pay65 ql ct := rfl
theorem in3 : k0_pay68 ql ct = k0_pay65 ql ct := rfl
theorem ct1 : k0_pay58 ct = k0_pay57 ct := rfl
theorem ct2 : k0_pay59 ct = k0_pay57 ct := rfl
theorem ct3 : k0_pay60 ct = k0_pay57 ct := rfl

theorem y0 : k0_pay74 (k0_pay73 b q vl n s inter ng) o =
    headY b q vl n s inter (extractStridedSlice S1x256 ![0, 0] (k0_pay72 ng) slices_S1x1024_o0_0_S1x256) o := rfl
theorem y1 : k0_pay78 (k0_pay75 b q n s (k0_pay69 b vl s inter) (k0_pay72 ng)) (k0_pay76 o) k0_pay77 =
    headY b q vl n s inter (extractStridedSlice S1x256 ![0, 256] (k0_pay72 ng) slices_S1x1024_o0_256_S1x256) o := rfl
theorem y2 : k0_pay79 b q n s (k0_pay70 b vl s inter) (k0_pay72 ng) o =
    headY b q vl n s inter (extractStridedSlice S1x256 ![0, 512] (k0_pay72 ng) slices_S1x1024_o0_512_S1x256) o := rfl
theorem y3 : k0_pay80 b q n s (k0_pay71 b vl s inter) (k0_pay72 ng) o =
    headY b q vl n s inter (extractStridedSlice S1x256 ![0, 768] (k0_pay72 ng) slices_S1x1024_o0_768_S1x256) o := rfl

theorem kw1 : k0_pay83 k (k0_pay82 ec be) = k0_pay81 ec be k := rfl
theorem kw2 : k0_pay84 ec be k = k0_pay81 ec be k := rfl
theorem kw3 : k0_pay85 ec be k = k0_pay81 ec be k := rfl
theorem c1 : k0_pay92 be k vl c (k0_pay82 ec be') = k0_pay89 be vl c (k0_pay81 ec be' k) := rfl
theorem c2 : k0_pay96 be c (k0_pay86 ec be' k vl) = k0_pay89 be vl c (k0_pay81 ec be' k) := rfl
theorem c3 : k0_pay99 be c (k0_pay87 ec be' k vl) = k0_pay89 be vl c (k0_pay81 ec be' k) := rfl
theorem n1 : k0_pay94 k (k0_pay93 be n) = k0_pay90 be n k := rfl
theorem n2 : k0_pay97 be n k = k0_pay90 be n k := rfl
theorem n3 : k0_pay1 (k0_pay100 be n k) = k0_pay90 be n k := rfl

end

end Cert.KernelIdeal.Heads

end
-- ==== Proof.Stored.lean ====
/- Buffers a kernel fills at one grid point and reads at the later ones. -/
module

public import Idealize.ShloMosaic.Lib.StableHlo.Run
public import Idealize.ShloMosaic.Lib.Pipeline.Value
public import Idealize.ShloMosaic.Lib.Pipeline.ValueKit
public import Idealize.ShloMosaic.Lib.Tactic
public import Idealize.ShloMosaic.Lib.Pointwise

@[expose] public section

noncomputable section

namespace Cert.Stored

open Idealize.ShloMosaic Idealize.ShloMosaic.TcCoe Idealize.SL.Sem

/-- A load out of a buffer that one whole store filled reads what was stored. -/
theorem ld_filled {S : Shape} {e : EltTy} {sig : RefSig} {κ : Kind} {sp : Space} (v : View sig κ sp S e)
    {off : Fin S.rank → Nat} (inb : ∀ a, off a + S.size a ≤ S.size a) (w : S.Idx → Elt Ideal e) (r : Rect S)
    (h : ∀ a, off a = 0) :
    v.readCov [(⟨Rect.unit off (no_index S.size) inb, w⟩ : View.Piece (Elt Ideal) S e)] r.toLoadRect = View.ld w r := by
  have h' : off = fun _ => 0 := funext h
  subst h'
  rw [View.readCov_eq_canon_ld, View.canon_cons_unit_lit _ _ _ (fun _ => rfl)]
  intro y
  refine ⟨_, List.mem_singleton_self _, ?_⟩
  show y ∈ (Rect.unit (fun _ => 0) S.size inb).set
  rw [Rect.mem_set_unit]
  exact fun a => ⟨Nat.zero_le _, by simp⟩

/-- A value made at the first point of every run of `p` points and kept through the run: after point `n` it is still what
    point `n`'s own place in the grid names, when that does not change within a run. -/
theorem kept {O S : Type} {N p : ℕ} (outs : (n : ℕ) → n < N → O × S) (st : (n : ℕ) → n < N → O × S → O × S) (j : O × S)
    (W : (n : ℕ) → n < N → S) (out : (n : ℕ) → n < N → S → O)
    (zero : ∀ h, outs 0 h = st 0 h j)
    (succ : ∀ n h, outs (n + 1) h = st (n + 1) h (outs n (Nat.lt_of_succ_lt h)))
    (first : ∀ n h acc, n % p = 0 → st n h acc = (out n h (W n h), W n h))
    (later : ∀ n h acc, ¬n % p = 0 → st n h acc = (out n h acc.2, acc.2))
    (same : ∀ n h, ¬(n + 1) % p = 0 → W (n + 1) h = W n (Nat.lt_of_succ_lt h)) :
    ∀ n h, outs n h = (out n h (W n h), W n h)
  | 0, h => by rw [zero, first 0 h _ (Nat.zero_mod _)]
  | n + 1, h => by
    by_cases e : (n + 1) % p = 0
    · rw [succ, first _ h _ e]
    · rw [succ, later _ h _ e, kept outs st j W out zero succ first later same n, same n h e]

end Cert.Stored

end
-- ==== Proof.Opened.lean ====
/- One grid point of the kernel: the state it leaves, as the pieces the block stores per head. -/
module

public import proofs.«01_k».proof.Proof.Gen.KernelIdeal.Value
public import proofs.«01_k».proof.Proof.Block
public import proofs.«01_k».proof.Proof.Bridge
public import proofs.«01_k».proof.Proof.Stored
public import Idealize.ShloMosaic.Lib.StableHlo.Run
public import Idealize.ShloMosaic.Lib.Tactic

@[expose] public section

noncomputable section

namespace Cert.KernelIdeal.Heads

open Idealize.ShloMosaic Idealize.ShloMosaic.TcCoe Idealize.SL.Sem Cert.KernelIdeal Cert.KernelIdeal.Gen Cert.KernelIdeal.Value Cert.Stored

/-- The point's output, matrix memory and normaliser: the four heads' pieces over what was stored before them. -/
def Blk.outY (B : Blk) (Z : List (View.Piece (Elt Ideal) S256x1024 .bf16)) : Vec Ideal S256x1024 .bf16 :=
  View.canon (⟨rectY 3, B.pieceY 3⟩ :: ⟨rectY 2, B.pieceY 2⟩ :: ⟨rectY 1, B.pieceY 1⟩ :: ⟨rectY 0, B.pieceY 0⟩ :: Z)
def Blk.outC (B : Blk) (Z : List (View.Piece (Elt Ideal) S4x256x256 .f32)) : Vec Ideal S4x256x256 .f32 :=
  View.canon (⟨rectC 3, B.pieceC 3⟩ :: ⟨rectC 2, B.pieceC 2⟩ :: ⟨rectC 1, B.pieceC 1⟩ :: ⟨rectC 0, B.pieceC 0⟩ :: Z)
def Blk.outN (B : Blk) (Z : List (View.Piece (Elt Ideal) S1x1024 .f32)) : Vec Ideal S1x1024 .f32 :=
  View.canon (⟨rectN 3, B.pieceN 3⟩ :: ⟨rectN 2, B.pieceN 2⟩ :: ⟨rectN 1, B.pieceN 1⟩ :: ⟨rectN 0, B.pieceN 0⟩ :: Z)

variable (m : (l : Loc nD τ sig) → Buf (Elt Ideal) l)

/-- What point `t` reads, over the state it finds. -/
def blk (c : Dev nD) (t : Fin cfg0.N) (s0 : Vec Ideal S4x256x256 .f32) (s1 : Vec Ideal S1x1024 .f32)
    (s2 s3 : Vec Ideal S8x1024 .f32) : Blk where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  s0 := s0
  s1 := s1
  s2 := s2
  s3 := s3

theorem read_c (x : Vec Ideal S4x256x256 .f32) (h : (Memref.whole cc0_scratch0).IsWhole) :
    View.read (Elt Ideal) (View.whole cc0_scratch0) (h.unread x) = x := h.read_unread x
theorem read_n (x : Vec Ideal S1x1024 .f32) (h : (Memref.whole cc0_scratch1).IsWhole) :
    View.read (Elt Ideal) (View.whole cc0_scratch1) (h.unread x) = x := h.read_unread x
theorem read_q (x : Vec Ideal S8x1024 .f32) (h : (Memref.whole cc0_scratch2).IsWhole) :
    View.read (Elt Ideal) (View.whole cc0_scratch2) (h.unread x) = x := h.read_unread x
theorem read_k (x : Vec Ideal S8x1024 .f32) (h : (Memref.whole cc0_scratch3).IsWhole) :
    View.read (Elt Ideal) (View.whole cc0_scratch3) (h.unread x) = x := h.read_unread x

theorem later_y (c : Dev nD) (t : Fin cfg0.N) (acc) (h0 : ¬t.val % 32 = 0) :
    (stAt0 m c t.val t.isLt acc).1 = (blk m c t acc.2.1 acc.2.2.1 acc.2.2.2.1 acc.2.2.2.2).outY [] := by
  rw [stAt0_B m c t acc h0]
  dsimp only
  unfold out0_B_9
  rw [View.read_writes_eq_canon _ _ _ (fun y => cover0_B_9 (y := y) ..)]
  unfold kernelRun0_B
  dsimp only
  sl_unfold_words
  simp only [View.readAt_eq_ld, Memref.IsWhole.read_unread, read_c, read_n, read_q, read_k]
  simp (disch := decide) only [ld_filled, View.ld_unit_lit, View.canon_cons_unit_lit]
  simp only [w0, w1, w2, w3, last1, last2, last3, exp1, exp2, exp3, sc1, sc2, sc3, in1, in2, in3, ct1, ct2, ct3, y0, y1, y2, y3]
  rfl

theorem later_c (c : Dev nD) (t : Fin cfg0.N) (acc) (h0 : ¬t.val % 32 = 0) :
    (stAt0 m c t.val t.isLt acc).2.1 = (blk m c t acc.2.1 acc.2.2.1 acc.2.2.2.1 acc.2.2.2.2).outC [] := by
  rw [stAt0_B m c t acc h0]
  dsimp only
  unfold sout0_B_0
  rw [View.read_writes_eq_canon _ _ _ (fun y => scover0_B_0 (y := y) ..)]
  unfold kernelRun0_B
  dsimp only
  sl_unfold_words
  simp only [View.readAt_eq_ld, Memref.IsWhole.read_unread, read_c, read_n, read_q, read_k]
  simp (disch := decide) only [ld_filled, View.ld_unit_lit, View.canon_cons_unit_lit]
  simp only [last1, last2, last3, ct1, ct2, ct3, kw1, kw2, kw3, c1, c2, c3]
  rfl

theorem later_n (c : Dev nD) (t : Fin cfg0.N) (acc) (h0 : ¬t.val % 32 = 0) :
    (stAt0 m c t.val t.isLt acc).2.2.1 = (blk m c t acc.2.1 acc.2.2.1 acc.2.2.2.1 acc.2.2.2.2).outN [] := by
  rw [stAt0_B m c t acc h0]
  dsimp only
  unfold sout0_B_1
  rw [View.read_writes_eq_canon _ _ _ (fun y => scover0_B_1 (y := y) ..)]
  unfold kernelRun0_B
  dsimp only
  sl_unfold_words
  simp only [View.readAt_eq_ld, Memref.IsWhole.read_unread, read_c, read_n, read_q, read_k]
  simp (disch := decide) only [ld_filled, View.ld_unit_lit, View.canon_cons_unit_lit]
  simp only [last1, last2, last3, kw1, kw2, kw3, n1, n2, n3]
  rfl

theorem later_q (c : Dev nD) (t : Fin cfg0.N) (acc) (h0 : ¬t.val % 32 = 0) :
    (stAt0 m c t.val t.isLt acc).2.2.2.1 = k0_pay6 ((blk m c t acc.2.1 acc.2.2.1 acc.2.2.2.1 acc.2.2.2.2).x0) := by
  rw [stAt0_B m c t acc h0]
  dsimp only
  unfold sout0_B_2
  rw [View.read_writes_eq_canon _ _ _ (fun y => scover0_B_2 (y := y) ..)]
  unfold kernelRun0_B
  dsimp only
  sl_unfold_words
  simp only [View.readAt_eq_ld, Memref.IsWhole.read_unread, read_c, read_n, read_q, read_k]
  simp (disch := decide) only [ld_filled, View.ld_unit_lit, View.canon_cons_unit_lit]
  rfl

theorem later_k (c : Dev nD) (t : Fin cfg0.N) (acc) (h0 : ¬t.val % 32 = 0) :
    (stAt0 m c t.val t.isLt acc).2.2.2.2 = k0_pay9 ((blk m c t acc.2.1 acc.2.2.1 acc.2.2.2.1 acc.2.2.2.2).x1) := by
  rw [stAt0_B m c t acc h0]
  dsimp only
  unfold sout0_B_3
  rw [View.read_writes_eq_canon _ _ _ (fun y => scover0_B_3 (y := y) ..)]
  unfold kernelRun0_B
  dsimp only
  sl_unfold_words
  simp only [View.readAt_eq_ld, Memref.IsWhole.read_unread, read_c, read_n, read_q, read_k]
  simp (disch := decide) only [ld_filled, View.ld_unit_lit, View.canon_cons_unit_lit]
  rfl

theorem first_y (c : Dev nD) (t : Fin cfg0.N) (acc) (h0 : t.val % 32 = 0) :
    (stAt0 m c t.val t.isLt acc).1 = (blk m c t (k0_pay2 (F := Ideal)) (k0_pay3 (F := Ideal)) (k0_pay4 (F := Ideal)) (k0_pay5 (F := Ideal))).outY [] := by
  rw [stAt0_A m c t acc h0]
  dsimp only
  unfold out0_A_9
  rw [View.read_writes_eq_canon _ _ _ (fun y => cover0_A_9 (y := y) ..)]
  unfold kernelRun0_A
  dsimp only
  sl_unfold_words
  simp only [View.readAt_eq_ld, Memref.IsWhole.read_unread, read_c, read_n, read_q, read_k]
  simp (disch := decide) only [ld_filled, View.ld_unit_lit, View.canon_cons_unit_lit]
  simp only [w0, w1, w2, w3, last1, last2, last3, exp1, exp2, exp3, sc1, sc2, sc3, in1, in2, in3, ct1, ct2, ct3, y0, y1, y2, y3]
  rfl

theorem first_c (c : Dev nD) (t : Fin cfg0.N) (acc) (h0 : t.val % 32 = 0) :
    (stAt0 m c t.val t.isLt acc).2.1 = (blk m c t (k0_pay2 (F := Ideal)) (k0_pay3 (F := Ideal)) (k0_pay4 (F := Ideal)) (k0_pay5 (F := Ideal))).outC [⟨Rect.unit ![0, 0, 0] ![4, 256, 256] inb_S4x256x256_S4x256x256_0_0_0, k0_pay2 (F := Ideal)⟩] := by
  rw [stAt0_A m c t acc h0]
  dsimp only
  unfold sout0_A_0
  rw [View.read_writes_eq_canon _ _ _ (fun y => scover0_A_0 (y := y) ..)]
  unfold kernelRun0_A
  dsimp only
  sl_unfold_words
  simp only [View.readAt_eq_ld, Memref.IsWhole.read_unread, read_c, read_n, read_q, read_k]
  simp (disch := decide) only [ld_filled, View.ld_unit_lit, View.canon_cons_unit_lit]
  simp only [last1, last2, last3, ct1, ct2, ct3, kw1, kw2, kw3, c1, c2, c3]
  rfl

theorem first_n (c : Dev nD) (t : Fin cfg0.N) (acc) (h0 : t.val % 32 = 0) :
    (stAt0 m c t.val t.isLt acc).2.2.1 = (blk m c t (k0_pay2 (F := Ideal)) (k0_pay3 (F := Ideal)) (k0_pay4 (F := Ideal)) (k0_pay5 (F := Ideal))).outN [⟨Rect.unit ![0, 0] ![1, 1024] inb_S1x1024_S1x1024_0_0, k0_pay3 (F := Ideal)⟩] := by
  rw [stAt0_A m c t acc h0]
  dsimp only
  unfold sout0_A_1
  rw [View.read_writes_eq_canon _ _ _ (fun y => scover0_A_1 (y := y) ..)]
  unfold kernelRun0_A
  dsimp only
  sl_unfold_words
  simp only [View.readAt_eq_ld, Memref.IsWhole.read_unread, read_c, read_n, read_q, read_k]
  simp (disch := decide) only [ld_filled, View.ld_unit_lit, View.canon_cons_unit_lit]
  simp only [last1, last2, last3, kw1, kw2, kw3, n1, n2, n3]
  rfl

theorem first_q (c : Dev nD) (t : Fin cfg0.N) (acc) (h0 : t.val % 32 = 0) :
    (stAt0 m c t.val t.isLt acc).2.2.2.1 = k0_pay6 ((blk m c t (k0_pay2 (F := Ideal)) (k0_pay3 (F := Ideal)) (k0_pay4 (F := Ideal)) (k0_pay5 (F := Ideal))).x0) := by
  rw [stAt0_A m c t acc h0]
  dsimp only
  unfold sout0_A_2
  rw [View.read_writes_eq_canon _ _ _ (fun y => scover0_A_2 (y := y) ..)]
  unfold kernelRun0_A
  dsimp only
  sl_unfold_words
  simp only [View.readAt_eq_ld, Memref.IsWhole.read_unread, read_c, read_n, read_q, read_k]
  simp (disch := decide) only [ld_filled, View.ld_unit_lit, View.canon_cons_unit_lit]
  rfl

theorem first_k (c : Dev nD) (t : Fin cfg0.N) (acc) (h0 : t.val % 32 = 0) :
    (stAt0 m c t.val t.isLt acc).2.2.2.2 = k0_pay9 ((blk m c t (k0_pay2 (F := Ideal)) (k0_pay3 (F := Ideal)) (k0_pay4 (F := Ideal)) (k0_pay5 (F := Ideal))).x1) := by
  rw [stAt0_A m c t acc h0]
  dsimp only
  unfold sout0_A_3
  rw [View.read_writes_eq_canon _ _ _ (fun y => scover0_A_3 (y := y) ..)]
  unfold kernelRun0_A
  dsimp only
  sl_unfold_words
  simp only [View.readAt_eq_ld, Memref.IsWhole.read_unread, read_c, read_n, read_q, read_k]
  simp (disch := decide) only [ld_filled, View.ld_unit_lit, View.canon_cons_unit_lit]
  rfl

end Cert.KernelIdeal.Heads

end
-- ==== Proof.Fold.lean ====
/- The kernel's grid, point by point: what it carries and what it writes. -/
module

public import proofs.«01_k».proof.Proof.Opened

@[expose] public section

noncomputable section

namespace Cert.KernelIdeal.Heads

open Idealize.ShloMosaic Idealize.ShloMosaic.TcCoe Idealize.SL.Sem Cert.KernelIdeal Cert.KernelIdeal.Gen
  Cert.KernelIdeal.Value

/-- One store of several: it reads its own value where it hits, and the earlier ones' where it misses. -/
theorem read_store {S : Shape} {e : EltTy} (r : Rect S) (w : r.shape.Idx → Elt Ideal e)
    (L : List (View.Piece (Elt Ideal) S e)) (y : S.Idx) (v : Elt Ideal e)
    (hit : ∀ x, r.emb x = y → w x = v) (miss : y ∉ r.set → View.canon L y = v) :
    View.canon ((⟨r, w⟩ : View.Piece (Elt Ideal) S e) :: L) y = v := by
  by_cases hm : y ∈ r.set
  · obtain ⟨x, hx⟩ := r.exists_idx_of_mem hm
    have hx' : r.emb x = y := hx
    rw [← hx', View.canon_cons_emb]
    exact hit x hx'
  · rw [View.canon_cons_of_not_mem _ _ hm]; exact miss hm

/-- Four stores through rectangles that do not meet: each rectangle reads its own store. -/
theorem read_pieces {S : Shape} {e : EltTy} (r : Fin 4 → Rect S) (P : ∀ h, (r h).shape.Idx → Elt Ideal e)
    (Z : List (View.Piece (Elt Ideal) S e)) (h : Fin 4) (y : S.Idx) (v : Elt Ideal e)
    (hit : ∀ h' x, (r h').emb x = y → P h' x = v) (hy : y ∈ (r h).set) :
    View.canon (⟨r 3, P 3⟩ :: ⟨r 2, P 2⟩ :: ⟨r 1, P 1⟩ :: ⟨r 0, P 0⟩ :: Z) y = v := by
  refine read_store _ _ _ _ _ (hit 3) fun h3 => read_store _ _ _ _ _ (hit 2) fun h2 =>
    read_store _ _ _ _ _ (hit 1) fun h1 => read_store _ _ _ _ _ (hit 0) fun h0 => False.elim ?_
  have : ∀ k : Fin 4, k = 0 ∨ k = 1 ∨ k = 2 ∨ k = 3 := by decide
  rcases this h with hk | hk | hk | hk <;> subst hk <;> contradiction

theorem rectY_inv (h h' : Fin 4) (r d : Fin 256) (x : (rectY h').shape.Idx) (E : (rectY h').emb x = ix2 r (col h d)) :
    ∃ e : h' = h, x = ix2 r d := by
  have a := congrArg Fin.val (congrFun E 1)
  have a' := congrArg Fin.val (congrFun E 0)
  rw [show ((rectY h').emb x 1).val = 256 * h'.val + (x 1).val from Rect.idx_unit_val _ _ _ _ 1] at a
  rw [show ((rectY h').emb x 0).val = 0 + (x 0).val from Rect.idx_unit_val _ _ _ _ 0] at a'
  have b : (x 1).val < 256 := (x 1).isLt
  replace a : 256 * h'.val + (x 1).val = 256 * h.val + d.val := a
  replace a' : 0 + (x 0).val = r.val := a'
  refine ⟨Fin.ext (by omega), funext fun k => Fin.ext ?_⟩
  match k with
  | ⟨0, _⟩ => show (x 0).val = r.val; omega
  | ⟨1, _⟩ => show (x 1).val = d.val; omega

theorem rectN_inv (h h' : Fin 4) (d : Fin 256) (x : (rectN h').shape.Idx) (E : (rectN h').emb x = ix2 0 (col h d)) :
    ∃ e : h' = h, x = ix2 0 d := by
  have a := congrArg Fin.val (congrFun E 1)
  rw [show ((rectN h').emb x 1).val = 256 * h'.val + (x 1).val from Rect.idx_unit_val _ _ _ _ 1] at a
  have b : (x 1).val < 256 := (x 1).isLt
  have b' : (x 0).val < 1 := (x 0).isLt
  replace a : 256 * h'.val + (x 1).val = 256 * h.val + d.val := a
  refine ⟨Fin.ext (by omega), funext fun k => Fin.ext ?_⟩
  match k with
  | ⟨0, _⟩ => show (x 0).val = 0; omega
  | ⟨1, _⟩ => show (x 1).val = d.val; omega

theorem rectC_inv (h h' : Fin 4) (r d : Fin 256) (x : (rectC h').shape.Idx) (E : (rectC h').emb x = ix3 h r d) :
    ∃ e : h' = h, x = ix3 0 r d := by
  have a := congrArg Fin.val (congrFun E 0)
  have a1 := congrArg Fin.val (congrFun E 1)
  have a2 := congrArg Fin.val (congrFun E 2)
  rw [show ((rectC h').emb x 0).val = h'.val + (x 0).val from Rect.idx_unit_val _ _ _ _ 0] at a
  rw [show ((rectC h').emb x 1).val = 0 + (x 1).val from Rect.idx_unit_val _ _ _ _ 1] at a1
  rw [show ((rectC h').emb x 2).val = 0 + (x 2).val from Rect.idx_unit_val _ _ _ _ 2] at a2
  have b' : (x 0).val < 1 := (x 0).isLt
  replace a : h'.val + (x 0).val = h.val := a
  replace a1 : 0 + (x 1).val = r.val := a1
  replace a2 : 0 + (x 2).val = d.val := a2
  refine ⟨Fin.ext (by omega), funext fun k => Fin.ext ?_⟩
  match k with
  | ⟨0, _⟩ => show (x 0).val = 0; omega
  | ⟨1, _⟩ => show (x 1).val = r.val; omega
  | ⟨2, _⟩ => show (x 2).val = d.val; omega

theorem Blk.outY_apply (B : Blk) (Z) (h : Fin 4) (r d : Fin 256) : B.outY Z (ix2 r (col h d)) = B.pieceY h (ix2 r d) := by
  refine read_pieces (e := .bf16) rectY (fun h => B.pieceY h) Z h _ _ (fun h' x hx => ?_) ?_
  · obtain ⟨e, rfl⟩ := rectY_inv h h' r d x hx
    subst e; rfl
  · rw [← rectY_emb]; exact LoadRect.idx_mem _ _
theorem Blk.outC_apply (B : Blk) (Z) (h : Fin 4) (r d : Fin 256) : B.outC Z (ix3 h r d) = B.pieceC h (ix3 0 r d) := by
  refine read_pieces (e := .f32) rectC (fun h => B.pieceC h) Z h _ _ (fun h' x hx => ?_) ?_
  · obtain ⟨e, rfl⟩ := rectC_inv h h' r d x hx
    subst e; rfl
  · rw [← rectC_emb]; exact LoadRect.idx_mem _ _
theorem Blk.outN_apply (B : Blk) (Z) (h : Fin 4) (d : Fin 256) : B.outN Z (ix2 0 (col h d)) = B.pieceN h (ix2 0 d) := by
  refine read_pieces (e := .f32) rectN (fun h => B.pieceN h) Z h _ _ (fun h' x hx => ?_) ?_
  · obtain ⟨e, rfl⟩ := rectN_inv h h' d x hx
    subst e; rfl
  · rw [← rectN_emb]; exact LoadRect.idx_mem _ _

/-- The last eight rows of a block are what the next block's convolution looks back at. -/
theorem back_apply (X : Vec Ideal S256x1024 .f32) (y : ℕ → ℝ) (t : ℕ) (l : Fin 1024)
    (hX : ∀ r : Fin 256, X (ix2 r l) = (y (256 * t + r.val) : EReal)) (r : Fin 8) :
    k0_pay6 X (ix2 r l) = (Mlstm.zp y (256 * (t + 1) + r.val) : EReal) := by
  pointwise [k0_pay6]
  rw [show (⟨(248 : ℕ) + r.val, by omega⟩ : Fin 256) = ⟨248 + r.val, by omega⟩ from rfl] at *
  rw [hX]; unfold Mlstm.zp
  rw [if_neg (by omega)]; congr 2; simp only; omega

/-- Before the first block nothing has been gathered. -/
theorem holds_zero (x : Mlstm.Inputs) :
    Holds x 0 (k0_pay2 (F := Ideal)) (k0_pay3 (F := Ideal)) (k0_pay4 (F := Ideal)) (k0_pay5 (F := Ideal)) where
  c h e d := by
    pointwise [k0_pay2]
    unfold Mlstm.Inputs.mem Mlstm.mem; rw [Mlstm.st_zero]; rfl
  n h e := by
    pointwise [k0_pay3]
    unfold Mlstm.Inputs.nrm Mlstm.nrm; rw [Mlstm.st_zero]; rfl
  q h e r := by
    pointwise [k0_pay4]
    unfold Mlstm.zp; rw [if_pos (by omega)]; rfl
  k h e r := by
    pointwise [k0_pay5]
    unfold Mlstm.zp; rw [if_pos (by omega)]; rfl

/-- One block takes the state from one chunk to the next. -/
theorem holds_step {B : Blk} {x : Mlstm.Inputs} {t : ℕ} (hi : B.In x t) (hs : Holds x t B.s0 B.s1 B.s2 B.s3) (Z) (Z') :
    Holds x (t + 1) (B.outC Z) (B.outN Z') (k0_pay6 B.x0) (k0_pay9 B.x1) where
  c h e d := by rw [Blk.outC_apply]; exact Blk.pieceC_apply hi hs h e d
  n h e := by rw [Blk.outN_apply]; exact Blk.pieceN_apply hi hs h e
  q h e r := back_apply B.x0 (x.zq h e) t (col h e) (hi.q h e) r
  k h e r := back_apply B.x1 (x.zk h e) t (col h e) (hi.k h e) r

variable (m : (l : Loc nD τ sig) → Buf (Elt Ideal) l)

/-- What point `t` leaves behind and writes. -/
structure After (x : Mlstm.Inputs) (c : Dev nD) (t : ℕ) (ng : Vec Ideal S1x1024 .f32) (og : ℕ → Fin 1024 → EReal)
    (S : Vec Ideal S256x1024 .bf16 × Vec Ideal S4x256x256 .f32 × Vec Ideal S1x1024 .f32 × Vec Ideal S8x1024 .f32 × Vec Ideal S8x1024 .f32) :
    Prop where
  st : Holds x (t + 1) S.2.1 S.2.2.1 S.2.2.2.1 S.2.2.2.2
  y : ∀ h (r d : Fin 256), S.1 (ix2 r (col h d))
    = Mlstm.gated (x.hid h (256 * t + r.val)) d (ng (ix2 0 (col h d))) (og (256 * t + r.val) (col h d))

section
variable {x : Mlstm.Inputs} {c : Dev nD} {ng : Vec Ideal S1x1024 .f32} {og : ℕ → Fin 1024 → EReal}
  (hin : ∀ (t : Fin cfg0.N) s0 s1 s2 s3, (blk m c t s0 s1 s2 s3).In x t.val)
  (hg : ∀ t : Fin cfg0.N, (iblk m c 8 t : Vec Ideal S1x1024 .f32) = ng)
  (ho : ∀ (t : Fin cfg0.N) (r : Fin 256) (l : Fin 1024), (iblk m c 3 t : Vec Ideal S256x1024 .f32) (ix2 r l) = og (256 * t.val + r.val) l)
include hin hg ho

theorem blk_y (t : Fin cfg0.N) (s0 : Vec Ideal S4x256x256 .f32) (s1 : Vec Ideal S1x1024 .f32) (s2 s3 : Vec Ideal S8x1024 .f32)
    (hs : Holds x t.val s0 s1 s2 s3) (Z) (h : Fin 4) (r d : Fin 256) : (blk m c t s0 s1 s2 s3).outY Z (ix2 r (col h d))
    = Mlstm.gated (x.hid h (256 * t.val + r.val)) d (ng (ix2 0 (col h d))) (og (256 * t.val + r.val) (col h d)) := by
  rw [Blk.outY_apply, Blk.pieceY_apply (hin t _ _ _ _) hs h r d,
    show (blk m c t s0 s1 s2 s3).x8 = ng from hg t, show (blk m c t s0 s1 s2 s3).x3 (ix2 r (col h d)) = _ from ho t r _]

theorem after_step (t : Fin cfg0.N) (acc) (h0 : ¬t.val % 32 = 0) (hs : Holds x t.val acc.2.1 acc.2.2.1 acc.2.2.2.1 acc.2.2.2.2) :
    After x c t.val ng og (stAt0 m c t.val t.isLt acc) where
  st := by
    rw [later_c m c t acc h0, later_n m c t acc h0, later_q m c t acc h0, later_k m c t acc h0]
    exact holds_step (hin t _ _ _ _) hs _ _
  y h r d := by
    rw [later_y m c t acc h0]
    exact blk_y m hin hg ho t _ _ _ _ hs _ h r d

theorem after_first (t : Fin cfg0.N) (acc) (h0 : t.val = 0) :
    After x c t.val ng og (stAt0 m c t.val t.isLt acc) := by
  have h0' : t.val % 32 = 0 := by rw [h0]
  have hs : Holds x t.val (k0_pay2 (F := Ideal)) (k0_pay3 (F := Ideal)) (k0_pay4 (F := Ideal)) (k0_pay5 (F := Ideal)) := by
    rw [h0]; exact holds_zero x
  refine ⟨?_, fun h r d => ?_⟩
  · rw [first_c m c t acc h0', first_n m c t acc h0', first_q m c t acc h0', first_k m c t acc h0']
    exact holds_step (hin t _ _ _ _) hs _ _
  · rw [first_y m c t acc h0']
    exact blk_y m hin hg ho t _ _ _ _ hs _ h r d

theorem after_all : ∀ (n : ℕ) (hn : n < cfg0.N), After x c n ng og (outsAt0 m c n hn)
  | 0, hn => by
    rw [outsAt0_zero]; exact after_first m hin hg ho ⟨0, hn⟩ _ rfl
  | n + 1, hn => by
    rw [outsAt0_succ]
    have hN : n + 1 < 32 := lt_of_lt_of_eq hn (show cfg0.N = 32 from N_0)
    exact after_step m hin hg ho ⟨n + 1, hn⟩ _ (by simp only; omega) (after_all n _).st

/-- The kernel's result, entry by entry. -/
theorem result_apply (i : Fin 8192) (h : Fin 4) (d : Fin 256) :
    (G9 m c : Vec Ideal S8192x1024 .bf16) (ix2 i (col h d))
      = Mlstm.gated (x.hid h i.val) d (ng (ix2 0 (col h d))) (og i.val (col h d)) := by
  have hN : cfg0.N = 32 := N_0
  have hp : pt9Of (ix2 i (col h d)) = i.val / 256 := by
    show 1 * (i.val / 256 - 0) + 1 * ((256 * h.val + d.val) / 1024 - 0) = _
    omega
  have hl : loc9Of (ix2 i (col h d)) = ix2 (⟨i.val % 256, Nat.mod_lt _ (by decide)⟩ : Fin 256) (col h d) := by
    funext a; apply Fin.ext
    match a with
    | ⟨0, _⟩ => rfl
    | ⟨1, _⟩ => show (256 * h.val + d.val) % 1024 = 256 * h.val + d.val; omega
  have hb : pt9Of (ix2 i (col h d)) < cfg0.N := by rw [hp, hN]; omega
  show G9 m c (ix2 i (col h d)) = _
  unfold G9
  rw [dif_pos hb, ← outsAt0_sweep m c _ hb, hl, (after_all m hin hg ho _ hb).y]
  have e : 256 * pt9Of (ix2 i (col h d)) + i.val % 256 = i.val := by rw [hp]; exact Nat.div_add_mod _ _
  simp only [e]

end

end Cert.KernelIdeal.Heads

end
-- ==== Proof.Arrays.lean ====
/- The mixer's real inputs, read off the program's arrays. -/
module

public import proofs.«01_k».proof.Proof.Layer

@[expose] public section

noncomputable section

namespace Mlstm

/-- Columns `o + 256 h + e` of the projected inputs as a sequence over the tokens. -/
def seq (z : Fin 8192 → Fin 4096 → EReal) (o : Fin 3) (h : Fin 4) (e : Fin 256) (t : ℕ) : ℝ :=
  if ht : t < 8192 then (z ⟨t, ht⟩ ⟨1024 * o.val + (256 * h.val + e.val), by omega⟩).toReal else 0

/-- Column `o + 256 h + e` of the convolution's taps. -/
def taps (w : Fin 4 → Fin 2048 → EReal) (o : Fin 2) (h : Fin 4) (e : Fin 256) (j : Fin 4) : ℝ :=
  (w j ⟨1024 * o.val + (256 * h.val + e.val), by omega⟩).toReal

/-- A gate before its cap. -/
def gate (z : Fin 8192 → Fin 128 → EReal) (b : Fin 4 → EReal) (o : Fin 2) (h : Fin 4) (t : ℕ) : EReal :=
  if ht : t < 8192 then z ⟨t, ht⟩ ⟨4 * o.val + h.val, by omega⟩ + b h else 0

/-- The mixer's inputs out of the five arrays. -/
def inputs (z : Fin 8192 → Fin 4096 → EReal) (g : Fin 8192 → Fin 128 → EReal) (w : Fin 4 → Fin 2048 → EReal)
    (ib fb : Fin 4 → EReal) : Inputs where
  zq := seq z 0
  zk := seq z 1
  zv := seq z 2
  wq := taps w 0
  wk := taps w 1
  gi := gate g ib 0
  gf := gate g fb 1

/-- Queries, keys, values and taps are real numbers. -/
structure Real (z : Fin 8192 → Fin 4096 → EReal) (w : Fin 4 → Fin 2048 → EReal) : Prop where
  z : ∀ t (j : Fin 4096), j.val < 3072 → ((z t j).toReal : EReal) = z t j
  w : ∀ j l, ((w j l).toReal : EReal) = w j l

theorem Real.seq {z w} (hr : Real z w) (o : Fin 3) (h : Fin 4) (e : Fin 256) (t : Fin 8192) (j : Fin 4096)
    (hj : j.val = 1024 * o.val + (256 * h.val + e.val)) : z t j = (Mlstm.seq z o h e t.val : EReal) := by
  unfold Mlstm.seq
  rw [dif_pos t.isLt, hr.z _ _ (by simp only; omega)]
  exact congrArg _ (Fin.ext hj)

theorem Real.taps {z w} (hr : Real z w) (o : Fin 2) (h : Fin 4) (e : Fin 256) (j : Fin 4) (l : Fin 2048)
    (hl : l.val = 1024 * o.val + (256 * h.val + e.val)) : w j l = (Mlstm.taps w o h e j : EReal) := by
  unfold Mlstm.taps
  rw [hr.w]
  exact congrArg _ (Fin.ext hl)

theorem gate_eq (z : Fin 8192 → Fin 128 → EReal) (b : Fin 4 → EReal) (o : Fin 2) (h : Fin 4) (t : Fin 8192) (l : Fin 128)
    (hl : l.val = 4 * o.val + h.val) : gate z b o h t.val = z t l + b h := by
  unfold gate
  rw [dif_pos t.isLt]
  exact congrArg (fun l => z t l + b h) (Fin.ext hl.symm)

end Mlstm

end
-- ==== Proof.Windows.lean ====
/- The kernel's input blocks, read at coordinates of the program's arrays. -/
module

public import proofs.«01_k».proof.Proof.Fold
public import proofs.«01_k».proof.Proof.Arrays
public import Idealize.ShloMosaic.Lib.Pointwise
public import Idealize.ShloMosaic.Lib.Claim
public import Idealize.ShloMosaic.Lib.Pipeline.ValueKit

@[expose] public section

noncomputable section

namespace Cert.KernelIdeal.Heads

open Idealize.ShloMosaic Idealize.ShloMosaic.TcCoe Idealize.SL.Sem Cert.KernelIdeal Cert.KernelIdeal.Gen Cert.KernelIdeal.Value

theorem index_eq : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![0, 0] ∧ win0_6.index t = ![0, 1]
    ∧ win0_7.index t = ![0, 0] ∧ win0_8.index t = ![0, 0] :=
  (by decide +kernel : ∀ t : Fin grid0.N, _)

variable (m : (l : Loc nD τ sig) → Buf (Elt Ideal) l)

def arrZ (c : Dev nD) (t : Fin 8192) (j : Fin 4096) : EReal := (m ((c : Thread nD τ).loc main_arg0) : Vec Ideal S8192x4096 .f32) (ix2 t j)
def arrG (c : Dev nD) (t : Fin 8192) (j : Fin 128) : EReal := (m ((c : Thread nD τ).loc main_arg1) : Vec Ideal S8192x128 .f32) (ix2 t j)
def arrW (c : Dev nD) (i : Fin 4) (j : Fin 2048) : EReal := (m ((c : Thread nD τ).loc main_arg2) : Vec Ideal S4x2048 .f32) (ix2 i j)
def arrI (c : Dev nD) (h : Fin 4) : EReal := (m ((c : Thread nD τ).loc main_arg3) : Vec Ideal S4 .f32) (ix1 h)
def arrF (c : Dev nD) (h : Fin 4) : EReal := (m ((c : Thread nD τ).loc main_arg4) : Vec Ideal S4 .f32) (ix1 h)
def arrN (c : Dev nD) (l : Fin 1024) : EReal := (m ((c : Thread nD τ).loc main_arg5) : Vec Ideal S1024 .f32) (ix1 l)

theorem point_lt (t : Fin cfg0.N) : t.val < 32 := lt_of_lt_of_eq t.isLt (show cfg0.N = 32 from N_0)

def tok (t : Fin cfg0.N) (r : Fin 256) : Fin 8192 := ⟨256 * t.val + r.val, by have := point_lt t; omega⟩

theorem x0_apply (c : Dev nD) (t : Fin cfg0.N) (r : Fin 256) (l : Fin 1024) :
    (iblk m c 0 t : Vec Ideal S256x1024 .f32) (ix2 r l) = arrZ m c (tok t r) ⟨l.val, by omega⟩ := by
  have idx := (index_eq t).1
  unfold arrZ tok
  blk_ext [iblk, V, idx]
theorem x1_apply (c : Dev nD) (t : Fin cfg0.N) (r : Fin 256) (l : Fin 1024) :
    (iblk m c 1 t : Vec Ideal S256x1024 .f32) (ix2 r l) = arrZ m c (tok t r) ⟨1024 + l.val, by omega⟩ := by
  have idx := (index_eq t).2.1
  unfold arrZ tok
  blk_ext [iblk, V, idx]
theorem x2_apply (c : Dev nD) (t : Fin cfg0.N) (r : Fin 256) (l : Fin 1024) :
    (iblk m c 2 t : Vec Ideal S256x1024 .f32) (ix2 r l) = arrZ m c (tok t r) ⟨2048 + l.val, by omega⟩ := by
  have idx := (index_eq t).2.2.1
  unfold arrZ tok
  blk_ext [iblk, V, idx]
theorem x3_apply (c : Dev nD) (t : Fin cfg0.N) (r : Fin 256) (l : Fin 1024) :
    (iblk m c 3 t : Vec Ideal S256x1024 .f32) (ix2 r l) = arrZ m c (tok t r) ⟨3072 + l.val, by omega⟩ := by
  have idx := (index_eq t).2.2.2.1
  unfold arrZ tok
  blk_ext [iblk, V, idx]
theorem x4_apply (c : Dev nD) (t : Fin cfg0.N) (r : Fin 256) (l : Fin 128) :
    (iblk m c 4 t : Vec Ideal S256x128 .f32) (ix2 r l) = arrG m c (tok t r) l := by
  have idx := (index_eq t).2.2.2.2.1
  unfold arrG tok
  blk_ext [iblk, V, idx]
theorem x5_apply (c : Dev nD) (t : Fin cfg0.N) (j : Fin 4) (l : Fin 1024) :
    (iblk m c 5 t : Vec Ideal S4x1024 .f32) (ix2 j l) = arrW m c j ⟨l.val, by omega⟩ := by
  have idx := (index_eq t).2.2.2.2.2.1
  unfold arrW
  blk_ext [iblk, V, idx]
theorem x6_apply (c : Dev nD) (t : Fin cfg0.N) (j : Fin 4) (l : Fin 1024) :
    (iblk m c 6 t : Vec Ideal S4x1024 .f32) (ix2 j l) = arrW m c j ⟨1024 + l.val, by omega⟩ := by
  have idx := (index_eq t).2.2.2.2.2.2.1
  unfold arrW
  blk_ext [iblk, V, idx]
theorem x7_block (c : Dev nD) (t : Fin cfg0.N) (l : Fin 128) :
    (iblk m c 7 t : Vec Ideal S1x128 .f32) (ix2 0 l) = (V m c main_v2 : Vec Ideal S1x128 .f32) (ix2 0 l) := by
  have idx := (index_eq t).2.2.2.2.2.2.2.1
  blk_ext [iblk, idx]
/-- The gates' biases as the kernel is handed them: the input gates' in lanes 0 to 3, the forget gates' in lanes 4 to 7. -/
theorem x7_apply (c : Dev nD) (t : Fin cfg0.N) (l : Fin 128) (hl : l.val < 8) :
    (iblk m c 7 t : Vec Ideal S1x128 .f32) (ix2 0 l)
      = if h : l.val < 4 then arrI m c ⟨l.val, h⟩ else arrF m c ⟨l.val - 4, by omega⟩ := by
  rw [x7_block]
  simp only [V, hostOps0, hostOps0_1, hostOps0_2, List.flatten_cons, List.flatten_nil, List.cons_append, List.nil_append]
  after_results
  pointwise
  show pad S128 ![0] ![120] ![0] (concatenate S8 0 [⟨S4, (m ((c : Thread nD τ).loc main_arg3) : FVec Ideal S4 .f32)⟩,
      ⟨S4, m ((c : Thread nD τ).loc main_arg4)⟩] concatenates_S4_S4_S8_d0)
    (sitofp (F := Ideal) .f32 (constantI S_ 32 0#32)) pads_S8_S128_01200 h_S_ (ix1 l) = _
  pointwise
  rw [dif_pos hl]
  rfl
theorem x8_apply (c : Dev nD) (t : Fin cfg0.N) (l : Fin 1024) :
    (iblk m c 8 t : Vec Ideal S1x1024 .f32) (ix2 0 l) = arrN m c l := by
  have idx := (index_eq t).2.2.2.2.2.2.2.2
  have e : (iblk m c 8 t : Vec Ideal S1x1024 .f32) (ix2 0 l) = (V m c main_v3 : Vec Ideal S1x1024 .f32) (ix2 0 l) := by
    blk_ext [iblk, idx]
  rw [e]
  simp only [V, hostOps0, hostOps0_1, hostOps0_2, List.flatten_cons, List.flatten_nil, List.cons_append, List.nil_append]
  after_results
  pointwise
  rfl

/-- The mixer's inputs out of the program's arguments. -/
def ins (c : Dev nD) : Mlstm.Inputs := Mlstm.inputs (arrZ m c) (arrG m c) (arrW m c) (arrI m c) (arrF m c)

theorem blk_in (c : Dev nD) (hr : Mlstm.Real (arrZ m c) (arrW m c)) (t : Fin cfg0.N) (s0 s1 s2 s3) :
    (blk m c t s0 s1 s2 s3).In (ins m c) t.val where
  q h e r := (x0_apply m c t r (col h e)).trans (hr.seq 0 h e (tok t r) _ (by simp [col]))
  k h e r := (x1_apply m c t r (col h e)).trans (hr.seq 1 h e (tok t r) _ (by simp [col]))
  v h e r := (x2_apply m c t r (col h e)).trans (hr.seq 2 h e (tok t r) _ (by simp [col]))
  wq h e j := (x5_apply m c t j (col h e)).trans (hr.taps 0 h e j _ (by simp [col]))
  wk h e j := (x6_apply m c t j (col h e)).trans (hr.taps 1 h e j _ (by simp [col]))
  gi h r := by
    have e := (x7_apply m c t (laneI h) (by simp [laneI]; omega)).trans (dif_pos (by simp [laneI]))
    refine (congrArg₂ (fun a b : EReal => a + b) (x4_apply m c t r (laneI h)) e).trans ?_
    exact (Mlstm.gate_eq _ _ 0 h (tok t r) _ (by simp [laneI])).symm
  gf h r := by
    have e := (x7_apply m c t (laneF h) (by simp [laneF]; omega)).trans (dif_neg (by simp [laneF]))
    refine (congrArg₂ (fun a b : EReal => a + b) (x4_apply m c t r (laneF h)) e).trans ?_
    exact (Mlstm.gate_eq _ _ 1 h (tok t r) _ (by simp [laneF]; omega)).symm

/-- The kernel's result, entry by entry, over the program's arguments. -/
theorem kernel_apply (c : Dev nD) (hr : Mlstm.Real (arrZ m c) (arrW m c)) (i : Fin 8192) (h : Fin 4) (d : Fin 256) :
    (G9 m c : Vec Ideal S8192x1024 .bf16) (ix2 i (col h d))
      = Mlstm.gated ((ins m c).hid h i.val) d (arrN m c (col h d)) (arrZ m c i ⟨3072 + (col h d).val, by omega⟩) := by
  rw [result_apply (x := ins m c) (ng := fun j => arrN m c (j 1))
    (og := fun t l => if ht : t < 8192 then arrZ m c ⟨t, ht⟩ ⟨3072 + l.val, by omega⟩ else 0) m
    (blk_in m c hr) (fun t => ?_) (fun t r l => ?_) i h d]
  · simp only [dif_pos i.isLt]; rfl
  · funext j
    have e : j = ix2 (0 : Fin 1) (j 1 : Fin 1024) := by
      funext a
      match a with
      | ⟨0, _⟩ => exact Subsingleton.elim (α := Fin 1) _ _
      | ⟨1, _⟩ => rfl
    rw [e]; exact x8_apply m c t _
  · have := point_lt t
    rw [dif_pos (by omega)]
    exact x3_apply m c t r l

end Cert.KernelIdeal.Heads

end
-- ==== Proof.RefTrip.lean ====
/- One trip of the reference's loop: a chunk of 64 tokens, with the running maximum of the exponents taken out. -/
module

public import proofs.«01_k».proof.Proof.Arrays
public import proofs.«01_k».proof.Proof.Gen.ReferenceIdeal.Step
public import Idealize.ShloMosaic.Lib.Pointwise
public import Idealize.ShloMosaic.Lib.DynamicIndex

@[expose] public section

noncomputable section

namespace Cert.ReferenceIdeal.Step

open Idealize.ShloMosaic Cert.ReferenceIdeal Cert.ReferenceIdeal.Gen

/-- The chunks the loop reads hold the mixer's queries, keys, values and gates. -/
structure Chunks (s : State Ideal) (x : Mlstm.Inputs) : Prop where
  q : ∀ (c : Fin 128) (h : Fin 4) (r : Fin 64) (e : Fin 256), s.main_v74_0 (ix4 c h r e) = (x.q h (64 * c.val + r.val) e : EReal)
  k : ∀ (c : Fin 128) (h : Fin 4) (r : Fin 64) (e : Fin 256), s.main_v74_1 (ix4 c h r e) = (x.k h (64 * c.val + r.val) e : EReal)
  v : ∀ (c : Fin 128) (h : Fin 4) (r : Fin 64) (e : Fin 256), s.main_v74_2 (ix4 c h r e) = (x.v h (64 * c.val + r.val) e : EReal)
  g : ∀ (c : Fin 128) (h : Fin 4) (r : Fin 64), s.main_v74_3 (ix3 c h r) = (x.g h (64 * c.val + r.val) : EReal)
  b : ∀ (c : Fin 128) (h : Fin 4) (r : Fin 64), s.main_v74_4 (ix3 c h r) = (Mlstm.loc (x.f h) (64 * c.val) (r.val + 1) : EReal)

/-- Before trip `j`: the exponent taken out per head, memory and normaliser without it, and the rows written so far. -/
structure Carries (s : State Ideal) (x : Mlstm.Inputs) (j : ℕ) (M : Fin 4 → ℝ) : Prop where
  m : ∀ h, s.main_v74_9 (ix1 h) = (M h : EReal)
  c : ∀ h (d e : Fin 256), s.main_v74_7 (ix3 h d e) = (Real.exp (-M h) * x.mem h e d (64 * j) : ℝ)
  n : ∀ h (e : Fin 256), s.main_v74_8 (ix2 h e) = (Real.exp (-M h) * x.nrm h e (64 * j) : ℝ)
  y : ∀ (c : Fin 128), c.val < j → ∀ h (r : Fin 64) (d : Fin 256),
    s.main_v74_10 (ix4 c h r d) = (x.hid h (64 * c.val + r.val) d : EReal)

theorem ofBits_neg_inf : Ideal.ofBits .f32 0xFF800000#32 = ⊥ := by simp [Ideal.ofBits, Ideal.ieee]

/-- A maximum over real numbers from below, against a real number, is real. -/
theorem real_max {n : ℕ} (a : ℝ) (b : Fin n → EReal) (hb : ∀ i, b i ≠ ⊤) :
    ∃ m : ℝ, max (a : EReal) (Finset.fold max ⊥ b Finset.univ) = m := by
  have h1 : max (a : EReal) (Finset.fold max ⊥ b Finset.univ) ≠ ⊤ := by
    refine ne_of_lt (max_lt (EReal.coe_lt_top a) ?_)
    rw [Finset.fold_max_lt]
    exact ⟨bot_lt_top, fun i _ => lt_top_iff_ne_top.2 (hb i)⟩
  have h2 : max (a : EReal) (Finset.fold max ⊥ b Finset.univ) ≠ ⊥ :=
    ne_of_gt (lt_of_lt_of_le (EReal.bot_lt_coe a) (le_max_left _ _))
  exact ⟨_, (EReal.coe_toReal h1 h2).symm⟩

/-- The common factors of a row's sums. -/
theorem unscale {n : ℕ} (c M B : ℝ) (S V : Fin n → ℝ) (Q m : Fin 256 → ℝ) :
    ∑ t, c * S t * V t + c * (Real.exp M * B) * ∑ e, Q e * (Real.exp (-M) * m e) = c * (∑ t, S t * V t + B * ∑ e, Q e * m e) := by
  have h1 : ∑ e, Q e * (Real.exp (-M) * m e) = Real.exp (-M) * ∑ e, Q e * m e := by
    rw [Finset.mul_sum]; exact Finset.sum_congr rfl fun e _ => by ring
  have h2 : ∑ t, c * S t * V t = c * ∑ t, S t * V t := by
    rw [Finset.mul_sum]; exact Finset.sum_congr rfl fun e _ => by ring
  have h3 : Real.exp M * Real.exp (-M) = 1 := by rw [← Real.exp_add]; simp
  rw [h1, h2]
  linear_combination c * B * (∑ e, Q e * m e) * h3

/-- The same for what a chunk adds to the state. -/
theorem unscale' {n : ℕ} (c M B a : ℝ) (w y : Fin n → ℝ) :
    c * (Real.exp M * B) * (Real.exp (-M) * a) + ∑ t, c * w t * y t = c * ((∑ t, y t * w t) + B * a) := by
  have h2 : ∑ t, c * w t * y t = c * ∑ t, y t * w t := by
    rw [Finset.mul_sum]; exact Finset.sum_congr rfl fun e _ => by ring
  have h3 : Real.exp M * Real.exp (-M) = 1 := by rw [← Real.exp_add]; simp
  rw [h2]
  linear_combination c * B * a * h3

section
variable {j : ℕ} (hj : j < 128)
include hj

theorem start_chunk (a : Fin 4) : Host.clampedStart S128x4x64x256 S1x4x64x256 rfl
    (fun k => ((![constantI S_ 32 (BitVec.ofNat 32 j), constantI S_ 32 0#32, constantI S_ 32 0#32, constantI S_ 32 0#32] :
      Fin 4 → IVec S_ 32) k (Shape.Idx.first h_S_)).toInt) a = (![j, 0, 0, 0] : Fin 4 → ℕ) a := by
  refine Host.clampedStart_of_le _ _ _ _ ?_ ?_
  · fin_cases a
    · exact toInt_ofNat_of_lt (by omega)
    all_goals rfl
  · fin_cases a
    · show j + 1 ≤ 128; omega
    all_goals (simp)

theorem start_row (a : Fin 3) : Host.clampedStart S128x4x64 S1x4x64 rfl
    (fun k => ((![constantI S_ 32 (BitVec.ofNat 32 j), constantI S_ 32 0#32, constantI S_ 32 0#32] :
      Fin 3 → IVec S_ 32) k (Shape.Idx.first h_S_)).toInt) a = (![j, 0, 0] : Fin 3 → ℕ) a := by
  refine Host.clampedStart_of_le _ _ _ _ ?_ ?_
  · fin_cases a
    · exact toInt_ofNat_of_lt (by omega)
    all_goals rfl
  · fin_cases a
    · show j + 1 ≤ 128; omega
    all_goals (simp)

variable {s : State Ideal} {x : Mlstm.Inputs} (ha : Chunks s x)
include ha

theorem q_apply (h : Fin 4) (r : Fin 64) (e : Fin 256) : b4 j s (ix3 h r e) = (x.q h (64 * j + r.val) e : EReal) := by
  pointwise [b4, b3, b0, b1, b2]
  simp only [start_chunk hj, Matrix.cons_val, zero_add]
  exact ha.q ⟨j, hj⟩ h r e
theorem k_apply (h : Fin 4) (r : Fin 64) (e : Fin 256) : b9 j s (ix3 h r e) = (x.k h (64 * j + r.val) e : EReal) := by
  pointwise [b9, b8, b5, b6, b7]
  simp only [start_chunk hj, Matrix.cons_val, zero_add]
  exact ha.k ⟨j, hj⟩ h r e
theorem v_apply (h : Fin 4) (r : Fin 64) (e : Fin 256) : b14 j s (ix3 h r e) = (x.v h (64 * j + r.val) e : EReal) := by
  pointwise [b14, b13, b10, b11, b12]
  simp only [start_chunk hj, Matrix.cons_val, zero_add]
  exact ha.v ⟨j, hj⟩ h r e
theorem g_apply (h : Fin 4) (r : Fin 64) : b18 j s (ix2 h r) = (x.g h (64 * j + r.val) : EReal) := by
  pointwise [b18, b17, b15, b16]
  simp only [start_row hj, Matrix.cons_val, zero_add]
  exact ha.g ⟨j, hj⟩ h r
theorem b_apply (h : Fin 4) (r : Fin 64) : b22 j s (ix2 h r) = (Mlstm.loc (x.f h) (64 * j) (r.val + 1) : EReal) := by
  pointwise [b22, b21, b19, b20]
  simp only [start_row hj, Matrix.cons_val, zero_add]
  exact ha.b ⟨j, hj⟩ h r

/-- The exponent of token `t`'s weight at row `r`. -/
theorem exponent_apply (h : Fin 4) (r t : Fin 64) : b35 j s (ix3 h r t) = if t.val ≤ r.val then
    ((Mlstm.loc (x.f h) (64 * j) (r.val + 1) - Mlstm.loc (x.f h) (64 * j) (t.val + 1) + x.g h (64 * j + t.val) : ℝ) : EReal)
    else ⊥ := by
  pointwise [b35, b33, b30, b27, b25, b23, b26, b24, b29, b28, b34, b32, b31, K_main_v69, K_main_call6_v4, K_main_v68,
    K_main_call6_v5, K_main_call6_v2, K_main_call6_v3, K_main_c_6, K_main_call6_c_0, K_main_call6_v0, K_main_call6_v1,
    K_main_call6_c]
  rw [b_apply hj ha, b_apply hj ha, g_apply hj ha, ← EReal.coe_sub, ← EReal.coe_add]
  have h1 : IntOp.cmpi .sge (IntOp.addi (BitVec.ofNat 32 r.val) 0#32) (BitVec.ofNat 32 t.val)
      = if t.val ≤ r.val then 1#1 else 0#1 := by
    unfold IntOp.cmpi IntOp.addi
    rw [BitVec.add_zero]
    have hr := r.isLt; have ht := t.isLt
    simp only [BitVec.sle_eq_decide, toInt_ofNat_of_lt (show t.val < 2 ^ 31 by omega), toInt_ofNat_of_lt (show r.val < 2 ^ 31 by omega),
      Int.ofNat_le]
    by_cases htr : t.val ≤ r.val <;> simp [htr]
  rw [h1, show Ideal.ofBits FTy.f32 4286578688#32 = ⊥ from ofBits_neg_inf]
  by_cases htr : t.val ≤ r.val
  · simp only [if_pos htr]; rfl
  · simp only [if_neg htr]; rfl

variable {M : Fin 4 → ℝ} (hc : Carries s x j M)
include hc

/-- A row's exponent is a real number. -/
theorem top_real (h : Fin 4) (r : Fin 64) : ∃ m : ℝ, b41 j s (ix2 h r) = m := by
  pointwise [b41, b38, b40, b39, b37, b36]
  rw [b_apply hj ha, hc.m, ← EReal.coe_add, show Ideal.ofBits FTy.f32 4286578688#32 = ⊥ from ofBits_neg_inf]
  refine real_max _ _ fun t => ?_
  rw [exponent_apply hj ha]
  split
  · exact EReal.coe_ne_top _
  · exact bot_ne_top

theorem top'_real (h : Fin 4) : ∃ m : ℝ, b77 j s (ix1 h) = m := by
  pointwise [b77, b76, b75, b74, b73, b72, b71, b70, b69, b68]
  rw [b_apply hj ha, hc.m, ← EReal.coe_add, show Ideal.ofBits FTy.f32 4286578688#32 = ⊥ from ofBits_neg_inf]
  refine real_max _ _ fun t => ?_
  rw [b_apply hj ha, g_apply hj ha, ← EReal.coe_sub, ← EReal.coe_add]
  exact EReal.coe_ne_top _

section
variable {h : Fin 4} {r : Fin 64} {mt : ℝ} (hm : b41 j s (ix2 h r) = mt)
include hm

theorem score_apply (t : Fin 64) : b47 j s (ix3 h r t) = ((Real.exp (-mt) * (Mlstm.score (x.q h (64 * j + r.val)) (x.k h) (64 * j + t.val)
    * (if t.val ≤ r.val then Real.exp (Mlstm.loc (x.f h) (64 * j) (r.val + 1) - Mlstm.loc (x.f h) (64 * j) (t.val + 1)
      + x.g h (64 * j + t.val)) else 0)) : ℝ) : EReal) := by
  pointwise [b47, b42, b46, b45, b44, b43]
  simp only [q_apply hj ha, k_apply hj ha, exponent_apply hj ha, hm]
  simp only [← EReal.coe_mul, ← Mlstm.coe_sum]
  by_cases htr : t.val ≤ r.val
  · simp only [if_pos htr]
    rw [← EReal.coe_sub, Ideal.exp_coe, ← EReal.coe_mul, sub_eq_add_neg _ mt, Real.exp_add]
    unfold Mlstm.score; congr 1; ring
  · simp only [if_neg htr]
    rw [EReal.bot_sub, Ideal.exp_bot, mul_zero, mul_zero, mul_zero, EReal.coe_zero]

theorem carry_apply : b49 j s (ix2 h r)
    = (Real.exp (-mt) * (Real.exp (M h) * Real.exp (Mlstm.loc (x.f h) (64 * j) (r.val + 1))) : ℝ) := by
  pointwise [b49, b48, b38, b37, b36]
  rw [b_apply hj ha, hc.m, hm, ← EReal.coe_add, ← EReal.coe_sub, Ideal.exp_coe, ← Real.exp_add, ← Real.exp_add]
  congr 2; ring

theorem num_apply (d : Fin 256) : b55 j s (ix3 h r d)
    = (Real.exp (-mt) * Mlstm.num (x.f h) (x.g h) (x.q h (64 * j + r.val)) (x.k h) (x.v h) d (64 * j + r.val + 1) : ℝ) := by
  pointwise [b55, b50, b54, b53, b52, b51]
  simp only [score_apply hj ha hc hm, carry_apply hj ha hc hm, v_apply hj ha, q_apply hj ha, hc.c]
  simp only [← EReal.coe_mul, ← Mlstm.coe_sum, ← EReal.coe_add]
  rw [← Mlstm.num_row (L := 64)]
  exact congrArg _ (unscale _ _ _ _ _ _ _)

theorem den_apply : b60 j s (ix2 h r)
    = (Real.exp (-mt) * Mlstm.den (x.f h) (x.g h) (x.q h (64 * j + r.val)) (x.k h) (64 * j + r.val + 1) : ℝ) := by
  pointwise [b60, b57, b59, b58, b56]
  simp only [score_apply hj ha hc hm, carry_apply hj ha hc hm, q_apply hj ha, hc.n]
  simp only [← EReal.coe_mul, ← Mlstm.coe_sum, ← EReal.coe_add]
  rw [← Mlstm.den_row (L := 64)]
  refine congrArg _ ?_
  have e := unscale (Real.exp (-mt)) (M h) (Real.exp (Mlstm.loc (x.f h) (64 * j) (r.val + 1)))
    (fun t : Fin 64 => Mlstm.score (x.q h (64 * j + r.val)) (x.k h) (64 * j + t.val) * (if t.val ≤ r.val then
      Real.exp (Mlstm.loc (x.f h) (64 * j) (r.val + 1) - Mlstm.loc (x.f h) (64 * j) (t.val + 1) + x.g h (64 * j + t.val)) else 0))
    (fun _ => 1) (x.q h (64 * j + r.val)) (fun e => x.nrm h e (64 * j))
  simp only [mul_one] at e
  exact e

/-- The row the trip writes. -/
theorem row_apply (d : Fin 256) : b67 j s (ix3 h r d) = (x.hid h (64 * j + r.val) d : EReal) := by
  pointwise [b67, b66, b65, b64, b63, b62, b61]
  rw [num_apply hj ha hc hm, den_apply hj ha hc hm, hm, ← EReal.coe_neg, Ideal.exp_coe, Ideal.absf_def, ← EReal.coe_neg,
    ← Mlstm.coe_max, ← Mlstm.coe_max, Mlstm.div_coe_coe _ (ne_of_gt (lt_max_of_lt_right (Real.exp_pos _)))]
  refine congrArg _ ?_
  exact Mlstm.scaled_div _ _ _ (Real.exp_pos _)

end

section
variable {h : Fin 4} {mt : ℝ} (hm : b77 j s (ix1 h) = mt)
include hm

theorem decay_apply : b80 j s (ix1 h)
    = (Real.exp (-mt) * (Real.exp (M h) * Real.exp (Mlstm.loc (x.f h) (64 * j) 64)) : ℝ) := by
  pointwise [b80, b79, b78, b69, b68]
  rw [b_apply hj ha, hc.m, hm, ← EReal.coe_add, ← EReal.coe_sub, Ideal.exp_coe, ← Real.exp_add, ← Real.exp_add]
  rw [show (63 : Fin 64).val + 1 = 64 from rfl]
  congr 2; ring

theorem weight_apply (r : Fin 64) : b84 j s (ix2 h r) = (Real.exp (-mt)
    * Real.exp (Mlstm.loc (x.f h) (64 * j) 64 - Mlstm.loc (x.f h) (64 * j) (r.val + 1) + x.g h (64 * j + r.val)) : ℝ) := by
  pointwise [b84, b83, b82, b81, b73, b72, b71, b70, b69, b68]
  rw [b_apply hj ha, b_apply hj ha, g_apply hj ha, hm, ← EReal.coe_sub, ← EReal.coe_add, ← EReal.coe_sub, Ideal.exp_coe,
    ← Real.exp_add]
  rw [show (63 : Fin 64).val + 1 = 64 from rfl]
  congr 2; ring

theorem memory_apply (d e : Fin 256) : b92 j s (ix3 h d e) = (Real.exp (-mt) * x.mem h e d (64 * (j + 1)) : ℝ) := by
  pointwise [b92, b91, b90, b89, b88, b87, b86, b85]
  simp only [decay_apply hj ha hc hm, weight_apply hj ha hc hm, v_apply hj ha, k_apply hj ha, hc.c]
  simp only [← EReal.coe_mul, ← Mlstm.coe_sum, ← EReal.coe_add]
  refine congrArg _ ?_
  unfold Mlstm.Inputs.mem Mlstm.mem
  rw [Nat.mul_succ, Mlstm.st_chunk (L := 64)]
  refine Eq.trans ?_ (unscale' _ (M h) _ _ _ _)
  refine congrArg₂ _ rfl (Finset.sum_congr rfl fun t _ => by ring)

theorem normaliser_apply (e : Fin 256) : b97 j s (ix2 h e) = (Real.exp (-mt) * x.nrm h e (64 * (j + 1)) : ℝ) := by
  pointwise [b97, b96, b95, b94, b93]
  simp only [decay_apply hj ha hc hm, weight_apply hj ha hc hm, k_apply hj ha, hc.n]
  simp only [← EReal.coe_mul, ← Mlstm.coe_sum, ← EReal.coe_add]
  refine congrArg _ ?_
  unfold Mlstm.Inputs.nrm Mlstm.nrm
  rw [Nat.mul_succ, Mlstm.st_chunk (L := 64)]
  exact unscale' _ (M h) _ _ _ _

end

/-- The rows after the trip: this chunk's, and those written before. -/
theorem rows_apply (c : Fin 128) (hcj : c.val < j + 1) (h : Fin 4) (r : Fin 64) (d : Fin 256) :
    b102 j s (ix4 c h r d) = (x.hid h (64 * c.val + r.val) d : EReal) := by
  pointwise [b102, b98, b99, b100, b101]
  simp only [start_chunk hj, Matrix.cons_val, Nat.sub_zero, Nat.zero_le, and_true]
  by_cases hcc : c.val = j
  · rw [dif_pos (by omega)]
    obtain ⟨mt, hm⟩ := top_real hj ha hc h r
    exact (row_apply hj ha hc hm d).trans (by rw [hcc])
  · rw [dif_neg (by omega)]
    exact hc.y c (by omega) h r d

/-- A trip takes the state one chunk on. -/
theorem step_carries : ∃ M' : Fin 4 → ℝ, Carries (step j s) x (j + 1) M' := by
  choose M' hM' using fun h => top'_real hj ha hc h
  exact ⟨M', {
    m := fun h => by rw [step_main_v74_9]; exact hM' h
    c := fun h d e => by rw [step_main_v74_7]; exact memory_apply hj ha hc (hM' h) d e
    n := fun h e => by rw [step_main_v74_8]; exact normaliser_apply hj ha hc (hM' h) e
    y := fun c hcj h r d => by rw [step_main_v74_10]; exact rows_apply hj ha hc c hcj h r d }⟩

end

end Cert.ReferenceIdeal.Step
end
-- ==== Proof.RefStart.lean ====
/- What the reference computes before its loop, and after it. -/
module

public import proofs.«01_k».proof.Proof.RefTrip

@[expose] public section

noncomputable section

namespace Cert.ReferenceIdeal.Step

open Idealize.ShloMosaic Cert.ReferenceIdeal Cert.ReferenceIdeal.Gen

section
variable {a0 : FVec Ideal S8192x4096 .f32} {a1 : FVec Ideal S8192x128 .f32} {a2 : FVec Ideal S4x2048 .f32}
  {a3 a4 : FVec Ideal S4 .f32} {a5 : FVec Ideal S1024 .f32}

variable (a0 a1 a2 a3 a4) in
/-- The mixer's inputs, read off the five arrays. -/
def ins : Mlstm.Inputs :=
  Mlstm.inputs (fun t j => a0 (ix2 t j)) (fun t j => a1 (ix2 t j)) (fun j l => a2 (ix2 j l)) (fun h => a3 (ix1 h)) (fun h => a4 (ix1 h))

/-- The projected inputs' and the taps' entries that must be real numbers are. -/
def Reals (a0 : FVec Ideal S8192x4096 .f32) (a2 : FVec Ideal S4x2048 .f32) : Prop :=
  Mlstm.Real (fun t j => a0 (ix2 t j)) (fun j l => a2 (ix2 j l))

/-- A row of the convolution's input some tokens back, zero before the first. -/
theorem shifted_apply (hr : Reals a0 a2) (o : Fin 3) (h : Fin 4) (e : Fin 256) (t : Fin 8192) (n : ℕ) (j : Fin 4096)
    (hj : j.val = 1024 * o.val + (256 * h.val + e.val)) (hn : n ≤ 8) :
    (if ht : n ≤ t.val ∧ t.val - n < 8192 then a0 (ix2 ⟨t.val - n, ht.2⟩ j) else FloatOps.sitofp (F := Ideal) FTy.f32 0#32)
      = (Mlstm.zp (Mlstm.seq (fun t j => a0 (ix2 t j)) o h e) (t.val + (8 - n)) : EReal) := by
  unfold Mlstm.zp
  by_cases ht : n ≤ t.val
  · rw [dif_pos ⟨ht, by omega⟩, if_neg (by omega), show t.val + (8 - n) - 8 = t.val - n by omega]
    exact Mlstm.Real.seq hr o h e ⟨t.val - n, by omega⟩ j hj
  · rw [dif_neg (fun hh => ht hh.1), if_pos (by omega)]
    show (((0#32 : BitVec 32).toInt : ℝ) : EReal) = _
    simp

/-- The activated convolution. -/
theorem conv_apply (hr : Reals a0 a2) (o : Fin 2) (h : Fin 4) (e : Fin 256) (t : Fin 8192) (l : Fin 2048)
    (hl : l.val = 1024 * o.val + (256 * h.val + e.val)) :
    A_main_v30 (F := Ideal) a0 a1 a2 a3 a4 (ix2 t l)
      = (Mlstm.cv (Mlstm.seq (fun t j => a0 (ix2 t j)) o.castSucc h e) (Mlstm.taps (fun j l => a2 (ix2 j l)) o h e) t.val : EReal) := by
  have h1 : A_main_v29 (F := Ideal) a0 a1 a2 a3 a4 (ix2 t l)
      = ((Mlstm.zp (Mlstm.seq (fun t j => a0 (ix2 t j)) o.castSucc h e) (t.val + 8) * Mlstm.taps (fun j l => a2 (ix2 j l)) o h e 0
        + Mlstm.zp (Mlstm.seq (fun t j => a0 (ix2 t j)) o.castSucc h e) (t.val + 7) * Mlstm.taps (fun j l => a2 (ix2 j l)) o h e 1
        + Mlstm.zp (Mlstm.seq (fun t j => a0 (ix2 t j)) o.castSucc h e) (t.val + 6) * Mlstm.taps (fun j l => a2 (ix2 j l)) o h e 2
        + Mlstm.zp (Mlstm.seq (fun t j => a0 (ix2 t j)) o.castSucc h e) (t.val + 5) * Mlstm.taps (fun j l => a2 (ix2 j l)) o h e 3 : ℝ) : EReal) := by
    refine (?_ : ∀ R, R = _ → A_main_v29 (F := Ideal) a0 a1 a2 a3 a4 (ix2 t l) = R) _ rfl
    intro R hR
    pointwise [A_main_v0, A_main_v1, A_main_v2, A_main_v3, A_main_v4, A_main_v5, A_main_v6, A_main_v7, A_main_v8, A_main_v9,
      A_main_v10, A_main_v11, A_main_v12, A_main_v13, A_main_v14, A_main_v15, A_main_v16, A_main_v17, A_main_v18, A_main_v19,
      A_main_v20, A_main_v21, A_main_v22, A_main_v23, A_main_v24, A_main_v25, A_main_v26, A_main_v27, A_main_v28, A_main_v29,
      K_main_call0_v0, K_main_call1_v0, K_main_call2_v0, K_main_c, K_main_c_0, K_main_c_1]
    have hz := fun n hn => shifted_apply hr o.castSucc h e t n ⟨l.val, by omega⟩ hl hn
    have h0 : a0 (ix2 t ⟨l.val, by omega⟩) = (Mlstm.zp (Mlstm.seq (fun t j => a0 (ix2 t j)) o.castSucc h e) (t.val + 8) : EReal) := by
      unfold Mlstm.zp
      rw [if_neg (by omega), show t.val + 8 - 8 = t.val by omega]
      exact Mlstm.Real.seq hr _ h e t _ hl
    have hw : ∀ j, a2 (ix2 j l) = _ := fun j => Mlstm.Real.taps hr o h e j l hl
    rw [hR, h0, hz 1 (by omega), hz 2 (by omega), hz 3 (by omega), hw 0, hw 1, hw 2, hw 3]
    simp only [← EReal.coe_mul, ← EReal.coe_add]
    exact congrArg _ (by ring)
  pointwise [A_main_v30, A_main_call3_v0, A_main_call3_v1, A_main_call3_v3, A_main_call3_v5, K_main_call3_v2, K_main_call3_v4, K_main_call3_cst, K_main_call3_cst_0]
  rw [h1]
  exact Mlstm.silu_coe' _

/-- The log forget gate. -/
theorem forget_apply (t : Fin 8192) (h : Fin 4) :
    -(A_main_v63 (F := Ideal) a0 a1 a2 a3 a4 (ix2 t h)) = ((ins a0 a1 a2 a3 a4).f h t.val : EReal) := by
  have h1 : A_main_v61 (F := Ideal) a0 a1 a2 a3 a4 (ix2 t h) = (Mlstm.cap ((ins a0 a1 a2 a3 a4).gf h t.val) : EReal) := by
    rw [← Mlstm.cap_coe]
    show _ = Mlstm.capE (Mlstm.gate (fun t j => a1 (ix2 t j)) (fun h => a4 (ix1 h)) 1 h t.val)
    rw [Mlstm.gate_eq _ _ 1 h t ⟨4 + h.val, by omega⟩ rfl]
    pointwise [A_main_v61, A_main_v59, A_main_v58, A_main_v41, A_main_v40, A_main_v39, A_main_v38, K_main_v57, K_main_cst_4,
      K_main_v60, K_main_cst_5]
    rfl
  pointwise [A_main_v63, A_main_call4_v1, A_main_call4_v3, A_main_call4_v4, A_main_call4_v6, A_main_call4_v7, A_main_call4_v8,
    A_main_call4_v9, A_main_call4_v10, A_main_call4_v11, A_main_v62, K_main_call4_v0, K_main_call4_v2, K_main_call4_v5, K_main_call4_cst]
  rw [if_neg (fun hh => hh rfl), h1]
  exact Mlstm.softplus_coe _

/-- A sum from zero, one element after the other. -/
theorem fold_add {n : ℕ} (g : Fin n → EReal) : (List.finRange n).foldl (fun r k => r + g k) 0 = ∑ k, g k := by
  rw [Fin.sum_univ_def, List.sum_eq_foldl, List.foldl_map]

/-- The sum over a window of 64 rows that ends at row `r`, rows before the first counted zero. -/
theorem window_sum (a : ℕ → ℝ) (r : Fin 64) :
    (∑ p : Fin 64, if 63 ≤ r.val + p.val then a (r.val + p.val - 63) else 0) = ∑ s ∈ Finset.range (r.val + 1), a s := by
  rw [← Equiv.sum_comp Fin.revPerm, ← Finset.sum_range_reflect, ← Mlstm.sum_masked]
  refine Finset.sum_congr rfl fun p _ => ?_
  have hp : (Fin.revPerm p).val = 63 - p.val := by simp [Fin.rev]
  rw [hp]
  by_cases h : p.val ≤ r.val
  · rw [if_pos (by omega), if_pos h]
    exact congrArg a (by omega)
  · rw [if_neg (by omega), if_neg h]

/-- The running sum along the rows of a chunk. -/
theorem cumsum_apply (x : FVec Ideal S128x4x64 .f32) (a : ℕ → ℝ) (c : Fin 128) (h : Fin 4) (r : Fin 64)
    (hx : ∀ s : Fin 64, x (ix3 c h s) = (a s.val : EReal))
    (z : FVec Ideal S_ .f32) (hz : z (Shape.Idx.first h_S_) = 0)
    (hw : S128x4x64.ReduceWindows ![1, 1, 64] ![1, 1, 1] ![0, 0, 63] ![0, 0, 0] S128x4x64) :
    Host.reduceWindowAdd ![1, 1, 64] ![1, 1, 1] ![0, 0, 63] ![0, 0, 0] x z hw h_S_ (ix3 c h r)
      = ((∑ s ∈ Finset.range (r.val + 1), a s : ℝ) : EReal) := by
  show Ideal.hostReduceWindowAdd ![1, 1, 64] ![1, 1, 1] ![0, 0, 63] ![0, 0, 0] hw x (z (Shape.Idx.first h_S_)) (ix3 c h r) = _
  rw [hz]
  unfold Ideal.hostReduceWindowAdd Host.reduceWindow
  dsimp only
  rw [fold_add]
  rw [← window_sum, Mlstm.coe_sum]
  refine (Finset.sum_congr rfl fun k _ => dite_congr rfl (fun _ => rfl) (fun _ => rfl)).trans ((Equiv.sum_comp (Shape.rowMajor ⟨3, ![1, 1, 64]⟩).symm (fun i : (⟨3, ![1, 1, 64]⟩ : Shape).Idx =>
    if hin : ∀ a : Fin 3, ![0, 0, 63] a ≤ (ix3 c h r a).val * ![1, 1, 1] a + (i a).val
        ∧ (ix3 c h r a).val * ![1, 1, 1] a + (i a).val - ![0, 0, 63] a < ![128, 4, 64] a then
      x fun a => ⟨(ix3 c h r a).val * ![1, 1, 1] a + (i a).val - ![0, 0, 63] a, (hin a).2⟩ else (0 : EReal))).trans ?_)
  rw [sum_idx3, Fin.sum_univ_one, Fin.sum_univ_one]
  refine Finset.sum_congr rfl fun p _ => ?_
  by_cases hp : 63 ≤ r.val + p.val
  · rw [if_pos hp, dif_pos]
    · rw [← hx ⟨r.val + p.val - 63, by omega⟩]
      refine congrArg x (funext fun a => ?_)
      fin_cases a
      · exact Fin.ext (by simp)
      · exact Fin.ext (by simp)
      · exact Fin.ext (by simp)
    · intro a
      fin_cases a
      · simp
      · simp
      · simp; omega
  · rw [if_neg hp, dif_neg]
    · simp
    · intro hh
      have := (hh 2).1
      simp at this
      omega

theorem row_eq (c : Fin 128) (r : Fin 64) : c.val * 64 + r.val = 64 * c.val + r.val := by omega

/-- What the loop starts from: the chunks. -/
theorem init_chunks (hr : Reals a0 a2) : Chunks (init (F := Ideal) a0 a1 a2 a3 a4) (ins a0 a1 a2 a3 a4) where
  q c h r e := by
    show A_main_v45 (F := Ideal) a0 a1 a2 a3 a4 (ix4 c h r e) = _
    pointwise [A_main_v45, A_main_v43, A_main_v42, A_main_v31, K_main_v44, K_main_cst]
    rw [conv_apply hr 0 h e ⟨c.val * 64 + r.val, by omega⟩ _ (by simp; omega),
      show Ideal.ofBits FTy.f32 1031798784#32 = _ from Mlstm.ofBits_sixteenth, ← EReal.coe_mul]
    simp only [row_eq]
    rfl
  k c h r e := by
    show A_main_v47 (F := Ideal) a0 a1 a2 a3 a4 (ix4 c h r e) = _
    pointwise [A_main_v47, A_main_v46, A_main_v32]
    rw [conv_apply hr 1 h e ⟨c.val * 64 + r.val, by omega⟩ _ (by simp; omega)]
    simp only [row_eq]
    rfl
  v c h r e := by
    show A_main_v49 (F := Ideal) a0 a1 a2 a3 a4 (ix4 c h r e) = _
    pointwise [A_main_v49, A_main_v48, A_main_v33]
    refine (Mlstm.Real.seq hr 2 h e ⟨c.val * 64 + r.val, by omega⟩ _ (by simp; omega)).trans ?_
    simp only [row_eq]
    rfl
  g c h r := by
    show A_main_v56 (F := Ideal) a0 a1 a2 a3 a4 (ix3 c h r) = ((Mlstm.cap (Mlstm.gate (fun t j => a1 (ix2 t j)) (fun h => a3 (ix1 h)) 0 h
      (64 * c.val + r.val)) : ℝ) : EReal)
    rw [← Mlstm.cap_coe, ← row_eq,
      show Mlstm.gate (fun t j => a1 (ix2 t j)) (fun h => a3 (ix1 h)) 0 h (c.val * 64 + r.val) = _ from
        Mlstm.gate_eq _ _ 0 h ⟨c.val * 64 + r.val, by omega⟩ ⟨h.val, by omega⟩ (by simp)]
    pointwise [A_main_v56, A_main_v55, A_main_v54, A_main_v52, A_main_v51, A_main_v37, A_main_v36, A_main_v35, A_main_v34,
      K_main_v50, K_main_cst_2, K_main_v53, K_main_cst_3]
    rfl
  b c h r := by
    have h0 : (K_main_call5_call0_v0 (F := Ideal)) (Shape.Idx.first h_S_) = 0 := by
      pointwise [K_main_call5_call0_v0, K_main_call5_call0_cst]
    refine cumsum_apply _ (fun s => (ins a0 a1 a2 a3 a4).f h (64 * c.val + s)) c h r (fun s => ?_) _ h0 _
    pointwise [A_main_v66, A_main_v65, A_main_v64]
    refine (forget_apply ⟨c.val * 64 + s.val, by omega⟩ h).trans ?_
    simp only [row_eq]

/-- What the loop starts from: the state, all zero. -/
theorem init_carries : Carries (init (F := Ideal) a0 a1 a2 a3 a4) (ins a0 a1 a2 a3 a4) 0 (fun _ => 0) where
  m h := by
    show K_main_v72 (F := Ideal) (ix1 h) = _
    pointwise [K_main_v72, K_main_cst_9]
    exact EReal.coe_zero.symm
  c h d e := by
    show K_main_v70 (F := Ideal) (ix3 h d e) = _
    have h0 : (ins a0 a1 a2 a3 a4).mem h e d 0 = 0 := by
      unfold Mlstm.Inputs.mem Mlstm.mem
      exact Mlstm.st_zero _ _ _
    rw [mul_zero, h0, mul_zero]
    pointwise [K_main_v70, K_main_cst_7]
    exact EReal.coe_zero.symm
  n h e := by
    show K_main_v71 (F := Ideal) (ix2 h e) = _
    have h0 : (ins a0 a1 a2 a3 a4).nrm h e 0 = 0 := by
      unfold Mlstm.Inputs.nrm Mlstm.nrm
      exact Mlstm.st_zero _ _ _
    rw [mul_zero, h0, mul_zero]
    pointwise [K_main_v71, K_main_cst_8]
    exact EReal.coe_zero.symm
  y c hc := absurd hc (Nat.not_lt_zero _)

/-- A trip leaves the chunks it reads. -/
theorem step_chunks {j : ℕ} {s : State Ideal} {x : Mlstm.Inputs} (h : Chunks s x) : Chunks (step j s) x :=
  ⟨h.q, h.k, h.v, h.g, h.b⟩

variable (a0 a1 a2 a3 a4) in
/-- The states before each trip. -/
def states : ℕ → State Ideal
  | 0 => init (F := Ideal) a0 a1 a2 a3 a4
  | n + 1 => step n (states n)

theorem states_hold (hr : Reals a0 a2) : ∀ n ≤ 128, Chunks (states a0 a1 a2 a3 a4 n) (ins a0 a1 a2 a3 a4) ∧
    ∃ M, Carries (states a0 a1 a2 a3 a4 n) (ins a0 a1 a2 a3 a4) n M
  | 0, _ => ⟨init_chunks hr, _, init_carries⟩
  | n + 1, hn => by
    obtain ⟨ha, M, hc⟩ := states_hold hr n (by omega)
    exact ⟨step_chunks ha, step_carries (by omega) ha hc⟩

/-- The reference's result, element by element. -/
theorem reference_apply (hr : Reals a0 a2) (i : Fin 8192) (l : Fin 1024) (h : Fin 4) (d : Fin 256) (hl : l.val = 256 * h.val + d.val) :
    R_main_v99 (states a0 a1 a2 a3 a4 128) a0 a5 (ix2 i l)
      = Mlstm.gated ((ins a0 a1 a2 a3 a4).hid h i.val) d (a5 (ix1 l)) (a0 (ix2 i ⟨3072 + l.val, by omega⟩)) := by
  obtain ⟨_, M, hc⟩ := states_hold (a1 := a1) (a3 := a3) (a4 := a4) hr 128 (le_refl _)
  have hy : ∀ d' : Fin 256, (states a0 a1 a2 a3 a4 128).main_v74_10 (ix4 ⟨i.val / 64, by omega⟩ ⟨l.val / 256, by omega⟩ ⟨i.val % 64, by omega⟩ d')
      = ((ins a0 a1 a2 a3 a4).hid h i.val d' : EReal) := fun d' => by
    rw [hc.y _ (by simp only; omega)]
    rw [show 64 * (i.val / 64) + i.val % 64 = i.val by omega, show (⟨l.val / 256, by omega⟩ : Fin 4) = h from Fin.ext (by simp only; omega)]
  pointwise [R_main_v99]
  rw [show (⟨l.val % 256, by omega⟩ : Fin 256) = d from Fin.ext (by simp only; omega)]
  simp only [hy]
  rfl

end
end Cert.ReferenceIdeal.Step
end
-- ==== Proof.Result.lean ====
/- The precondition read as real numbers, and the two programs' results side by side. -/
module

public import proofs.«01_k».proof.Pre_finite
public import proofs.«01_k».proof.Proof.Windows
public import proofs.«01_k».proof.Proof.RefStart

@[expose] public section

noncomputable section

namespace Cert.Result

open Idealize.ShloMosaic

/-- The precondition's shape relations. -/
instance preFacts : Cert.Pre_finite.Facts where
  slices_S8192x4096_S8192x3072_0_0 := by decide
  bcast_S_S8192x3072 := by decide
  bcast_S_S4x2048 := by decide

theorem ofBits_inf : Ideal.ofBits .f32 0x7F800000#32 = ⊤ := by simp [Ideal.ofBits, Ideal.ieee]

/-- A number whose absolute value compares below infinity is real. -/
theorem real_of_lt (x : EReal) (h : Ideal.cmp .olt (max x (-x)) (Ideal.ofBits .f32 0x7F800000#32) = 1#1) : (x.toReal : EReal) = x := by
  rw [ofBits_inf] at h
  induction x using EReal.rec with
  | bot => exact absurd h (by simp [Ideal.cmp])
  | coe x => rfl
  | top => exact absurd h (by simp [Ideal.cmp])

/-- The precondition says the convolved and value columns, and the taps, are real. -/
theorem reals {a0 : FVec Ideal Pre_finite.S8192x4096 .f32} {a1 : FVec Ideal Pre_finite.S8192x128 .f32}
    {a2 : FVec Ideal Pre_finite.S4x2048 .f32} {a3 a4 : FVec Ideal Pre_finite.S4 .f32} {a5 : FVec Ideal Pre_finite.S1024 .f32}
    (h1 : (Pre_finite.fn (F := Ideal) a0 a1 a2 a3 a4 a5).1 = fun _ => 1#1)
    (h2 : (Pre_finite.fn (F := Ideal) a0 a1 a2 a3 a4 a5).2 = fun _ => 1#1) :
    Cert.ReferenceIdeal.Step.Reals a0 a2 where
  z t j hj := by
    have h := congrFun h1 (ix2 t (⟨j.val, hj⟩ : Fin 3072))
    have e : extractStridedSlice Pre_finite.S8192x3072 ![0, 0] a0 Pre_finite.Facts.slices_S8192x4096_S8192x3072_0_0
        (ix2 t (⟨j.val, hj⟩ : Fin 3072)) = a0 (ix2 t j) := by
      pointwise []
    refine real_of_lt (a0 (ix2 t j)) ?_
    rw [← e]
    exact h
  w j l := real_of_lt (a2 (ix2 j l)) (congrFun h2 (ix2 j l))

/-- Every entry of the result is in some head's lane. -/
theorem split (i : (⟨2, ![8192, 1024]⟩ : Shape).Idx) : ∃ (t : Fin 8192) (h : Fin 4) (d : Fin 256),
    i = ix2 t (Cert.KernelIdeal.Heads.col h d) := by
  have h0 : (i 0).val < 8192 := (i 0).isLt
  have h1 : (i 1).val < 1024 := (i 1).isLt
  refine ⟨⟨(i 0).val, h0⟩, ⟨(i 1).val / 256, by omega⟩, ⟨(i 1).val % 256, by omega⟩, ?_⟩
  funext a
  match a with
  | ⟨0, _⟩ => rfl
  | ⟨1, _⟩ => exact Fin.ext (show (i 1).val = 256 * ((i 1).val / 256) + (i 1).val % 256 by omega)

open Cert.KernelIdeal in
/-- The kernel's result is the reference's, of the same arrays. -/
theorem same (m : (l : Loc nD τ sig) → Buf (Elt Ideal) l) (c : Dev nD)
    (hr : Cert.ReferenceIdeal.Step.Reals (m ((c.tc : Thread nD τ).loc main_arg0)) (m ((c.tc : Thread nD τ).loc main_arg2))) :
    Cert.ReferenceIdeal.Step.R_main_v99 (F := Ideal) (Cert.ReferenceIdeal.Step.states (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) 128) (m ((c.tc : Thread nD τ).loc main_arg0)) (m ((c.tc : Thread nD τ).loc main_arg5))
      = Cert.KernelIdeal.Value.G9 m c := by
  funext i
  obtain ⟨t, h, d, rfl⟩ := split i
  exact (Cert.ReferenceIdeal.Step.reference_apply hr t _ h d rfl).trans (Cert.KernelIdeal.Heads.kernel_apply m c hr t h d).symm

end Cert.Result

end
-- ==== Proof.Squash.lean ====
/- The sigmoid, two ways. -/
module

public import proofs.«01_k».proof.Proof.Stored

@[expose] public section

noncomputable section

namespace Cert.Squash

open Idealize.ShloMosaic

/-- One over one plus the exponential of the negated argument. -/
def sg (x : EReal) : EReal := Ideal.div 1 (1 + Ideal.exp (-x))

theorem half : Ideal.ofBits .f32 0x3F000000#32 = ((1 / 2 : ℝ) : EReal) := by
  simp [Ideal.ofBits, Ideal.ieee, -EReal.coe_mul]; norm_num
/-- On the reals. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h1]
  generalize Real.exp (1 / 2 * r) = a at *
  generalize Real.exp (-(1 / 2 * r)) = b at *
  have hb : b = a⁻¹ := eq_inv_of_mul_eq_one_right h2
  subst hb
  field_simp
  ring

/-- Half a hyperbolic tangent of half the argument, plus a half, is the sigmoid; at the infinities too. -/
theorem tanh_eq (x : EReal) : ((1 / 2 : ℝ) : EReal) * Ideal.tanh (((1 / 2 : ℝ) : EReal) * x) + ((1 / 2 : ℝ) : EReal) = sg x := by
  have hs : sg x = Ideal.logistic x := rfl
  rw [hs]
  induction x using EReal.rec with
  | bot =>
    rw [EReal.coe_mul_bot_of_pos (by norm_num), Ideal.tanh_bot, Ideal.logistic_bot, mul_neg, mul_one,
      ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, tanh_half]

end Cert.Squash

end
-- ==== Proof.Up.lean ====
/- The dense half's way up: a gated pair of products. -/
module

public import proofs.«01_k».proof.Proof.Gen.Kernel2Ideal.Value
public import proofs.«01_k».proof.Proof.Gen.Reference2Ideal.Run
public import proofs.«01_k».proof.Proof.Squash
public import proofs.«01_k».proof.Defs
public import Idealize.ShloMosaic.Lib.Claim
public import Idealize.ShloMosaic.Lib.Quiescent

@[expose] public section

noncomputable section

namespace Cert.Up

open Idealize.ShloMosaic Idealize.ShloMosaic.TcCoe Idealize.SL.Sem Cert.Squash

/-- A gate squashed by its own sigmoid, times the other product. -/
def gate (a b : EReal) : EReal := a * sg a * b

section
open Cert.Reference2Ideal Cert.Reference2Ideal.Gen

/-- The reference's product of the activations with one layer's weight. -/
theorem product_apply (X : FVec Ideal S8192x2048 .bf16) (W : FVec Ideal S2x2048x5632 .f32) (i : Fin 8192) (j : Fin 5632) :
    (Host.dotGeneral dot_S8192x2048_S2048x5632_S8192x5632_1_0_0_1_n_n none (extf .f32 X bitsLt_bf16_f32)
      (shapeCast _ (extractStridedSlice S1x2048x5632 ![0, 0, 0] W slices_S2x2048x5632_S1x2048x5632_0_0_0)
        shapeCasts_S1x2048x5632_S2048x5632) : FVec Ideal S8192x5632 .f32) (ix2 i j)
      = ∑ k : Fin 2048, X (ix2 i k) * W (ix3 0 k j) := by
  pointwise []

/-- What the reference makes of the two products. -/
theorem gate_apply (a b : FVec Ideal S8192x5632 .f32) (i : Fin 8192) (j : Fin 5632) :
    (truncf .bf16 (mulf (mulf a (Host.divf (broadcastInDim S8192x5632 ![] bcast_S_S8192x5632 (constant S_ .f32 0x3F800000#32))
      (addf (broadcastInDim S8192x5632 ![] bcast_S_S8192x5632 (constant S_ .f32 0x3F800000#32)) (Host.exp (Host.negf a))))) b)
      bitsLt_bf16_f32 : FVec Ideal S8192x5632 .bf16) (ix2 i j) = gate (a (ix2 i j)) (b (ix2 i j)) := by
  unfold gate sg
  pointwise []

end

end Cert.Up

namespace Cert.Up

open Idealize.ShloMosaic Idealize.ShloMosaic.TcCoe Idealize.SL.Sem Cert.Kernel2Ideal Cert.Kernel2Ideal.Gen Cert.Kernel2Ideal.Value
  Cert.Stored Cert.Squash

variable (m : (l : Loc nD τ sig) → Buf (Elt Ideal) l)

theorem read_g (x : Vec Ideal S2048x512 .bf16) (h : (Memref.whole cc0_scratch0).IsWhole) :
    View.read (Elt Ideal) (View.whole cc0_scratch0) (h.unread x) = x := h.read_unread x
theorem read_u (x : Vec Ideal S2048x512 .bf16) (h : (Memref.whole cc0_scratch1).IsWhole) :
    View.read (Elt Ideal) (View.whole cc0_scratch1) (h.unread x) = x := h.read_unread x

/-- A point's block of the result, over the two weights it finds. -/
def tile (c : Dev nD) (t : Fin cfg0.N) (w : Vec Ideal S2048x512 .bf16 × Vec Ideal S2048x512 .bf16) : Vec Ideal S2048x512 .bf16 :=
  k0_pay3 (iblk m c 0 t) w.1 w.2
/-- The two weights a point's column of blocks uses. -/
def weights (c : Dev nD) (t : Fin cfg0.N) : Vec Ideal S2048x512 .bf16 × Vec Ideal S2048x512 .bf16 :=
  (k0_pay1 (iblk m c 1 t), k0_pay2 (iblk m c 2 t))

theorem first (c : Dev nD) (t : Fin cfg0.N) (acc) (h0 : t.val % 4 = 0) :
    stAt0 m c t.val t.isLt acc = (tile m c t (weights m c t), weights m c t) := by
  rw [stAt0_A m c t acc h0]
  refine Prod.ext ?_ (Prod.ext ?_ ?_)
  · dsimp only
    unfold out0_A_3
    rw [View.read_writes_eq_canon _ _ _ (fun y => cover0_A_3 (y := y) ..)]
    unfold kernelRun0_A
    dsimp only
    sl_unfold_words
    simp only [View.readAt_eq_ld, Memref.IsWhole.read_unread, read_g, read_u]
    simp (disch := decide) only [ld_filled, View.ld_unit_lit, View.canon_cons_unit_lit]
    rfl
  · dsimp only
    unfold sout0_A_0
    rw [View.read_writes_eq_canon _ _ _ (fun y => scover0_A_0 (y := y) ..)]
    unfold kernelRun0_A
    dsimp only
    sl_unfold_words
    simp only [View.readAt_eq_ld, Memref.IsWhole.read_unread, read_g, read_u]
    simp (disch := decide) only [ld_filled, View.ld_unit_lit, View.canon_cons_unit_lit]
    rfl
  · dsimp only
    unfold sout0_A_1
    rw [View.read_writes_eq_canon _ _ _ (fun y => scover0_A_1 (y := y) ..)]
    unfold kernelRun0_A
    dsimp only
    sl_unfold_words
    simp only [View.readAt_eq_ld, Memref.IsWhole.read_unread, read_g, read_u]
    simp (disch := decide) only [ld_filled, View.ld_unit_lit, View.canon_cons_unit_lit]
    rfl

theorem later (c : Dev nD) (t : Fin cfg0.N) (acc) (h0 : ¬t.val % 4 = 0) :
    stAt0 m c t.val t.isLt acc = (tile m c t acc.2, acc.2) := by
  rw [stAt0_B m c t acc h0]
  refine Prod.ext ?_ rfl
  dsimp only
  unfold out0_B_3
  rw [View.read_writes_eq_canon _ _ _ (fun y => cover0_B_3 (y := y) ..)]
  unfold kernelRun0_B
  dsimp only
  sl_unfold_words
  simp only [View.readAt_eq_ld, Memref.IsWhole.read_unread, read_g, read_u]
  simp (disch := decide) only [ld_filled, View.ld_unit_lit, View.canon_cons_unit_lit]
  rfl

theorem index_eq : ∀ t : Fin cfg0.N, win0_0.index t = ![t.val % 4, 0] ∧ win0_1.index t = ![0, 0, t.val / 4]
    ∧ win0_2.index t = ![0, 0, t.val / 4] :=
  (by decide +kernel : ∀ t : Fin grid0.N, _)

theorem point_lt (t : Fin cfg0.N) : t.val < 44 := lt_of_lt_of_eq t.isLt (show cfg0.N = 44 from N_0)

def arrX (c : Dev nD) (i : Fin 8192) (k : Fin 2048) : EReal := (m ((c : Thread nD τ).loc main_arg0) : Vec Ideal S8192x2048 .bf16) (ix2 i k)
def arrG (c : Dev nD) (k : Fin 2048) (j : Fin 5632) : EReal := (m ((c : Thread nD τ).loc main_arg1) : Vec Ideal S2x2048x5632 .f32) (ix3 0 k j)
def arrU (c : Dev nD) (k : Fin 2048) (j : Fin 5632) : EReal := (m ((c : Thread nD τ).loc main_arg2) : Vec Ideal S2x2048x5632 .f32) (ix3 0 k j)

/-- Where a point's block lies. -/
def row (t : Fin cfg0.N) (r : Fin 2048) : Fin 8192 := ⟨2048 * (t.val % 4) + r.val, by have := point_lt t; omega⟩
def col (t : Fin cfg0.N) (l : Fin 512) : Fin 5632 := ⟨512 * (t.val / 4) + l.val, by have := point_lt t; omega⟩

theorem x0_apply (c : Dev nD) (t : Fin cfg0.N) (r : Fin 2048) (k : Fin 2048) :
    (iblk m c 0 t : Vec Ideal S2048x2048 .bf16) (ix2 r k) = arrX m c (row t r) k := by
  have idx := (index_eq t).1
  unfold arrX row
  blk_ext [iblk, V, idx]
theorem x1_apply (c : Dev nD) (t : Fin cfg0.N) (k : Fin 2048) (l : Fin 512) :
    (iblk m c 1 t : Vec Ideal S1x2048x512 .f32) (ix3 0 k l) = arrG m c k (col t l) := by
  have idx := (index_eq t).2.1
  unfold arrG col
  blk_ext [iblk, V, idx]
theorem x2_apply (c : Dev nD) (t : Fin cfg0.N) (k : Fin 2048) (l : Fin 512) :
    (iblk m c 2 t : Vec Ideal S1x2048x512 .f32) (ix3 0 k l) = arrU m c k (col t l) := by
  have idx := (index_eq t).2.2
  unfold arrU col
  blk_ext [iblk, V, idx]

theorem weight_g (c : Dev nD) (t : Fin cfg0.N) (k : Fin 2048) (l : Fin 512) :
    (weights m c t).1 (ix2 k l) = arrG m c k (col t l) := by
  rw [← x1_apply]
  unfold weights
  pointwise [k0_pay1]
theorem weight_u (c : Dev nD) (t : Fin cfg0.N) (k : Fin 2048) (l : Fin 512) :
    (weights m c t).2 (ix2 k l) = arrU m c k (col t l) := by
  rw [← x2_apply]
  unfold weights
  pointwise [k0_pay2]

/-- One entry of the result. -/
def entry (c : Dev nD) (i : Fin 8192) (j : Fin 5632) : EReal :=
  gate (∑ k : Fin 2048, arrX m c i k * arrG m c k j) (∑ k : Fin 2048, arrX m c i k * arrU m c k j)

theorem tile_apply (c : Dev nD) (t : Fin cfg0.N) (r : Fin 2048) (l : Fin 512) :
    tile m c t (weights m c t) (ix2 r l) = entry m c (row t r) (col t l) := by
  unfold entry
  simp only [← x0_apply, ← weight_g, ← weight_u]
  unfold tile gate sg
  rw [← zero_sub]
  pointwise [k0_pay3]

theorem weights_same (c : Dev nD) (n : ℕ) (h : n + 1 < cfg0.N) (hn : ¬(n + 1) % 4 = 0) :
    weights m c ⟨n + 1, h⟩ = weights m c ⟨n, Nat.lt_of_succ_lt h⟩ := by
  have e : ∀ l, col ⟨n + 1, h⟩ l = col ⟨n, Nat.lt_of_succ_lt h⟩ l := fun l => by
    apply Fin.ext; simp only [col]; omega
  have a : ∀ (k : Fin 2048) (l : Fin 512), (weights m c ⟨n + 1, h⟩).1 (ix2 k l) = (weights m c ⟨n, Nat.lt_of_succ_lt h⟩).1 (ix2 k l) :=
    fun k l => by rw [weight_g, weight_g, e]
  have b : ∀ (k : Fin 2048) (l : Fin 512), (weights m c ⟨n + 1, h⟩).2 (ix2 k l) = (weights m c ⟨n, Nat.lt_of_succ_lt h⟩).2 (ix2 k l) :=
    fun k l => by rw [weight_u, weight_u, e]
  refine Prod.ext (funext fun y => ?_) (funext fun y => ?_)
  · rw [eq_ix2 y]; exact a (y 0) (y 1)
  · rw [eq_ix2 y]; exact b (y 0) (y 1)

theorem all (c : Dev nD) (t : Fin cfg0.N) :
    outsAt0 m c t.val t.isLt = (tile m c t (weights m c t), weights m c t) :=
  kept (p := 4) (outsAt0 m c) (stAt0 m c) junk0 (fun n h => weights m c ⟨n, h⟩) (fun n h => tile m c ⟨n, h⟩)
    (outsAt0_zero m c) (outsAt0_succ m c) (fun n h acc e => first m c ⟨n, h⟩ acc e) (fun n h acc e => later m c ⟨n, h⟩ acc e)
    (weights_same m c) t.val t.isLt

/-- The kernel's result, entry by entry. -/
theorem result_apply (c : Dev nD) (i : Fin 8192) (j : Fin 5632) :
    (G3 m c : Vec Ideal S8192x5632 .bf16) (ix2 i j) = entry m c i j := by
  have hN : cfg0.N = 44 := N_0
  have hp : pt3Of (ix2 i j) = i.val / 2048 + 4 * (j.val / 512) := by
    show 1 * (i.val / 2048 - 0) + 4 * (j.val / 512 - 0) = _
    omega
  have hl : loc3Of (ix2 i j) = ix2 (⟨i.val % 2048, Nat.mod_lt _ (by decide)⟩ : Fin 2048) (⟨j.val % 512, Nat.mod_lt _ (by decide)⟩ : Fin 512) := by
    funext a; apply Fin.ext
    match a with
    | ⟨0, _⟩ => rfl
    | ⟨1, _⟩ => rfl
  have hb : pt3Of (ix2 i j) < cfg0.N := by rw [hp, hN]; omega
  show G3 m c (ix2 i j) = _
  unfold G3
  rw [dif_pos hb, ← outsAt0_sweep m c _ hb, hl, all m c ⟨_, hb⟩]
  refine (tile_apply m c ⟨_, hb⟩ _ _).trans ?_
  congr 1
  · apply Fin.ext; simp only [row, hp]; omega
  · apply Fin.ext; simp only [col, hp]; omega

/-- The reference runs, its arguments unchanged, every counter at zero. -/
theorem reference_frame : quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- From equal arguments the two programs end with equal results. -/
theorem values : algebraic_Kernel2Ideal_Reference2Ideal := by
  intro m g m' g' _ he
  refine ⟨fun c => G3 m c, Cert.Kernel2Ideal.Value.run (F := Ideal) m g, ?_⟩
  refine (θ_run Cert.Reference2Ideal.defs _ _).mono (fun r h c => ⟨(h c).1.trans ?_, (h c).2⟩)
    (Cert.Reference2Ideal.Value.run (F := Ideal) m' g')
  obtain ⟨e0, e1, e2⟩ := he c
  simp only [e0, e1, e2]
  refine funext fun y => ?_
  rw [eq_ix2 y]
  refine (gate_apply _ _ (y 0) (y 1)).trans (Eq.trans ?_ (result_apply m c (y 0) (y 1)).symm)
  exact congrArg₂ gate (product_apply _ _ (y 0) (y 1)) (product_apply _ _ (y 0) (y 1))

end Cert.Up

end
-- ==== Proof.Down.lean ====
/- The dense half's way down: a residual plus activations times a weight. -/
module

public import proofs.«01_k».proof.Proof.Gen.Kernel3Ideal.Value
public import proofs.«01_k».proof.Proof.Gen.Reference3Ideal.Run
public import proofs.«01_k».proof.Proof.Stored
public import proofs.«01_k».proof.Defs
public import Idealize.ShloMosaic.Lib.Claim
public import Idealize.ShloMosaic.Lib.Quiescent
public import Idealize.ShloMosaic.Lib.Pipeline.ValueKit

@[expose] public section

noncomputable section

namespace Cert.Down

open Idealize.ShloMosaic Idealize.ShloMosaic.TcCoe Idealize.SL.Sem

section
open Cert.Reference3Ideal Cert.Reference3Ideal.Gen

/-- The reference's result, entry by entry. -/
theorem reference_apply (X : FVec Ideal S8192x5632 .bf16) (W : FVec Ideal S2x5632x2048 .f32) (H : FVec Ideal S8192x2048 .f32)
    (i : Fin 8192) (j : Fin 2048) :
    (addf H (Host.dotGeneral dot_S8192x5632_S5632x2048_S8192x2048_1_0_0_1_n_n none (extf .f32 X bitsLt_bf16_f32)
      (shapeCast _ (extractStridedSlice S1x5632x2048 ![0, 0, 0] W slices_S2x5632x2048_S1x5632x2048_0_0_0)
        shapeCasts_S1x5632x2048_S5632x2048)) : FVec Ideal S8192x2048 .f32) (ix2 i j)
      = H (ix2 i j) + ∑ k : Fin 5632, X (ix2 i k) * W (ix3 0 k j) := by
  pointwise []

end

end Cert.Down

namespace Cert.Down

open Idealize.ShloMosaic Idealize.ShloMosaic.TcCoe Idealize.SL.Sem Cert.Kernel3Ideal Cert.Kernel3Ideal.Gen Cert.Kernel3Ideal.Value
  Cert.Stored

variable (m : (l : Loc nD τ sig) → Buf (Elt Ideal) l)

theorem read_w (x : Vec Ideal S5632x512 .bf16) (h : (Memref.whole cc0_scratch0).IsWhole) :
    View.read (Elt Ideal) (View.whole cc0_scratch0) (h.unread x) = x := h.read_unread x

/-- A point's block of the result, over the weight it finds. -/
def tile (c : Dev nD) (t : Fin cfg0.N) (w : Vec Ideal S5632x512 .bf16) : Vec Ideal S512x512 .f32 :=
  k0_pay2 (iblk m c 2 t) (iblk m c 0 t) w
/-- The weight a point's column of blocks uses. -/
def weight (c : Dev nD) (t : Fin cfg0.N) : Vec Ideal S5632x512 .bf16 := k0_pay1 (iblk m c 1 t)

theorem first (c : Dev nD) (t : Fin cfg0.N) (acc) (h0 : t.val % 16 = 0) :
    stAt0 m c t.val t.isLt acc = (tile m c t (weight m c t), weight m c t) := by
  rw [stAt0_A m c t acc h0]
  refine Prod.ext ?_ ?_
  · dsimp only
    unfold out0_A_3
    rw [View.read_writes_eq_canon _ _ _ (fun y => cover0_A_3 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl
  · dsimp only
    unfold sout0_A_0
    rw [View.read_writes_eq_canon _ _ _ (fun y => scover0_A_0 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl

theorem later (c : Dev nD) (t : Fin cfg0.N) (acc) (h0 : ¬t.val % 16 = 0) :
    stAt0 m c t.val t.isLt acc = (tile m c t acc.2, acc.2) := by
  rw [stAt0_B m c t acc h0]
  refine Prod.ext ?_ rfl
  dsimp only
  unfold out0_B_3
  rw [View.read_writes_eq_canon _ _ _ (fun y => cover0_B_3 (y := y) ..)]
  unfold kernelRun0_B
  dsimp only
  sl_unfold_words
  simp only [View.readAt_eq_ld, Memref.IsWhole.read_unread, read_w]
  simp (disch := decide) only [ld_filled, View.ld_unit_lit, View.canon_cons_unit_lit]
  rfl

theorem index_eq : ∀ t : Fin cfg0.N, win0_0.index t = ![t.val % 16, 0] ∧ win0_1.index t = ![0, 0, t.val / 16]
    ∧ win0_2.index t = ![t.val % 16, t.val / 16] :=
  (by decide +kernel : ∀ t : Fin grid0.N, _)

theorem point_lt (t : Fin cfg0.N) : t.val < 64 := lt_of_lt_of_eq t.isLt (show cfg0.N = 64 from N_0)

def arrX (c : Dev nD) (i : Fin 8192) (k : Fin 5632) : EReal := (m ((c : Thread nD τ).loc main_arg0) : Vec Ideal S8192x5632 .bf16) (ix2 i k)
def arrW (c : Dev nD) (k : Fin 5632) (j : Fin 2048) : EReal := (m ((c : Thread nD τ).loc main_arg1) : Vec Ideal S2x5632x2048 .f32) (ix3 0 k j)
def arrH (c : Dev nD) (i : Fin 8192) (j : Fin 2048) : EReal := (m ((c : Thread nD τ).loc main_arg2) : Vec Ideal S8192x2048 .f32) (ix2 i j)

/-- Where a point's block lies. -/
def row (t : Fin cfg0.N) (r : Fin 512) : Fin 8192 := ⟨512 * (t.val % 16) + r.val, by have := point_lt t; omega⟩
def col (t : Fin cfg0.N) (l : Fin 512) : Fin 2048 := ⟨512 * (t.val / 16) + l.val, by have := point_lt t; omega⟩

theorem x0_apply (c : Dev nD) (t : Fin cfg0.N) (r : Fin 512) (k : Fin 5632) :
    (iblk m c 0 t : Vec Ideal S512x5632 .bf16) (ix2 r k) = arrX m c (row t r) k := by
  have idx := (index_eq t).1
  unfold arrX row
  blk_ext [iblk, V, idx]
theorem x1_apply (c : Dev nD) (t : Fin cfg0.N) (k : Fin 5632) (l : Fin 512) :
    (iblk m c 1 t : Vec Ideal S1x5632x512 .f32) (ix3 0 k l) = arrW m c k (col t l) := by
  have idx := (index_eq t).2.1
  unfold arrW col
  blk_ext [iblk, V, idx]
theorem x2_apply (c : Dev nD) (t : Fin cfg0.N) (r l : Fin 512) :
    (iblk m c 2 t : Vec Ideal S512x512 .f32) (ix2 r l) = arrH m c (row t r) (col t l) := by
  have idx := (index_eq t).2.2
  unfold arrH row col
  blk_ext [iblk, V, idx]

theorem weight_apply (c : Dev nD) (t : Fin cfg0.N) (k : Fin 5632) (l : Fin 512) :
    weight m c t (ix2 k l) = arrW m c k (col t l) := by
  rw [← x1_apply]
  unfold weight
  pointwise [k0_pay1]

/-- One entry of the result. -/
def entry (c : Dev nD) (i : Fin 8192) (j : Fin 2048) : EReal :=
  arrH m c i j + ∑ k : Fin 5632, arrX m c i k * arrW m c k j

theorem tile_apply (c : Dev nD) (t : Fin cfg0.N) (r l : Fin 512) :
    tile m c t (weight m c t) (ix2 r l) = entry m c (row t r) (col t l) := by
  unfold entry
  rw [← x2_apply]
  simp only [← x0_apply, ← weight_apply]
  unfold tile
  pointwise [k0_pay2]

theorem weight_same (c : Dev nD) (n : ℕ) (h : n + 1 < cfg0.N) (hn : ¬(n + 1) % 16 = 0) :
    weight m c ⟨n + 1, h⟩ = weight m c ⟨n, Nat.lt_of_succ_lt h⟩ := by
  have e : ∀ l, col ⟨n + 1, h⟩ l = col ⟨n, Nat.lt_of_succ_lt h⟩ l := fun l => by
    apply Fin.ext; simp only [col]; omega
  have a : ∀ (k : Fin 5632) (l : Fin 512), weight m c ⟨n + 1, h⟩ (ix2 k l) = weight m c ⟨n, Nat.lt_of_succ_lt h⟩ (ix2 k l) :=
    fun k l => by rw [weight_apply, weight_apply, e]
  funext y
  rw [eq_ix2 y]
  exact a (y 0) (y 1)

theorem all (c : Dev nD) (t : Fin cfg0.N) :
    outsAt0 m c t.val t.isLt = (tile m c t (weight m c t), weight m c t) :=
  kept (p := 16) (outsAt0 m c) (stAt0 m c) junk0 (fun n h => weight m c ⟨n, h⟩) (fun n h => tile m c ⟨n, h⟩)
    (outsAt0_zero m c) (outsAt0_succ m c) (fun n h acc e => first m c ⟨n, h⟩ acc e) (fun n h acc e => later m c ⟨n, h⟩ acc e)
    (weight_same m c) t.val t.isLt

/-- The kernel's result, entry by entry. -/
theorem result_apply (c : Dev nD) (i : Fin 8192) (j : Fin 2048) :
    (G3 m c : Vec Ideal S8192x2048 .f32) (ix2 i j) = entry m c i j := by
  have hN : cfg0.N = 64 := N_0
  have hp : pt3Of (ix2 i j) = i.val / 512 + 16 * (j.val / 512) := by
    show 1 * (i.val / 512 - 0) + 16 * (j.val / 512 - 0) = _
    omega
  have hl : loc3Of (ix2 i j) = ix2 (⟨i.val % 512, Nat.mod_lt _ (by decide)⟩ : Fin 512) (⟨j.val % 512, Nat.mod_lt _ (by decide)⟩ : Fin 512) := by
    funext a; apply Fin.ext
    match a with
    | ⟨0, _⟩ => rfl
    | ⟨1, _⟩ => rfl
  have hb : pt3Of (ix2 i j) < cfg0.N := by rw [hp, hN]; omega
  show G3 m c (ix2 i j) = _
  unfold G3
  rw [dif_pos hb, ← outsAt0_sweep m c _ hb, hl, all m c ⟨_, hb⟩]
  refine (tile_apply m c ⟨_, hb⟩ _ _).trans ?_
  congr 1
  · apply Fin.ext; simp only [row, hp]; omega
  · apply Fin.ext; simp only [col, hp]; omega

/-- The reference runs, its arguments unchanged, every counter at zero. -/
theorem reference_frame : quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- From equal arguments the two programs end with equal results. -/
theorem values : algebraic_Kernel3Ideal_Reference3Ideal := by
  intro m g m' g' _ he
  refine ⟨fun c => G3 m c, Cert.Kernel3Ideal.Value.run (F := Ideal) m g, ?_⟩
  refine (θ_run Cert.Reference3Ideal.defs _ _).mono (fun r h c => ⟨(h c).1.trans ?_, (h c).2⟩)
    (Cert.Reference3Ideal.Value.run (F := Ideal) m' g')
  obtain ⟨e0, e1, e2⟩ := he c
  simp only [e0, e1, e2]
  refine funext fun y => ?_
  rw [eq_ix2 y]
  exact (reference_apply _ _ _ (y 0) (y 1)).trans (result_apply m c (y 0) (y 1)).symm

end Cert.Down

end
-- ==== Proof.Gates.lean ====
/- The gates' projection: activations times some of a weight's columns, through the sigmoid. -/
module

public import proofs.«01_k».proof.Proof.Gen.Kernel4Ideal.Value
public import proofs.«01_k».proof.Proof.Gen.Reference4Ideal.Run
public import proofs.«01_k».proof.Proof.Squash
public import proofs.«01_k».proof.Defs
public import Idealize.ShloMosaic.Lib.Claim
public import Idealize.ShloMosaic.Lib.Quiescent

@[expose] public section

noncomputable section

namespace Cert.Gates

open Idealize.ShloMosaic Idealize.ShloMosaic.TcCoe Idealize.SL.Sem Cert.Squash Cert.Reference4Ideal Cert.Reference4Ideal.Gen

/-- The reference's product of the activations with one layer's weight. -/
theorem product_apply (X : FVec Ideal S8192x2048 .bf16) (W : FVec Ideal S2x2048x12744 .f32) (i : Fin 8192) (j : Fin 12744) :
    (Host.dotGeneral dot_S8192x2048_S2048x12744_S8192x12744_1_0_0_1_n_n none (extf .f32 X bitsLt_bf16_f32)
      (shapeCast _ (extractStridedSlice S1x2048x12744 ![0, 0, 0] W slices_S2x2048x12744_S1x2048x12744_0_0_0)
        shapeCasts_S1x2048x12744_S2048x12744) : FVec Ideal S8192x12744 .f32) (ix2 i j)
      = ∑ k : Fin 2048, X (ix2 i k) * W (ix3 0 k j) := by
  pointwise []

/-- What the reference makes of the product's last columns. -/
theorem gate_apply (a : FVec Ideal S8192x12744 .f32) (i : Fin 8192) (j : Fin 6144) :
    (truncf .bf16 (Host.divf (broadcastInDim S8192x6144 ![] bcast_S_S8192x6144 (constant S_ .f32 0x3F800000#32))
      (addf (broadcastInDim S8192x6144 ![] bcast_S_S8192x6144 (constant S_ .f32 0x3F800000#32))
        (Host.exp (Host.negf (extractStridedSlice S8192x6144 ![0, 6600] a slices_S8192x12744_S8192x6144_0_6600)))))
      bitsLt_bf16_f32 : FVec Ideal S8192x6144 .bf16) (ix2 i j) = sg (a (ix2 i ⟨6600 + j.val, by omega⟩)) := by
  unfold sg
  pointwise []

end Cert.Gates

namespace Cert.Gates

open Idealize.ShloMosaic Idealize.ShloMosaic.TcCoe Idealize.SL.Sem Cert.Kernel4Ideal Cert.Kernel4Ideal.Gen Cert.Kernel4Ideal.Value
  Cert.Stored Cert.Squash

variable (m : (l : Loc nD τ sig) → Buf (Elt Ideal) l)

theorem read_w (x : Vec Ideal S1024x2048 .bf16) (h : (Memref.whole cc0_scratch0).IsWhole) :
    View.read (Elt Ideal) (View.whole cc0_scratch0) (h.unread x) = x := h.read_unread x

/-- A point's block of the result, over the weight it finds. -/
def tile (c : Dev nD) (t : Fin cfg0.N) (w : Vec Ideal S1024x2048 .bf16) : Vec Ideal S1024x1024 .bf16 :=
  k0_pay2 (iblk m c 0 t) w
/-- The weight a point's column of blocks uses. -/
def weight (c : Dev nD) (t : Fin cfg0.N) : Vec Ideal S1024x2048 .bf16 := k0_pay1 (iblk m c 1 t)

theorem first (c : Dev nD) (t : Fin cfg0.N) (acc) (h0 : t.val % 8 = 0) :
    stAt0 m c t.val t.isLt acc = (tile m c t (weight m c t), weight m c t) := by
  rw [stAt0_A m c t acc h0]
  refine Prod.ext ?_ ?_
  · dsimp only
    unfold out0_A_2
    rw [View.read_writes_eq_canon _ _ _ (fun y => cover0_A_2 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl
  · dsimp only
    unfold sout0_A_0
    rw [View.read_writes_eq_canon _ _ _ (fun y => scover0_A_0 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl

theorem later (c : Dev nD) (t : Fin cfg0.N) (acc) (h0 : ¬t.val % 8 = 0) :
    stAt0 m c t.val t.isLt acc = (tile m c t acc.2, acc.2) := by
  rw [stAt0_B m c t acc h0]
  refine Prod.ext ?_ rfl
  dsimp only
  unfold out0_B_2
  rw [View.read_writes_eq_canon _ _ _ (fun y => cover0_B_2 (y := y) ..)]
  unfold kernelRun0_B
  dsimp only
  sl_unfold_words
  simp only [View.readAt_eq_ld, Memref.IsWhole.read_unread, read_w]
  simp (disch := decide) only [ld_filled, View.ld_unit_lit, View.canon_cons_unit_lit]
  rfl

theorem index_eq : ∀ t : Fin cfg0.N, win0_0.index t = ![t.val % 8, 0] ∧ win0_1.index t = ![0, 6600 + 1024 * (t.val / 8), 0] :=
  (by decide +kernel : ∀ t : Fin grid0.N, _)

theorem point_lt (t : Fin cfg0.N) : t.val < 48 := lt_of_lt_of_eq t.isLt (show cfg0.N = 48 from N_0)

def arrX (c : Dev nD) (i : Fin 8192) (k : Fin 2048) : EReal := (m ((c : Thread nD τ).loc main_arg0) : Vec Ideal S8192x2048 .bf16) (ix2 i k)
def arrW (c : Dev nD) (k : Fin 2048) (j : Fin 12744) : EReal := (m ((c : Thread nD τ).loc main_arg1) : Vec Ideal S2x2048x12744 .f32) (ix3 0 k j)

/-- Where a point's block lies. -/
def row (t : Fin cfg0.N) (r : Fin 1024) : Fin 8192 := ⟨1024 * (t.val % 8) + r.val, by have := point_lt t; omega⟩
def col (t : Fin cfg0.N) (l : Fin 1024) : Fin 6144 := ⟨1024 * (t.val / 8) + l.val, by have := point_lt t; omega⟩
/-- The gates' columns of the weight. -/
def at' (j : Fin 6144) : Fin 12744 := ⟨6600 + j.val, by omega⟩

theorem x0_apply (c : Dev nD) (t : Fin cfg0.N) (r : Fin 1024) (k : Fin 2048) :
    (iblk m c 0 t : Vec Ideal S1024x2048 .bf16) (ix2 r k) = arrX m c (row t r) k := by
  have idx := (index_eq t).1
  unfold arrX row
  blk_ext [iblk, V, idx]

/-- The weight as the host hands it over, its last two axes exchanged. -/
theorem turned_apply (c : Dev nD) (j : Fin 12744) (k : Fin 2048) :
    (V m c main_v0 : Vec Ideal S2x12744x2048 .f32) (ix3 0 j k) = arrW m c k j := by
  unfold arrW V hostOps0
  after_results
  pointwise []

theorem x1_apply (c : Dev nD) (t : Fin cfg0.N) (l : Fin 1024) (k : Fin 2048) :
    (iblk m c 1 t : Vec Ideal S1x1024x2048 .f32) (ix3 0 l k) = arrW m c k (at' (col t l)) := by
  have idx := (index_eq t).2
  rw [← turned_apply]
  unfold at' col
  have e0 : win0_1.index t 0 = 0 := by rw [idx]; rfl
  have e1 : win0_1.index t 1 = 6600 + 1024 * (t.val / 8) := by rw [idx]; rfl
  have e2 : win0_1.index t 2 = 0 := by rw [idx]; rfl
  blk_ext [iblk]
  · show win0_1.index t 0 + 1 * 0 = 0
    omega
  · show win0_1.index t 1 + 1 * l.val = _
    omega
  · show win0_1.index t 2 + 1 * k.val = _
    omega

theorem weight_apply (c : Dev nD) (t : Fin cfg0.N) (l : Fin 1024) (k : Fin 2048) :
    weight m c t (ix2 l k) = arrW m c k (at' (col t l)) := by
  rw [← x1_apply]
  unfold weight
  pointwise [k0_pay1]

/-- One entry of the result. -/
def entry (c : Dev nD) (i : Fin 8192) (j : Fin 6144) : EReal :=
  sg (∑ k : Fin 2048, arrX m c i k * arrW m c k (at' j))

theorem tile_apply (c : Dev nD) (t : Fin cfg0.N) (r l : Fin 1024) :
    tile m c t (weight m c t) (ix2 r l) = entry m c (row t r) (col t l) := by
  unfold entry
  simp only [← x0_apply, ← weight_apply]
  rw [← tanh_eq, ← half]
  unfold tile
  pointwise [k0_pay2]

theorem weight_same (c : Dev nD) (n : ℕ) (h : n + 1 < cfg0.N) (hn : ¬(n + 1) % 8 = 0) :
    weight m c ⟨n + 1, h⟩ = weight m c ⟨n, Nat.lt_of_succ_lt h⟩ := by
  have e : ∀ l, col ⟨n + 1, h⟩ l = col ⟨n, Nat.lt_of_succ_lt h⟩ l := fun l => by
    apply Fin.ext; simp only [col]; omega
  have a : ∀ (l : Fin 1024) (k : Fin 2048), weight m c ⟨n + 1, h⟩ (ix2 l k) = weight m c ⟨n, Nat.lt_of_succ_lt h⟩ (ix2 l k) :=
    fun l k => by rw [weight_apply, weight_apply, e]
  funext y
  rw [eq_ix2 y]
  exact a (y 0) (y 1)

theorem all (c : Dev nD) (t : Fin cfg0.N) :
    outsAt0 m c t.val t.isLt = (tile m c t (weight m c t), weight m c t) :=
  kept (p := 8) (outsAt0 m c) (stAt0 m c) junk0 (fun n h => weight m c ⟨n, h⟩) (fun n h => tile m c ⟨n, h⟩)
    (outsAt0_zero m c) (outsAt0_succ m c) (fun n h acc e => first m c ⟨n, h⟩ acc e) (fun n h acc e => later m c ⟨n, h⟩ acc e)
    (weight_same m c) t.val t.isLt

/-- The kernel's result, entry by entry. -/
theorem result_apply (c : Dev nD) (i : Fin 8192) (j : Fin 6144) :
    (G2 m c : Vec Ideal S8192x6144 .bf16) (ix2 i j) = entry m c i j := by
  have hN : cfg0.N = 48 := N_0
  have hp : pt2Of (ix2 i j) = i.val / 1024 + 8 * (j.val / 1024) := by
    show 1 * (i.val / 1024 - 0) + 8 * (j.val / 1024 - 0) = _
    omega
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have hb : pt2Of (ix2 i j) < cfg0.N := by rw [hp, hN]; omega
  show G2 m c (ix2 i j) = _
  unfold G2
  rw [dif_pos hb, ← outsAt0_sweep m c _ hb, hl, all m c ⟨_, hb⟩]
  refine (tile_apply m c ⟨_, hb⟩ _ _).trans ?_
  congr 1
  · apply Fin.ext; simp only [row, hp]; omega
  · apply Fin.ext; simp only [col, hp]; omega

/-- The reference runs, its arguments unchanged, every counter at zero. -/
theorem reference_frame : quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- From equal arguments the two programs end with equal results. -/
theorem values : algebraic_Kernel4Ideal_Reference4Ideal := by
  intro m g m' g' _ he
  refine ⟨fun c => G2 m c, Cert.Kernel4Ideal.Value.run (F := Ideal) m g, ?_⟩
  refine (θ_run Cert.Reference4Ideal.defs _ _).mono (fun r h c => ⟨(h c).1.trans ?_, (h c).2⟩)
    (Cert.Reference4Ideal.Value.run (F := Ideal) m' g')
  obtain ⟨e0, e1⟩ := he c
  simp only [e0, e1]
  refine funext fun y => ?_
  rw [eq_ix2 y]
  refine (gate_apply _ (y 0) (y 1)).trans (Eq.trans ?_ (result_apply m c (y 0) (y 1)).symm)
  exact congrArg sg (product_apply _ _ (y 0) _)

end Cert.Gates

end
-- ==== Proof.Inner.lean ====
/- The input projection: activations times a weight's first columns. -/
module

public import proofs.«01_k».proof.Proof.Gen.Kernel5Ideal.Value
public import proofs.«01_k».proof.Proof.Gen.Reference5Ideal.Run
public import proofs.«01_k».proof.Proof.Stored
public import proofs.«01_k».proof.Defs
public import Idealize.ShloMosaic.Lib.Claim
public import Idealize.ShloMosaic.Lib.Quiescent

@[expose] public section

noncomputable section

namespace Cert.Inner

open Idealize.ShloMosaic Idealize.ShloMosaic.TcCoe Idealize.SL.Sem Cert.Reference5Ideal Cert.Reference5Ideal.Gen

/-- The reference's product of the activations with one layer's weight. -/
theorem product_apply (X : FVec Ideal S8192x2048 .bf16) (W : FVec Ideal S2x2048x12744 .f32) (i : Fin 8192) (j : Fin 12744) :
    (Host.dotGeneral dot_S8192x2048_S2048x12744_S8192x12744_1_0_0_1_n_n none (extf .f32 X bitsLt_bf16_f32)
      (shapeCast _ (extractStridedSlice S1x2048x12744 ![0, 0, 0] W slices_S2x2048x12744_S1x2048x12744_0_0_0)
        shapeCasts_S1x2048x12744_S2048x12744) : FVec Ideal S8192x12744 .f32) (ix2 i j)
      = ∑ k : Fin 2048, X (ix2 i k) * W (ix3 0 k j) := by
  pointwise []

/-- What the reference keeps of the product. -/
theorem kept_apply (a : FVec Ideal S8192x12744 .f32) (i : Fin 8192) (j : Fin 4096) :
    (extractStridedSlice S8192x4096 ![0, 0] a slices_S8192x12744_S8192x4096_0_0 : FVec Ideal S8192x4096 .f32) (ix2 i j)
      = a (ix2 i ⟨j.val, by omega⟩) := by
  pointwise []

end Cert.Inner

namespace Cert.Inner

open Idealize.ShloMosaic Idealize.ShloMosaic.TcCoe Idealize.SL.Sem Cert.Kernel5Ideal Cert.Kernel5Ideal.Gen Cert.Kernel5Ideal.Value
  Cert.Stored

variable (m : (l : Loc nD τ sig) → Buf (Elt Ideal) l)

theorem read_w (x : Vec Ideal S1024x2048 .bf16) (h : (Memref.whole cc0_scratch0).IsWhole) :
    View.read (Elt Ideal) (View.whole cc0_scratch0) (h.unread x) = x := h.read_unread x

/-- A point's block of the result, over the weight it finds. -/
def tile (c : Dev nD) (t : Fin cfg0.N) (w : Vec Ideal S1024x2048 .bf16) : Vec Ideal S1024x1024 .f32 :=
  k0_pay2 (iblk m c 0 t) w
/-- The weight a point's column of blocks uses. -/
def weight (c : Dev nD) (t : Fin cfg0.N) : Vec Ideal S1024x2048 .bf16 := k0_pay1 (iblk m c 1 t)

theorem first (c : Dev nD) (t : Fin cfg0.N) (acc) (h0 : t.val % 8 = 0) :
    stAt0 m c t.val t.isLt acc = (tile m c t (weight m c t), weight m c t) := by
  rw [stAt0_A m c t acc h0]
  refine Prod.ext ?_ ?_
  · dsimp only
    unfold out0_A_2
    rw [View.read_writes_eq_canon _ _ _ (fun y => cover0_A_2 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl
  · dsimp only
    unfold sout0_A_0
    rw [View.read_writes_eq_canon _ _ _ (fun y => scover0_A_0 (y := y) ..)]
    unfold kernelRun0_A
    dsimp only
    sl_unfold_words
    simp only [View.readAt_eq_ld, Memref.IsWhole.read_unread, read_w]
    simp (disch := decide) only [ld_filled, View.ld_unit_lit, View.canon_cons_unit_lit]
    rfl

theorem later (c : Dev nD) (t : Fin cfg0.N) (acc) (h0 : ¬t.val % 8 = 0) :
    stAt0 m c t.val t.isLt acc = (tile m c t acc.2, acc.2) := by
  rw [stAt0_B m c t acc h0]
  refine Prod.ext ?_ rfl
  dsimp only
  unfold out0_B_2
  rw [View.read_writes_eq_canon _ _ _ (fun y => cover0_B_2 (y := y) ..)]
  unfold kernelRun0_B
  dsimp only
  sl_unfold_words
  simp only [View.readAt_eq_ld, Memref.IsWhole.read_unread, read_w]
  simp (disch := decide) only [ld_filled, View.ld_unit_lit, View.canon_cons_unit_lit]
  rfl

theorem index_eq : ∀ t : Fin cfg0.N, win0_0.index t = ![t.val % 8, 0] ∧ win0_1.index t = ![0, 1024 * (t.val / 8), 0] :=
  (by decide +kernel : ∀ t : Fin grid0.N, _)

theorem point_lt (t : Fin cfg0.N) : t.val < 32 := lt_of_lt_of_eq t.isLt (show cfg0.N = 32 from N_0)

def arrX (c : Dev nD) (i : Fin 8192) (k : Fin 2048) : EReal := (m ((c : Thread nD τ).loc main_arg0) : Vec Ideal S8192x2048 .bf16) (ix2 i k)
def arrW (c : Dev nD) (k : Fin 2048) (j : Fin 12744) : EReal := (m ((c : Thread nD τ).loc main_arg1) : Vec Ideal S2x2048x12744 .f32) (ix3 0 k j)

/-- Where a point's block lies. -/
def row (t : Fin cfg0.N) (r : Fin 1024) : Fin 8192 := ⟨1024 * (t.val % 8) + r.val, by have := point_lt t; omega⟩
def col (t : Fin cfg0.N) (l : Fin 1024) : Fin 4096 := ⟨1024 * (t.val / 8) + l.val, by have := point_lt t; omega⟩
/-- The place of a column in the weight. -/
def at' (j : Fin 4096) : Fin 12744 := ⟨j.val, by omega⟩

theorem x0_apply (c : Dev nD) (t : Fin cfg0.N) (r : Fin 1024) (k : Fin 2048) :
    (iblk m c 0 t : Vec Ideal S1024x2048 .bf16) (ix2 r k) = arrX m c (row t r) k := by
  have idx := (index_eq t).1
  unfold arrX row
  blk_ext [iblk, V, idx]

/-- The weight as the host hands it over, its last two axes exchanged. -/
theorem turned_apply (c : Dev nD) (j : Fin 12744) (k : Fin 2048) :
    (V m c main_v0 : Vec Ideal S2x12744x2048 .f32) (ix3 0 j k) = arrW m c k j := by
  unfold arrW V hostOps0
  after_results
  pointwise []

theorem x1_apply (c : Dev nD) (t : Fin cfg0.N) (l : Fin 1024) (k : Fin 2048) :
    (iblk m c 1 t : Vec Ideal S1x1024x2048 .f32) (ix3 0 l k) = arrW m c k (at' (col t l)) := by
  have idx := (index_eq t).2
  rw [← turned_apply]
  unfold at' col
  have e0 : win0_1.index t 0 = 0 := by rw [idx]; rfl
  have e1 : win0_1.index t 1 = 1024 * (t.val / 8) := by rw [idx]; rfl
  have e2 : win0_1.index t 2 = 0 := by rw [idx]; rfl
  blk_ext [iblk]
  · show win0_1.index t 0 + 1 * 0 = 0
    omega
  · show win0_1.index t 1 + 1 * l.val = _
    omega
  · show win0_1.index t 2 + 1 * k.val = _
    omega

theorem weight_apply (c : Dev nD) (t : Fin cfg0.N) (l : Fin 1024) (k : Fin 2048) :
    weight m c t (ix2 l k) = arrW m c k (at' (col t l)) := by
  rw [← x1_apply]
  unfold weight
  pointwise [k0_pay1]

/-- One entry of the result. -/
def entry (c : Dev nD) (i : Fin 8192) (j : Fin 4096) : EReal :=
  ∑ k : Fin 2048, arrX m c i k * arrW m c k (at' j)

theorem tile_apply (c : Dev nD) (t : Fin cfg0.N) (r l : Fin 1024) :
    tile m c t (weight m c t) (ix2 r l) = entry m c (row t r) (col t l) := by
  unfold entry
  simp only [← x0_apply, ← weight_apply]
  unfold tile
  pointwise [k0_pay2]

theorem weight_same (c : Dev nD) (n : ℕ) (h : n + 1 < cfg0.N) (hn : ¬(n + 1) % 8 = 0) :
    weight m c ⟨n + 1, h⟩ = weight m c ⟨n, Nat.lt_of_succ_lt h⟩ := by
  have e : ∀ l, col ⟨n + 1, h⟩ l = col ⟨n, Nat.lt_of_succ_lt h⟩ l := fun l => by
    apply Fin.ext; simp only [col]; omega
  have a : ∀ (l : Fin 1024) (k : Fin 2048), weight m c ⟨n + 1, h⟩ (ix2 l k) = weight m c ⟨n, Nat.lt_of_succ_lt h⟩ (ix2 l k) :=
    fun l k => by rw [weight_apply, weight_apply, e]
  funext y
  rw [eq_ix2 y]
  exact a (y 0) (y 1)

theorem all (c : Dev nD) (t : Fin cfg0.N) :
    outsAt0 m c t.val t.isLt = (tile m c t (weight m c t), weight m c t) :=
  kept (p := 8) (outsAt0 m c) (stAt0 m c) junk0 (fun n h => weight m c ⟨n, h⟩) (fun n h => tile m c ⟨n, h⟩)
    (outsAt0_zero m c) (outsAt0_succ m c) (fun n h acc e => first m c ⟨n, h⟩ acc e) (fun n h acc e => later m c ⟨n, h⟩ acc e)
    (weight_same m c) t.val t.isLt

/-- The kernel's result, entry by entry. -/
theorem result_apply (c : Dev nD) (i : Fin 8192) (j : Fin 4096) :
    (G2 m c : Vec Ideal S8192x4096 .f32) (ix2 i j) = entry m c i j := by
  have hN : cfg0.N = 32 := N_0
  have hp : pt2Of (ix2 i j) = i.val / 1024 + 8 * (j.val / 1024) := by
    show 1 * (i.val / 1024 - 0) + 8 * (j.val / 1024 - 0) = _
    omega
  have hl : loc2Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have hb : pt2Of (ix2 i j) < cfg0.N := by rw [hp, hN]; omega
  show G2 m c (ix2 i j) = _
  unfold G2
  rw [dif_pos hb, ← outsAt0_sweep m c _ hb, hl, all m c ⟨_, hb⟩]
  refine (tile_apply m c ⟨_, hb⟩ _ _).trans ?_
  congr 1
  · apply Fin.ext; simp only [row, hp]; omega
  · apply Fin.ext; simp only [col, hp]; omega

/-- The reference runs, its arguments unchanged, every counter at zero. -/
theorem reference_frame : quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- From equal arguments the two programs end with equal results. -/
theorem values : algebraic_Kernel5Ideal_Reference5Ideal := by
  intro m g m' g' _ he
  refine ⟨fun c => G2 m c, Cert.Kernel5Ideal.Value.run (F := Ideal) m g, ?_⟩
  refine (θ_run Cert.Reference5Ideal.defs _ _).mono (fun r h c => ⟨(h c).1.trans ?_, (h c).2⟩)
    (Cert.Reference5Ideal.Value.run (F := Ideal) m' g')
  obtain ⟨e0, e1⟩ := he c
  simp only [e0, e1]
  refine funext fun y => ?_
  rw [eq_ix2 y]
  refine (kept_apply _ (y 0) (y 1)).trans (Eq.trans ?_ (result_apply m c (y 0) (y 1)).symm)
  exact product_apply _ _ (y 0) _

end Cert.Inner

end
-- ==== Proof.Merge.lean ====
/- The merge: the three mixers' results, each taken up to the model's width and gated, added. -/
module

public import proofs.«01_k».proof.Proof.Gen.Kernel6Ideal.Value
public import proofs.«01_k».proof.Proof.Gen.Reference6Ideal.Run
public import proofs.«01_k».proof.Proof.Stored
public import proofs.«01_k».proof.Defs
public import Idealize.ShloMosaic.Lib.Claim
public import Idealize.ShloMosaic.Lib.Quiescent

@[expose] public section

noncomputable section

namespace Cert.Merge

open Idealize.ShloMosaic Idealize.ShloMosaic.TcCoe Idealize.SL.Sem Cert.Reference6Ideal Cert.Reference6Ideal.Gen

/-- The reference's product of the widest mixer's result with its weight. -/
theorem wide_apply (Y : FVec Ideal S8192x1024 .bf16) (W : FVec Ideal S2x1024x2048 .f32) (i : Fin 8192) (j : Fin 2048) :
    (Host.dotGeneral dot_S8192x1024_S1024x2048_S8192x2048_1_0_0_1_n_n none (extf .f32 Y bitsLt_bf16_f32)
      (shapeCast _ (extractStridedSlice S1x1024x2048 ![0, 0, 0] W slices_S2x1024x2048_S1x1024x2048_0_0_0)
        shapeCasts_S1x1024x2048_S1024x2048) : FVec Ideal S8192x2048 .f32) (ix2 i j)
      = ∑ k : Fin 1024, Y (ix2 i k) * W (ix3 0 k j) := by
  pointwise []

/-- The same of the other two, which are half as wide. -/
theorem narrow_apply (Y : FVec Ideal S8192x512 .bf16) (W : FVec Ideal S2x512x2048 .f32) (i : Fin 8192) (j : Fin 2048) :
    (Host.dotGeneral dot_S8192x512_S512x2048_S8192x2048_1_0_0_1_n_n none (extf .f32 Y bitsLt_bf16_f32)
      (shapeCast _ (extractStridedSlice S1x512x2048 ![0, 0, 0] W slices_S2x512x2048_S1x512x2048_0_0_0)
        shapeCasts_S1x512x2048_S512x2048) : FVec Ideal S8192x2048 .f32) (ix2 i j)
      = ∑ k : Fin 512, Y (ix2 i k) * W (ix3 0 k j) := by
  pointwise []

/-- How the reference gates three products and adds them. -/
theorem gated_apply (g : FVec Ideal S8192x6144 .bf16) (a b d : FVec Ideal S8192x2048 .f32) (i : Fin 8192) (j : Fin 2048) :
    (truncf .bf16 (addf (addf
      (mulf (extractStridedSlice S8192x2048 ![0, 0] (extf .f32 g bitsLt_bf16_f32) slices_S8192x6144_S8192x2048_0_0) a)
      (mulf (extractStridedSlice S8192x2048 ![0, 2048] (extf .f32 g bitsLt_bf16_f32) slices_S8192x6144_S8192x2048_0_2048) b))
      (mulf (extractStridedSlice S8192x2048 ![0, 4096] (extf .f32 g bitsLt_bf16_f32) slices_S8192x6144_S8192x2048_0_4096) d))
      bitsLt_bf16_f32 : FVec Ideal S8192x2048 .bf16) (ix2 i j)
      = g (ix2 i ⟨j.val, by omega⟩) * a (ix2 i j) + g (ix2 i ⟨2048 + j.val, by omega⟩) * b (ix2 i j)
        + g (ix2 i ⟨4096 + j.val, by omega⟩) * d (ix2 i j) := by
  pointwise []

end Cert.Merge

namespace Cert.Merge

open Idealize.ShloMosaic Idealize.ShloMosaic.TcCoe Idealize.SL.Sem Cert.Kernel6Ideal Cert.Kernel6Ideal.Gen Cert.Kernel6Ideal.Value
  Cert.Stored

variable (m : (l : Loc nD τ sig) → Buf (Elt Ideal) l)

theorem read_m (x : Vec Ideal S1024x1024 .bf16) (h : (Memref.whole cc0_scratch0).IsWhole) :
    View.read (Elt Ideal) (View.whole cc0_scratch0) (h.unread x) = x := h.read_unread x
theorem read_r (x : Vec Ideal S512x1024 .bf16) (h : (Memref.whole cc0_scratch1).IsWhole) :
    View.read (Elt Ideal) (View.whole cc0_scratch1) (h.unread x) = x := h.read_unread x
theorem read_s (x : Vec Ideal S512x1024 .bf16) (h : (Memref.whole cc0_scratch2).IsWhole) :
    View.read (Elt Ideal) (View.whole cc0_scratch2) (h.unread x) = x := h.read_unread x

/-- The three weights a point works with. -/
abbrev Three : Type := Vec Ideal S1024x1024 .bf16 × Vec Ideal S512x1024 .bf16 × Vec Ideal S512x1024 .bf16

/-- A point's block of the result, over the three weights it finds. -/
def tile (c : Dev nD) (t : Fin cfg0.N) (w : Three) : Vec Ideal S1024x1024 .bf16 :=
  k0_pay4 (iblk m c 3 t) (iblk m c 0 t) w.1 (iblk m c 4 t) (iblk m c 1 t) w.2.1 (iblk m c 5 t) (iblk m c 2 t) w.2.2
/-- The weights a point's column of blocks uses. -/
def weights (c : Dev nD) (t : Fin cfg0.N) : Three := (k0_pay1 (iblk m c 6 t), k0_pay2 (iblk m c 7 t), k0_pay3 (iblk m c 8 t))

theorem first (c : Dev nD) (t : Fin cfg0.N) (acc) (h0 : t.val % 8 = 0) :
    stAt0 m c t.val t.isLt acc = (tile m c t (weights m c t), weights m c t) := by
  rw [stAt0_A m c t acc h0]
  refine Prod.ext ?_ (Prod.ext ?_ (Prod.ext ?_ ?_))
  · dsimp only
    unfold out0_A_9
    rw [View.read_writes_eq_canon _ _ _ (fun y => cover0_A_9 (y := y) ..)]
    unfold kernelRun0_A
    dsimp only
    sl_unfold_words
    simp only [View.readAt_eq_ld, Memref.IsWhole.read_unread, read_m, read_r, read_s]
    simp (disch := decide) only [ld_filled, View.ld_unit_lit, View.canon_cons_unit_lit]
    rfl
  · dsimp only
    unfold sout0_A_0
    rw [View.read_writes_eq_canon _ _ _ (fun y => scover0_A_0 (y := y) ..)]
    unfold kernelRun0_A
    dsimp only
    sl_unfold_words
    simp only [View.readAt_eq_ld, Memref.IsWhole.read_unread, read_m, read_r, read_s]
    simp (disch := decide) only [ld_filled, View.ld_unit_lit, View.canon_cons_unit_lit]
    rfl
  · dsimp only
    unfold sout0_A_1
    rw [View.read_writes_eq_canon _ _ _ (fun y => scover0_A_1 (y := y) ..)]
    unfold kernelRun0_A
    dsimp only
    sl_unfold_words
    simp only [View.readAt_eq_ld, Memref.IsWhole.read_unread, read_m, read_r, read_s]
    simp (disch := decide) only [ld_filled, View.ld_unit_lit, View.canon_cons_unit_lit]
    rfl
  · dsimp only
    unfold sout0_A_2
    rw [View.read_writes_eq_canon _ _ _ (fun y => scover0_A_2 (y := y) ..)]
    unfold kernelRun0_A
    dsimp only
    sl_unfold_words
    simp only [View.readAt_eq_ld, Memref.IsWhole.read_unread, read_m, read_r, read_s]
    simp (disch := decide) only [ld_filled, View.ld_unit_lit, View.canon_cons_unit_lit]
    rfl

theorem later (c : Dev nD) (t : Fin cfg0.N) (acc) (h0 : ¬t.val % 8 = 0) :
    stAt0 m c t.val t.isLt acc = (tile m c t acc.2, acc.2) := by
  rw [stAt0_B m c t acc h0]
  refine Prod.ext ?_ rfl
  dsimp only
  unfold out0_B_9
  rw [View.read_writes_eq_canon _ _ _ (fun y => cover0_B_9 (y := y) ..)]
  unfold kernelRun0_B
  dsimp only
  sl_unfold_words
  simp only [View.readAt_eq_ld, Memref.IsWhole.read_unread, read_m, read_r, read_s]
  simp (disch := decide) only [ld_filled, View.ld_unit_lit, View.canon_cons_unit_lit]
  rfl

theorem index_eq : ∀ t : Fin cfg0.N, win0_0.index t = ![t.val % 8, 0] ∧ win0_1.index t = ![t.val % 8, 0]
    ∧ win0_2.index t = ![t.val % 8, 0] ∧ win0_3.index t = ![t.val % 8, t.val / 8] ∧ win0_4.index t = ![t.val % 8, 2 + t.val / 8]
    ∧ win0_5.index t = ![t.val % 8, 4 + t.val / 8] ∧ win0_6.index t = ![0, 0, t.val / 8] ∧ win0_7.index t = ![0, 0, t.val / 8]
    ∧ win0_8.index t = ![0, 0, t.val / 8] :=
  (by decide +kernel : ∀ t : Fin grid0.N, _)

theorem point_lt (t : Fin cfg0.N) : t.val < 16 := lt_of_lt_of_eq t.isLt (show cfg0.N = 16 from N_0)

/-- The three mixers' results, the gates, and the three weights. -/
def arrM (c : Dev nD) (i : Fin 8192) (k : Fin 1024) : EReal := (m ((c : Thread nD τ).loc main_arg0) : Vec Ideal S8192x1024 .bf16) (ix2 i k)
def arrR (c : Dev nD) (i : Fin 8192) (k : Fin 512) : EReal := (m ((c : Thread nD τ).loc main_arg1) : Vec Ideal S8192x512 .bf16) (ix2 i k)
def arrS (c : Dev nD) (i : Fin 8192) (k : Fin 512) : EReal := (m ((c : Thread nD τ).loc main_arg2) : Vec Ideal S8192x512 .bf16) (ix2 i k)
def arrG (c : Dev nD) (i : Fin 8192) (j : Fin 6144) : EReal := (m ((c : Thread nD τ).loc main_arg3) : Vec Ideal S8192x6144 .bf16) (ix2 i j)
def upM (c : Dev nD) (k : Fin 1024) (j : Fin 2048) : EReal := (m ((c : Thread nD τ).loc main_arg4) : Vec Ideal S2x1024x2048 .f32) (ix3 0 k j)
def upR (c : Dev nD) (k : Fin 512) (j : Fin 2048) : EReal := (m ((c : Thread nD τ).loc main_arg5) : Vec Ideal S2x512x2048 .f32) (ix3 0 k j)
def upS (c : Dev nD) (k : Fin 512) (j : Fin 2048) : EReal := (m ((c : Thread nD τ).loc main_arg6) : Vec Ideal S2x512x2048 .f32) (ix3 0 k j)

/-- Where a point's block lies. -/
def row (t : Fin cfg0.N) (r : Fin 1024) : Fin 8192 := ⟨1024 * (t.val % 8) + r.val, by have := point_lt t; omega⟩
def col (t : Fin cfg0.N) (l : Fin 1024) : Fin 2048 := ⟨1024 * (t.val / 8) + l.val, by have := point_lt t; omega⟩
/-- A column's place among the gates of the first, second or third mixer. -/
def among (p : Fin 3) (j : Fin 2048) : Fin 6144 := ⟨2048 * p.val + j.val, by omega⟩

theorem x0_apply (c : Dev nD) (t : Fin cfg0.N) (r k : Fin 1024) :
    (iblk m c 0 t : Vec Ideal S1024x1024 .bf16) (ix2 r k) = arrM m c (row t r) k := by
  have idx := (index_eq t).1
  unfold arrM row
  blk_ext [iblk, V, idx]

theorem x1_apply (c : Dev nD) (t : Fin cfg0.N) (r : Fin 1024) (k : Fin 512) :
    (iblk m c 1 t : Vec Ideal S1024x512 .bf16) (ix2 r k) = arrR m c (row t r) k := by
  have idx := (index_eq t).2.1
  unfold arrR row
  blk_ext [iblk, V, idx]

theorem x2_apply (c : Dev nD) (t : Fin cfg0.N) (r : Fin 1024) (k : Fin 512) :
    (iblk m c 2 t : Vec Ideal S1024x512 .bf16) (ix2 r k) = arrS m c (row t r) k := by
  have idx := (index_eq t).2.2.1
  unfold arrS row
  blk_ext [iblk, V, idx]

theorem x3_apply (c : Dev nD) (t : Fin cfg0.N) (r l : Fin 1024) :
    (iblk m c 3 t : Vec Ideal S1024x1024 .bf16) (ix2 r l) = arrG m c (row t r) (among 0 (col t l)) := by
  have idx := (index_eq t).2.2.2.1
  unfold arrG row among col
  blk_ext [iblk, V, idx]

theorem x4_apply (c : Dev nD) (t : Fin cfg0.N) (r l : Fin 1024) :
    (iblk m c 4 t : Vec Ideal S1024x1024 .bf16) (ix2 r l) = arrG m c (row t r) (among 1 (col t l)) := by
  have idx := (index_eq t).2.2.2.2.1
  unfold arrG row among col
  blk_ext [iblk, V, idx]

theorem x5_apply (c : Dev nD) (t : Fin cfg0.N) (r l : Fin 1024) :
    (iblk m c 5 t : Vec Ideal S1024x1024 .bf16) (ix2 r l) = arrG m c (row t r) (among 2 (col t l)) := by
  have idx := (index_eq t).2.2.2.2.2.1
  unfold arrG row among col
  blk_ext [iblk, V, idx]

theorem x6_apply (c : Dev nD) (t : Fin cfg0.N) (k l : Fin 1024) :
    (iblk m c 6 t : Vec Ideal S1x1024x1024 .f32) (ix3 0 k l) = upM m c k (col t l) := by
  have idx := (index_eq t).2.2.2.2.2.2.1
  unfold upM col
  blk_ext [iblk, V, idx]

theorem x7_apply (c : Dev nD) (t : Fin cfg0.N) (k : Fin 512) (l : Fin 1024) :
    (iblk m c 7 t : Vec Ideal S1x512x1024 .f32) (ix3 0 k l) = upR m c k (col t l) := by
  have idx := (index_eq t).2.2.2.2.2.2.2.1
  unfold upR col
  blk_ext [iblk, V, idx]

theorem x8_apply (c : Dev nD) (t : Fin cfg0.N) (k : Fin 512) (l : Fin 1024) :
    (iblk m c 8 t : Vec Ideal S1x512x1024 .f32) (ix3 0 k l) = upS m c k (col t l) := by
  have idx := (index_eq t).2.2.2.2.2.2.2.2
  unfold upS col
  blk_ext [iblk, V, idx]

theorem weightM_apply (c : Dev nD) (t : Fin cfg0.N) (k l : Fin 1024) :
    (weights m c t).1 (ix2 k l) = upM m c k (col t l) := by
  rw [← x6_apply]
  unfold weights
  pointwise [k0_pay1]

theorem weightR_apply (c : Dev nD) (t : Fin cfg0.N) (k : Fin 512) (l : Fin 1024) :
    (weights m c t).2.1 (ix2 k l) = upR m c k (col t l) := by
  rw [← x7_apply]
  unfold weights
  pointwise [k0_pay2]

theorem weightS_apply (c : Dev nD) (t : Fin cfg0.N) (k : Fin 512) (l : Fin 1024) :
    (weights m c t).2.2 (ix2 k l) = upS m c k (col t l) := by
  rw [← x8_apply]
  unfold weights
  pointwise [k0_pay3]

/-- One entry of the result. -/
def entry (c : Dev nD) (i : Fin 8192) (j : Fin 2048) : EReal :=
  arrG m c i (among 0 j) * (∑ k : Fin 1024, arrM m c i k * upM m c k j)
    + arrG m c i (among 1 j) * (∑ k : Fin 512, arrR m c i k * upR m c k j)
    + arrG m c i (among 2 j) * (∑ k : Fin 512, arrS m c i k * upS m c k j)

theorem tile_apply (c : Dev nD) (t : Fin cfg0.N) (r l : Fin 1024) :
    tile m c t (weights m c t) (ix2 r l) = entry m c (row t r) (col t l) := by
  unfold entry
  simp only [← x0_apply, ← x1_apply, ← x2_apply, ← x3_apply, ← x4_apply, ← x5_apply, ← weightM_apply, ← weightR_apply, ← weightS_apply]
  unfold tile
  pointwise [k0_pay4]

theorem weights_same (c : Dev nD) (n : ℕ) (h : n + 1 < cfg0.N) (hn : ¬(n + 1) % 8 = 0) :
    weights m c ⟨n + 1, h⟩ = weights m c ⟨n, Nat.lt_of_succ_lt h⟩ := by
  have e : ∀ l, col ⟨n + 1, h⟩ l = col ⟨n, Nat.lt_of_succ_lt h⟩ l := fun l => by
    apply Fin.ext; simp only [col]; omega
  have a : ∀ k l : Fin 1024, (weights m c ⟨n + 1, h⟩).1 (ix2 k l) = (weights m c ⟨n, Nat.lt_of_succ_lt h⟩).1 (ix2 k l) :=
    fun k l => by rw [weightM_apply, weightM_apply, e]
  have b : ∀ (k : Fin 512) (l : Fin 1024), (weights m c ⟨n + 1, h⟩).2.1 (ix2 k l) = (weights m c ⟨n, Nat.lt_of_succ_lt h⟩).2.1 (ix2 k l) :=
    fun k l => by rw [weightR_apply, weightR_apply, e]
  have d : ∀ (k : Fin 512) (l : Fin 1024), (weights m c ⟨n + 1, h⟩).2.2 (ix2 k l) = (weights m c ⟨n, Nat.lt_of_succ_lt h⟩).2.2 (ix2 k l) :=
    fun k l => by rw [weightS_apply, weightS_apply, e]
  refine Prod.ext (funext fun y => ?_) (Prod.ext (funext fun y => ?_) (funext fun y => ?_))
  · rw [eq_ix2 y]; exact a (y 0) (y 1)
  · rw [eq_ix2 y]; exact b (y 0) (y 1)
  · rw [eq_ix2 y]; exact d (y 0) (y 1)

theorem all (c : Dev nD) (t : Fin cfg0.N) :
    outsAt0 m c t.val t.isLt = (tile m c t (weights m c t), weights m c t) :=
  kept (p := 8) (outsAt0 m c) (stAt0 m c) junk0 (fun n h => weights m c ⟨n, h⟩) (fun n h => tile m c ⟨n, h⟩)
    (outsAt0_zero m c) (outsAt0_succ m c) (fun n h acc e => first m c ⟨n, h⟩ acc e) (fun n h acc e => later m c ⟨n, h⟩ acc e)
    (weights_same m c) t.val t.isLt

/-- The kernel's result, entry by entry. -/
theorem result_apply (c : Dev nD) (i : Fin 8192) (j : Fin 2048) :
    (G9 m c : Vec Ideal S8192x2048 .bf16) (ix2 i j) = entry m c i j := by
  have hN : cfg0.N = 16 := N_0
  have hp : pt9Of (ix2 i j) = i.val / 1024 + 8 * (j.val / 1024) := by
    show 1 * (i.val / 1024 - 0) + 8 * (j.val / 1024 - 0) = _
    omega
  have hl : loc9Of (ix2 i j) = ix2 (⟨i.val % 1024, Nat.mod_lt _ (by decide)⟩ : Fin 1024) (⟨j.val % 1024, Nat.mod_lt _ (by decide)⟩ : Fin 1024) := by
    funext a; apply Fin.ext
    match a with
    | ⟨0, _⟩ => rfl
    | ⟨1, _⟩ => rfl
  have hb : pt9Of (ix2 i j) < cfg0.N := by rw [hp, hN]; omega
  show G9 m c (ix2 i j) = _
  unfold G9
  rw [dif_pos hb, ← outsAt0_sweep m c _ hb, hl, all m c ⟨_, hb⟩]
  refine (tile_apply m c ⟨_, hb⟩ _ _).trans ?_
  congr 1
  · apply Fin.ext; simp only [row, hp]; omega
  · apply Fin.ext; simp only [col, hp]; omega

/-- The reference runs, its arguments unchanged, every counter at zero. -/
theorem reference_frame : quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- From equal arguments the two programs end with equal results. -/
theorem values : algebraic_Kernel6Ideal_Reference6Ideal := by
  intro m g m' g' _ he
  refine ⟨fun c => G9 m c, Cert.Kernel6Ideal.Value.run (F := Ideal) m g, ?_⟩
  refine (θ_run Cert.Reference6Ideal.defs _ _).mono (fun r h c => ⟨(h c).1.trans ?_, (h c).2⟩)
    (Cert.Reference6Ideal.Value.run (F := Ideal) m' g')
  obtain ⟨e0, e1, e2, e3, e4, e5, e6⟩ := he c
  simp only [e0, e1, e2, e3, e4, e5, e6]
  refine funext fun y => ?_
  rw [eq_ix2 y]
  refine (gated_apply _ _ _ _ (y 0) (y 1)).trans (Eq.trans ?_ (result_apply m c (y 0) (y 1)).symm)
  rw [wide_apply _ _ (y 0) (y 1), narrow_apply _ _ (y 0) (y 1), narrow_apply _ _ (y 0) (y 1)]
  unfold entry
  refine congrArg₂ (· + ·) (congrArg₂ (· + ·) (congrArg₂ (· * ·) (congrArg _ ?_) rfl) rfl) rfl
  exact congrArg (ix2 (y 0)) (Fin.ext (by show (y 1).val = 2048 * 0 + (y 1).val; omega))

end Cert.Merge

end
-- ==== Proof.Norm.lean ====
/- The mixers' residual sum and its norm. -/
module

public import proofs.«01_k».proof.Proof.Gen.Kernel7Ideal.Value
public import proofs.«01_k».proof.Proof.Gen.Reference7Ideal.Run
public import proofs.«01_k».proof.Proof.Stored
public import proofs.«01_k».proof.Defs
public import Idealize.ShloMosaic.Lib.Claim
public import Idealize.ShloMosaic.Lib.Quiescent

@[expose] public section

noncomputable section

namespace Cert.Norm

open Idealize.ShloMosaic Idealize.ShloMosaic.TcCoe Idealize.SL.Sem Cert.Reference7Ideal Cert.Reference7Ideal.Gen

/-- One entry of a row over its root mean square, times the norm's weight. -/
def normed (h : Fin 2048 → EReal) (g : Fin 2048 → EReal) (j : Fin 2048) : EReal :=
  h j * Ideal.rsqrt (Ideal.div (∑ k : Fin 2048, h k * h k) (Ideal.ofBits .f32 0x45000000#32) + Ideal.ofBits .f32 0x358637BD#32) * g j

/-- The reference's residual sum. -/
theorem sum_apply (X : FVec Ideal S8192x2048 .bf16) (W : FVec Ideal S2x2048x2048 .f32) (h : FVec Ideal S8192x2048 .f32)
    (i : Fin 8192) (j : Fin 2048) :
    (addf h (Host.dotGeneral dot_S8192x2048_S2048x2048_S8192x2048_1_0_0_1_n_n none (extf .f32 X bitsLt_bf16_f32)
      (shapeCast _ (extractStridedSlice S1x2048x2048 ![0, 0, 0] W slices_S2x2048x2048_S1x2048x2048_0_0_0)
        shapeCasts_S1x2048x2048_S2048x2048)) : FVec Ideal S8192x2048 .f32) (ix2 i j)
      = h (ix2 i j) + ∑ k : Fin 2048, X (ix2 i k) * W (ix3 0 k j) := by
  pointwise []

/-- The reference's norm. -/
theorem norm_apply (h : FVec Ideal S8192x2048 .f32) (g : FVec Ideal S2x2048 .f32) (i : Fin 8192) (j : Fin 2048) :
    (truncf .bf16 (mulf (mulf h (broadcastInDim S8192x2048 ![0, 1] bcast_S8192x1_S8192x2048_0_1 (Host.rsqrt (addf
      (Host.divf (broadcastInDim S8192x1 ![0] bcast_S8192_S8192x1_0 (Host.reduceAdd (mulf h h)
        (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1
        (shapeCast _ (extractStridedSlice S1x2048 ![0, 0] g slices_S2x2048_S1x2048_0_0) shapeCasts_S1x2048_S2048))))
      bitsLt_bf16_f32 : FVec Ideal S8192x2048 .bf16) (ix2 i j)
      = normed (fun k => h (ix2 i k)) (fun k => g (ix2 0 k)) j := by
  unfold normed
  pointwise []

end Cert.Norm

namespace Cert.Norm

open Idealize.ShloMosaic Idealize.ShloMosaic.TcCoe Idealize.SL.Sem Cert.Kernel7Ideal Cert.Kernel7Ideal.Gen Cert.Kernel7Ideal.Value
  Cert.Stored

variable (m : (l : Loc nD τ sig) → Buf (Elt Ideal) l)

theorem index_eq : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem point_lt (t : Fin cfg0.N) : t.val < 16 := lt_of_lt_of_eq t.isLt (show cfg0.N = 16 from N_0)

/-- The merged mixers, their weight, the residual, and the norm's weight. -/
def arrX (c : Dev nD) (i : Fin 8192) (k : Fin 2048) : EReal := (m ((c : Thread nD τ).loc main_arg0) : Vec Ideal S8192x2048 .bf16) (ix2 i k)
def arrW (c : Dev nD) (k j : Fin 2048) : EReal := (m ((c : Thread nD τ).loc main_arg1) : Vec Ideal S2x2048x2048 .f32) (ix3 0 k j)
def arrH (c : Dev nD) (i : Fin 8192) (j : Fin 2048) : EReal := (m ((c : Thread nD τ).loc main_arg2) : Vec Ideal S8192x2048 .f32) (ix2 i j)
def arrN (c : Dev nD) (j : Fin 2048) : EReal := (m ((c : Thread nD τ).loc main_arg3) : Vec Ideal S2x2048 .f32) (ix2 0 j)

/-- Where a point's row lies. -/
def row (t : Fin cfg0.N) (r : Fin 512) : Fin 8192 := ⟨512 * t.val + r.val, by have := point_lt t; omega⟩

theorem x0_apply (c : Dev nD) (t : Fin cfg0.N) (r : Fin 512) (k : Fin 2048) :
    (iblk m c 0 t : Vec Ideal S512x2048 .bf16) (ix2 r k) = arrX m c (row t r) k := by
  have idx := (index_eq t).1
  unfold arrX row
  blk_ext [iblk, V, idx]

theorem rounded_apply (c : Dev nD) (k j : Fin 2048) : (V m c main_v0 : Vec Ideal S2x2048x2048 .bf16) (ix3 0 k j) = arrW m c k j := by
  unfold arrW V hostOps0
  after_results
  pointwise []

theorem x1_apply (c : Dev nD) (t : Fin cfg0.N) (k j : Fin 2048) :
    (iblk m c 1 t : Vec Ideal S1x2048x2048 .bf16) (ix3 0 k j) = arrW m c k j := by
  have idx := (index_eq t).2.1
  rw [← rounded_apply]
  blk_ext [iblk, idx]

theorem x2_apply (c : Dev nD) (t : Fin cfg0.N) (r : Fin 512) (j : Fin 2048) :
    (iblk m c 2 t : Vec Ideal S512x2048 .f32) (ix2 r j) = arrH m c (row t r) j := by
  have idx := (index_eq t).2.2.1
  unfold arrH row
  blk_ext [iblk, V, idx]

theorem weight_apply (c : Dev nD) (j : Fin 2048) : (V m c main_v3 : Vec Ideal S1x2048 .f32) (ix2 0 j) = arrN m c j := by
  unfold arrN V hostOps0
  after_results
  pointwise []

theorem x3_apply (c : Dev nD) (t : Fin cfg0.N) (j : Fin 2048) : (iblk m c 3 t : Vec Ideal S1x2048 .f32) (ix2 0 j) = arrN m c j := by
  have idx := (index_eq t).2.2.2.1
  rw [← weight_apply]
  blk_ext [iblk, idx]

/-- One entry of the residual sum. -/
def total (c : Dev nD) (i : Fin 8192) (j : Fin 2048) : EReal :=
  arrH m c i j + ∑ k : Fin 2048, arrX m c i k * arrW m c k j

theorem total_apply (c : Dev nD) (t : Fin cfg0.N) (r : Fin 512) (j : Fin 2048) :
    k0_pay1 (iblk m c 2 t) (iblk m c 0 t) (iblk m c 1 t) (ix2 r j) = total m c (row t r) j := by
  unfold total
  simp only [← x0_apply, ← x1_apply _ _ t, ← x2_apply]
  pointwise [k0_pay1]

theorem norm_block (P0 : Vec Ideal S512x2048 .f32) (P1 : Vec Ideal S512x2048 .bf16) (P2 : Vec Ideal S1x2048x2048 .bf16)
    (P3 : Vec Ideal S1x2048 .f32) (r : Fin 512) (j : Fin 2048) :
    k0_pay2 P0 P1 P2 P3 (ix2 r j) = normed (fun k => k0_pay1 P0 P1 P2 (ix2 r k)) (fun k => P3 (ix2 0 k)) j := by
  unfold normed k0_pay2
  generalize k0_pay1 P0 P1 P2 = h
  pointwise []

/-- The two results. -/
def sums (c : Dev nD) : Vec Ideal S8192x2048 .f32 := fun y => total m c (y 0) (y 1)
def norms (c : Dev nD) : Vec Ideal S8192x2048 .bf16 := fun y => normed (total m c (y 0)) (arrN m c) (y 1)

theorem out4_apply (c : Dev nD) (t : Fin cfg0.N) (r : Fin 512) (j : Fin 2048) :
    out0_4 (iblk m c 0 t) (iblk m c 1 t) (iblk m c 2 t) (iblk m c 3 t) (ix2 r j) = total m c (row t r) j := by
  rw [← total_apply]
  unfold out0_4
  simp (disch := decide) only [View.ld_unit_lit, View.canon_cons_unit_lit]

theorem out5_apply (c : Dev nD) (t : Fin cfg0.N) (r : Fin 512) (j : Fin 2048) :
    out0_5 (iblk m c 0 t) (iblk m c 1 t) (iblk m c 2 t) (iblk m c 3 t) (ix2 r j) = normed (total m c (row t r)) (arrN m c) j := by
  have e : normed (total m c (row t r)) (arrN m c) j
      = k0_pay2 (iblk m c 2 t) (iblk m c 0 t) (iblk m c 1 t) (iblk m c 3 t) (ix2 r j) := by
    rw [norm_block]
    congr 1
    · exact funext fun k => (total_apply m c t r k).symm
    · exact funext fun k => (x3_apply m c t k).symm
  rw [e]
  unfold out0_5
  simp (disch := decide) only [View.ld_unit_lit, View.canon_cons_unit_lit]

theorem sums_eq (c : Dev nD) : (dats m 0 c).arrAt 4 cfg0.N = sums m c := by
  refine (dats m 0 c).arrAt_eq_of_cover 4 (sums m c) (fun t _ => ?_) fun i => ?_
  · rw [flushed4]
    have a (r : Fin 512) (j : Fin 2048) : out0_4 (iblk m c 0 t) (iblk m c 1 t) (iblk m c 2 t) (iblk m c 3 t) (ix2 r j)
        = sums m c (((cfg0.win 4).blk t).view.emb (ix2 r j)) := by
      rw [out4_apply]
      have e0 : win0_4.index t 0 = t.val := by rw [(index_eq t).2.2.2.2.1]; rfl
      have e1 : win0_4.index t 1 = 0 := by rw [(index_eq t).2.2.2.2.1]; rfl
      unfold sums
      congr 1
      · apply Fin.ext; show 512 * t.val + r.val = win0_4.index t 0 * 512 + 1 * r.val; omega
      · apply Fin.ext; show j.val = win0_4.index t 1 * 2048 + 1 * j.val; omega
    funext y
    show out0_4 (iblk m c 0 t) (iblk m c 1 t) (iblk m c 2 t) (iblk m c 3 t) y = sums m c (((cfg0.win 4).blk t).view.emb y)
    rw [eq_ix2 y]
    exact a (y 0) (y 1)
  · have h0 : (i 0).val < 8192 := (i 0).isLt
    have h1 : (i 1).val < 2048 := (i 1).isLt
    have hN : cfg0.N = 16 := N_0
    refine ⟨⟨(i 0).val / 512, by omega⟩, flush0_4 _, ?_⟩
    have e := (index_eq ⟨(i 0).val / 512, by omega⟩).2.2.2.2.1
    mem_blk [e]
    dsimp only
    omega

theorem norms_eq (c : Dev nD) : (dats m 0 c).arrAt 5 cfg0.N = norms m c := by
  refine (dats m 0 c).arrAt_eq_of_cover 5 (norms m c) (fun t _ => ?_) fun i => ?_
  · rw [flushed5]
    have a (r : Fin 512) (j : Fin 2048) : out0_5 (iblk m c 0 t) (iblk m c 1 t) (iblk m c 2 t) (iblk m c 3 t) (ix2 r j)
        = norms m c (((cfg0.win 5).blk t).view.emb (ix2 r j)) := by
      rw [out5_apply]
      have e0 : win0_5.index t 0 = t.val := by rw [(index_eq t).2.2.2.2.2]; rfl
      have e1 : win0_5.index t 1 = 0 := by rw [(index_eq t).2.2.2.2.2]; rfl
      unfold norms
      congr 1
      · refine congrArg (total m c) ?_
        apply Fin.ext; show 512 * t.val + r.val = win0_5.index t 0 * 512 + 1 * r.val; omega
      · apply Fin.ext; show j.val = win0_5.index t 1 * 2048 + 1 * j.val; omega
    funext y
    show out0_5 (iblk m c 0 t) (iblk m c 1 t) (iblk m c 2 t) (iblk m c 3 t) y = norms m c (((cfg0.win 5).blk t).view.emb y)
    rw [eq_ix2 y]
    exact a (y 0) (y 1)
  · have h0 : (i 0).val < 8192 := (i 0).isLt
    have h1 : (i 1).val < 2048 := (i 1).isLt
    have hN : cfg0.N = 16 := N_0
    refine ⟨⟨(i 0).val / 512, by omega⟩, flush0_5 _, ?_⟩
    have e := (index_eq ⟨(i 0).val / 512, by omega⟩).2.2.2.2.2
    mem_blk [e]
    dsimp only
    omega

/-- The reference runs, its arguments unchanged, every counter at zero. -/
theorem reference_frame : quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- From equal arguments the two programs end with equal results. -/
theorem values : algebraic_Kernel7Ideal_Reference7Ideal := by
  intro m g m' g' _ he
  refine ⟨fun c => sums m c, fun c => norms m c, ?_, ?_⟩
  · exact (θ_run Cert.Kernel7Ideal.defs _ _).mono
      (fun r h c => ⟨(h c).1.trans (sums_eq m c), (h c).2.1.trans (norms_eq m c), (h c).2.2⟩)
      (Cert.Kernel7Ideal.Value.run_blocks (F := Ideal) m g)
  refine (θ_run Cert.Reference7Ideal.defs _ _).mono (fun r h c => ⟨(h c).1.trans ?_, (h c).2.1.trans ?_, (h c).2.2⟩)
    (Cert.Reference7Ideal.Value.run (F := Ideal) m' g')
  · obtain ⟨e0, e1, e2, e3⟩ := he c
    simp only [e0, e1, e2]
    refine funext fun y => ?_
    rw [eq_ix2 y]
    exact sum_apply _ _ _ (y 0) (y 1)
  · obtain ⟨e0, e1, e2, e3⟩ := he c
    simp only [e0, e1, e2, e3]
    refine funext fun y => ?_
    rw [eq_ix2 y]
    refine (norm_apply _ _ (y 0) (y 1)).trans ?_
    exact congrArg (fun h => normed h (arrN m c) (y 1)) (funext fun k => sum_apply _ _ _ (y 0) k)

end Cert.Norm

end
-- ==== Proof.Lookup.lean ====
/- The per-layer embedding's update of the residual, and the final norm of it. -/
module

public import proofs.«01_k».proof.Proof.Gen.Kernel8Ideal.Value
public import proofs.«01_k».proof.Proof.Gen.Reference8Ideal.Run
public import proofs.«01_k».proof.Proof.Squash
public import proofs.«01_k».proof.Proof.Norm
public import proofs.«01_k».proof.Defs
public import Idealize.ShloMosaic.Lib.Claim
public import Idealize.ShloMosaic.Lib.Quiescent

@[expose] public section

noncomputable section

namespace Cert.Lookup

open Idealize.ShloMosaic Idealize.ShloMosaic.TcCoe Idealize.SL.Sem Cert.Squash Cert.Reference8Ideal Cert.Reference8Ideal.Gen
open Cert.Norm (normed)

/-- One entry of the updated residual: a token's row `h`, its looked-up row `e`, the two weights' columns, the norm's weight. -/
def next (h g : Fin 2048 → EReal) (e : Fin 256 → EReal) (wg : Fin 2048 → Fin 2048 → EReal) (wu : Fin 256 → Fin 2048 → EReal)
    (j : Fin 2048) : EReal :=
  h j + (∑ k : Fin 256, e k * wu k j) * sg (∑ k : Fin 2048, normed h g k * wg k j)

/-- The reference's norm of the residual. -/
theorem before_apply (h : FVec Ideal S8192x2048 .f32) (g : FVec Ideal S2x2048 .f32) (i : Fin 8192) (j : Fin 2048) :
    (mulf (mulf h (broadcastInDim S8192x2048 ![0, 1] bcast_S8192x1_S8192x2048_0_1 (Host.rsqrt (addf
      (Host.divf (broadcastInDim S8192x1 ![0] bcast_S8192_S8192x1_0 (Host.reduceAdd (mulf h h)
        (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1
        (shapeCast _ (extractStridedSlice S1x2048 ![1, 0] g slices_S2x2048_S1x2048_1_0) shapeCasts_S1x2048_S2048)))
      : FVec Ideal S8192x2048 .f32) (ix2 i j) = normed (fun k => h (ix2 i k)) (fun k => g (ix2 1 k)) j := by
  unfold normed
  pointwise []

/-- The reference's norm of the updated residual, by the final weight. -/
theorem after_apply (h : FVec Ideal S8192x2048 .f32) (g : FVec Ideal S2048 .f32) (i : Fin 8192) (j : Fin 2048) :
    (mulf (mulf h (broadcastInDim S8192x2048 ![0, 1] bcast_S8192x1_S8192x2048_0_1 (Host.rsqrt (addf
      (Host.divf (broadcastInDim S8192x1 ![0] bcast_S8192_S8192x1_0 (Host.reduceAdd (mulf h h)
        (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g))
      : FVec Ideal S8192x2048 .f32) (ix2 i j) = normed (fun k => h (ix2 i k)) (fun k => g (ix1 k)) j := by
  unfold normed
  pointwise []

/-- The reference's update, over the normed residual `n`. -/
theorem update_apply (h n : FVec Ideal S8192x2048 .f32) (E : FVec Ideal S2x1x8192x256 .f32) (Wg : FVec Ideal S2x2048x2048 .f32)
    (Wu : FVec Ideal S2x256x2048 .f32) (i : Fin 8192) (j : Fin 2048) :
    (addf h (mulf (Host.dotGeneral dot_S8192x256_S256x2048_S8192x2048_1_0_0_1_n_n none
      (shapeCast _ (extractStridedSlice S1x1x8192x256 ![1, 0, 0, 0] E slices_S2x1x8192x256_S1x1x8192x256_1_0_0_0)
        shapeCasts_S1x1x8192x256_S8192x256)
      (shapeCast _ (extractStridedSlice S1x256x2048 ![1, 0, 0] Wu slices_S2x256x2048_S1x256x2048_1_0_0)
        shapeCasts_S1x256x2048_S256x2048))
      (Host.divf (broadcastInDim S8192x2048 ![] bcast_S_S8192x2048 (constant S_ .f32 0x3F800000#32))
        (addf (broadcastInDim S8192x2048 ![] bcast_S_S8192x2048 (constant S_ .f32 0x3F800000#32))
          (Host.exp (Host.negf (Host.dotGeneral dot_S8192x2048_S2048x2048_S8192x2048_1_0_0_1_n_n none n
            (shapeCast _ (extractStridedSlice S1x2048x2048 ![1, 0, 0] Wg slices_S2x2048x2048_S1x2048x2048_1_0_0)
              shapeCasts_S1x2048x2048_S2048x2048))))))) : FVec Ideal S8192x2048 .f32) (ix2 i j)
      = h (ix2 i j) + (∑ k : Fin 256, E (ix4 1 0 i k) * Wu (ix3 1 k j)) * sg (∑ k : Fin 2048, n (ix2 i k) * Wg (ix3 1 k j)) := by
  unfold sg
  pointwise []

/-- One entry of the reference's updated residual. -/
theorem sum_apply (h : FVec Ideal S8192x2048 .f32) (g : FVec Ideal S2x2048 .f32) (E : FVec Ideal S2x1x8192x256 .f32)
    (Wg : FVec Ideal S2x2048x2048 .f32) (Wu : FVec Ideal S2x256x2048 .f32) (i : Fin 8192) (j : Fin 2048) :
    (addf h (mulf (Host.dotGeneral dot_S8192x256_S256x2048_S8192x2048_1_0_0_1_n_n none
      (shapeCast _ (extractStridedSlice S1x1x8192x256 ![1, 0, 0, 0] E slices_S2x1x8192x256_S1x1x8192x256_1_0_0_0)
        shapeCasts_S1x1x8192x256_S8192x256)
      (shapeCast _ (extractStridedSlice S1x256x2048 ![1, 0, 0] Wu slices_S2x256x2048_S1x256x2048_1_0_0)
        shapeCasts_S1x256x2048_S256x2048))
      (Host.divf (broadcastInDim S8192x2048 ![] bcast_S_S8192x2048 (constant S_ .f32 0x3F800000#32))
        (addf (broadcastInDim S8192x2048 ![] bcast_S_S8192x2048 (constant S_ .f32 0x3F800000#32))
          (Host.exp (Host.negf (Host.dotGeneral dot_S8192x2048_S2048x2048_S8192x2048_1_0_0_1_n_n none
            (mulf (mulf h (broadcastInDim S8192x2048 ![0, 1] bcast_S8192x1_S8192x2048_0_1 (Host.rsqrt (addf
              (Host.divf (broadcastInDim S8192x1 ![0] bcast_S8192_S8192x1_0 (Host.reduceAdd (mulf h h)
                (constant S_ .f32 0x00000000#32) reducesTo_S8192x2048_S8192_d1 h_S_))
                (broadcastInDim S8192x1 ![] bcast_S_S8192x1 (constant S_ .f32 0x45000000#32)))
              (broadcastInDim S8192x1 ![] bcast_S_S8192x1 (constant S_ .f32 0x358637BD#32))))))
              (broadcastInDim S8192x2048 ![0, 1] bcast_S1x2048_S8192x2048_0_1 (broadcastInDim S1x2048 ![1] bcast_S2048_S1x2048_1
                (shapeCast _ (extractStridedSlice S1x2048 ![1, 0] g slices_S2x2048_S1x2048_1_0) shapeCasts_S1x2048_S2048))))
            (shapeCast _ (extractStridedSlice S1x2048x2048 ![1, 0, 0] Wg slices_S2x2048x2048_S1x2048x2048_1_0_0)
              shapeCasts_S1x2048x2048_S2048x2048))))))) : FVec Ideal S8192x2048 .f32) (ix2 i j)
      = next (fun k => h (ix2 i k)) (fun k => g (ix2 1 k)) (fun k => E (ix4 1 0 i k)) (fun k l => Wg (ix3 1 k l))
          (fun k l => Wu (ix3 1 k l)) j := by
  refine (update_apply h _ E Wg Wu i j).trans ?_
  exact congrArg (fun n : Fin 2048 → EReal => h (ix2 i j) + (∑ k : Fin 256, E (ix4 1 0 i k) * Wu (ix3 1 k j))
    * sg (∑ k : Fin 2048, n k * Wg (ix3 1 k j))) (funext fun k => before_apply h g i k)

end Cert.Lookup

namespace Cert.Lookup

open Idealize.ShloMosaic Idealize.ShloMosaic.TcCoe Idealize.SL.Sem Cert.Kernel8Ideal Cert.Kernel8Ideal.Gen Cert.Kernel8Ideal.Value
  Cert.Stored Cert.Squash
open Cert.Norm (normed)

/-- The kernel's norm. -/
theorem norm_upper (v : Vec Ideal S256x2048 .f32) (a b : FVec Ideal S256x2048 .f32) (e : Vec Ideal S1x1x256x256 .bf16)
    (u : Vec Ideal S1x256x2048 .bf16) (g : Vec Ideal S1x2048 .f32) (r : Fin 256) (j : Fin 2048) :
    k0_pay1 (k0_pay9 v a b e u) (k0_pay10 g) (k0_pay11 v a b e u) (ix2 r j)
      = normed (fun k => k0_pay9 v a b e u (ix2 r k)) (fun k => g (ix2 0 k)) j := by
  unfold normed k0_pay11
  generalize k0_pay9 v a b e u = h
  pointwise [k0_pay1, k0_pay10]

theorem norm_lower (v : Vec Ideal S256x2048 .f32) (a b : FVec Ideal S256x2048 .f32) (g : Vec Ideal S1x2048 .f32) (r : Fin 256) (j : Fin 2048) :
    k0_pay3 v a b g (ix2 r j) = normed (fun k => k0_pay2 v a b (ix2 r k)) (fun k => g (ix2 0 k)) j := by
  unfold normed k0_pay3
  generalize k0_pay2 v a b = h
  pointwise []

theorem norm_before (h : Vec Ideal S256x2048 .f32) (g : Vec Ideal S1x2048 .f32) (r : Fin 256) (j : Fin 2048) :
    k0_pay4 h g (ix2 r j) = normed (fun k => h (ix2 r k)) (fun k => g (ix2 0 k)) j := by
  unfold normed
  pointwise [k0_pay4]

/-- The update of a block's upper half, -/
theorem update_upper (h : Vec Ideal S256x2048 .f32) (g : Vec Ideal S1x2048 .f32) (e : Vec Ideal S1x1x256x256 .bf16)
    (wg : Vec Ideal S1x2048x2048 .bf16) (wu : Vec Ideal S1x256x2048 .bf16) (r : Fin 256) (j : Fin 2048) :
    k0_pay9 h (k0_pay5 h g wg) k0_pay6 e wu (ix2 r j)
      = next (fun k => h (ix2 r k)) (fun k => g (ix2 0 k)) (fun k => e (ix4 0 0 r k)) (fun k l => wg (ix3 0 k l))
          (fun k l => wu (ix3 0 k l)) j := by
  unfold next normed sg
  rw [← zero_sub]
  pointwise [k0_pay9, k0_pay5, k0_pay6]

/-- and of its lower half. -/
theorem update_lower (h : Vec Ideal S256x2048 .f32) (g : Vec Ideal S1x2048 .f32) (e : Vec Ideal S1x1x256x256 .bf16)
    (wg : Vec Ideal S1x2048x2048 .bf16) (wu : Vec Ideal S1x256x2048 .bf16) (r : Fin 256) (j : Fin 2048) :
    k0_pay2 h (k0_pay7 (k0_pay4 h g) wg) (k0_pay8 e wu) (ix2 r j)
      = next (fun k => h (ix2 r k)) (fun k => g (ix2 0 k)) (fun k => e (ix4 0 0 r k)) (fun k l => wg (ix3 0 k l))
          (fun k l => wu (ix3 0 k l)) j := by
  unfold next sg
  simp only [← norm_before]
  rw [← zero_sub]
  generalize k0_pay4 h g = n
  pointwise [k0_pay2, k0_pay7, k0_pay8]

variable (m : (l : Loc nD τ sig) → Buf (Elt Ideal) l)

theorem index_eq : ∀ t : Fin cfg0.N, win0_0.index t = ![t.val, 0] ∧ win0_1.index t = ![1, 0, t.val, 0] ∧ win0_2.index t = ![1, 0, 0]
    ∧ win0_3.index t = ![1, 0, 0] ∧ win0_4.index t = ![0, 0] ∧ win0_5.index t = ![0, 0] ∧ win0_6.index t = ![t.val, 0]
    ∧ win0_7.index t = ![t.val, 0] :=
  (by decide +kernel : ∀ t : Fin grid0.N, _)

theorem point_lt (t : Fin cfg0.N) : t.val < 16 := lt_of_lt_of_eq t.isLt (show cfg0.N = 16 from N_0)

/-- The residual, the looked-up rows, the two weights, and the two norms' weights. -/
def arrH (c : Dev nD) (i : Fin 8192) (j : Fin 2048) : EReal := (m ((c : Thread nD τ).loc main_arg0) : Vec Ideal S8192x2048 .f32) (ix2 i j)
def arrE (c : Dev nD) (i : Fin 8192) (k : Fin 256) : EReal := (m ((c : Thread nD τ).loc main_arg1) : Vec Ideal S2x1x8192x256 .f32) (ix4 1 0 i k)
def arrW (c : Dev nD) (k j : Fin 2048) : EReal := (m ((c : Thread nD τ).loc main_arg2) : Vec Ideal S2x2048x2048 .f32) (ix3 1 k j)
def arrU (c : Dev nD) (k : Fin 256) (j : Fin 2048) : EReal := (m ((c : Thread nD τ).loc main_arg3) : Vec Ideal S2x256x2048 .f32) (ix3 1 k j)
def arrG (c : Dev nD) (j : Fin 2048) : EReal := (m ((c : Thread nD τ).loc main_arg4) : Vec Ideal S2x2048 .f32) (ix2 1 j)
def arrN (c : Dev nD) (j : Fin 2048) : EReal := (m ((c : Thread nD τ).loc main_arg5) : Vec Ideal S2048 .f32) (ix1 j)

/-- Where a point's row lies. -/
def row (t : Fin cfg0.N) (r : Fin 512) : Fin 8192 := ⟨512 * t.val + r.val, by have := point_lt t; omega⟩

theorem x0_apply (c : Dev nD) (t : Fin cfg0.N) (r : Fin 512) (k : Fin 2048) :
    (iblk m c 0 t : Vec Ideal S512x2048 .f32) (ix2 r k) = arrH m c (row t r) k := by
  have idx := (index_eq t).1
  unfold arrH row
  blk_ext [iblk, V, idx]

theorem host1_apply (c : Dev nD) (i : Fin 8192) (k : Fin 256) :
    (V m c main_v2 : Vec Ideal S2x1x8192x256 .bf16) (ix4 1 0 i k) = arrE m c i k := by
  unfold arrE V hostOps0
  after_results
  pointwise []

theorem x1_apply (c : Dev nD) (t : Fin cfg0.N) (r : Fin 512) (k : Fin 256) :
    (iblk m c 1 t : Vec Ideal S1x1x512x256 .bf16) (ix4 0 0 r k) = arrE m c (row t r) k := by
  have idx := (index_eq t).2.1
  rw [← host1_apply]
  unfold row
  blk_ext [iblk, idx]

theorem host2_apply (c : Dev nD) (k j : Fin 2048) : (V m c main_v0 : Vec Ideal S2x2048x2048 .bf16) (ix3 1 k j) = arrW m c k j := by
  unfold arrW V hostOps0
  after_results
  pointwise []

theorem x2_apply (c : Dev nD) (t : Fin cfg0.N) (k j : Fin 2048) :
    (iblk m c 2 t : Vec Ideal S1x2048x2048 .bf16) (ix3 0 k j) = arrW m c k j := by
  have idx := (index_eq t).2.2.1
  rw [← host2_apply]
  blk_ext [iblk, idx]

theorem host3_apply (c : Dev nD) (k : Fin 256) (j : Fin 2048) : (V m c main_v1 : Vec Ideal S2x256x2048 .bf16) (ix3 1 k j) = arrU m c k j := by
  unfold arrU V hostOps0
  after_results
  pointwise []

theorem x3_apply (c : Dev nD) (t : Fin cfg0.N) (k : Fin 256) (j : Fin 2048) :
    (iblk m c 3 t : Vec Ideal S1x256x2048 .bf16) (ix3 0 k j) = arrU m c k j := by
  have idx := (index_eq t).2.2.2.1
  rw [← host3_apply]
  blk_ext [iblk, idx]

theorem host4_apply (c : Dev nD) (j : Fin 2048) : (V m c main_v5 : Vec Ideal S1x2048 .f32) (ix2 0 j) = arrG m c j := by
  unfold arrG V hostOps0
  after_results
  pointwise []

theorem x4_apply (c : Dev nD) (t : Fin cfg0.N) (j : Fin 2048) : (iblk m c 4 t : Vec Ideal S1x2048 .f32) (ix2 0 j) = arrG m c j := by
  have idx := (index_eq t).2.2.2.2.1
  rw [← host4_apply]
  blk_ext [iblk, idx]

theorem host5_apply (c : Dev nD) (j : Fin 2048) : (V m c main_v6 : Vec Ideal S1x2048 .f32) (ix2 0 j) = arrN m c j := by
  unfold arrN V hostOps0
  after_results
  pointwise []

theorem x5_apply (c : Dev nD) (t : Fin cfg0.N) (j : Fin 2048) : (iblk m c 5 t : Vec Ideal S1x2048 .f32) (ix2 0 j) = arrN m c j := by
  have idx := (index_eq t).2.2.2.2.2.1
  rw [← host5_apply]
  blk_ext [iblk, idx]

/-- A block's row, from its place in the upper or the lower half. -/
def upper (r : Fin 256) : Fin 512 := ⟨r.val, by omega⟩
def lower (r : Fin 256) : Fin 512 := ⟨256 + r.val, by omega⟩

theorem ld_upper (x : Vec Ideal S512x2048 .f32) (r : Fin 256) (k : Fin 2048) : View.ld x r0_0 (ix2 r k) = x (ix2 (upper r) k) := by
  show x _ = x _
  congr 1; funext a; apply Fin.ext
  match a with
  | ⟨0, _⟩ => show 0 + 1 * r.val = r.val; omega
  | ⟨1, _⟩ => show 0 + 1 * k.val = k.val; omega

theorem ld_lower (x : Vec Ideal S512x2048 .f32) (r : Fin 256) (k : Fin 2048) : View.ld x r0_1 (ix2 r k) = x (ix2 (lower r) k) := by
  show x _ = x _
  congr 1; funext a; apply Fin.ext
  match a with
  | ⟨0, _⟩ => show 256 + 1 * r.val = 256 + r.val; omega
  | ⟨1, _⟩ => show 0 + 1 * k.val = k.val; omega

theorem ld_upper' (x : Vec Ideal S1x1x512x256 .bf16) (r k : Fin 256) : View.ld x r0_4 (ix4 0 0 r k) = x (ix4 0 0 (upper r) k) := by
  show x _ = x _
  congr 1; funext a; apply Fin.ext
  match a with
  | ⟨0, _⟩ => rfl
  | ⟨1, _⟩ => rfl
  | ⟨2, _⟩ => show 0 + 1 * r.val = r.val; omega
  | ⟨3, _⟩ => show 0 + 1 * k.val = k.val; omega

theorem ld_lower' (x : Vec Ideal S1x1x512x256 .bf16) (r k : Fin 256) : View.ld x r0_6 (ix4 0 0 r k) = x (ix4 0 0 (lower r) k) := by
  show x _ = x _
  congr 1; funext a; apply Fin.ext
  match a with
  | ⟨0, _⟩ => rfl
  | ⟨1, _⟩ => rfl
  | ⟨2, _⟩ => show 256 + 1 * r.val = 256 + r.val; omega
  | ⟨3, _⟩ => show 0 + 1 * k.val = k.val; omega

/-- What the upper half of a block takes, from the blocks, -/
theorem block_upper (x0 : Vec Ideal S512x2048 .f32) (x1 : Vec Ideal S1x1x512x256 .bf16) (x2 : Vec Ideal S1x2048x2048 .bf16)
    (x3 : Vec Ideal S1x256x2048 .bf16) (x4 x5 : Vec Ideal S1x2048 .f32) (r : Fin 256) (j : Fin 2048) :
    k0_pay9 (View.ld x0 r0_0) (k0_pay12 x0 x1 x2 x3 x4 x5) (k0_pay13 x0 x1 x2 x3 x4 x5) (View.ld x1 r0_4) (View.ld x3 r0_5) (ix2 r j)
      = next (fun k => x0 (ix2 (upper r) k)) (fun k => x4 (ix2 0 k)) (fun k => x1 (ix4 0 0 (upper r) k))
          (fun k l => x2 (ix3 0 k l)) (fun k l => x3 (ix3 0 k l)) j := by
  unfold k0_pay12 k0_pay13
  simp (disch := decide) only [View.ld_unit_lit]
  refine (update_upper _ _ _ _ _ r j).trans ?_
  have a : (fun k => View.ld x0 r0_0 (ix2 r k)) = fun k => x0 (ix2 (upper r) k) := funext (ld_upper x0 r)
  have b : (fun k => View.ld x1 r0_4 (ix4 0 0 r k)) = fun k => x1 (ix4 0 0 (upper r) k) := funext (ld_upper' x1 r)
  exact congrArg₂ (fun p q => next p (fun k => x4 (ix2 0 k)) q (fun k l => x2 (ix3 0 k l)) (fun k l => x3 (ix3 0 k l)) j) a b

/-- and the lower half. -/
theorem block_lower (x0 : Vec Ideal S512x2048 .f32) (x1 : Vec Ideal S1x1x512x256 .bf16) (x2 : Vec Ideal S1x2048x2048 .bf16)
    (x3 : Vec Ideal S1x256x2048 .bf16) (x4 x5 : Vec Ideal S1x2048 .f32) (r : Fin 256) (j : Fin 2048) :
    k0_pay2 (View.ld x0 r0_1) (k0_pay14 x0 x1 x2 x3 x4 x5) (k0_pay15 x0 x1 x2 x3 x4 x5) (ix2 r j)
      = next (fun k => x0 (ix2 (lower r) k)) (fun k => x4 (ix2 0 k)) (fun k => x1 (ix4 0 0 (lower r) k))
          (fun k l => x2 (ix3 0 k l)) (fun k l => x3 (ix3 0 k l)) j := by
  unfold k0_pay14 k0_pay15
  simp (disch := decide) only [View.ld_unit_lit]
  refine (update_lower _ _ _ _ _ r j).trans ?_
  have a : (fun k => View.ld x0 r0_1 (ix2 r k)) = fun k => x0 (ix2 (lower r) k) := funext (ld_lower x0 r)
  have b : (fun k => View.ld x1 r0_6 (ix4 0 0 r k)) = fun k => x1 (ix4 0 0 (lower r) k) := funext (ld_lower' x1 r)
  exact congrArg₂ (fun p q => next p (fun k => x4 (ix2 0 k)) q (fun k l => x2 (ix3 0 k l)) (fun k l => x3 (ix3 0 k l)) j) a b

/-- One entry of the updated residual. -/
def total (c : Dev nD) (i : Fin 8192) (j : Fin 2048) : EReal :=
  next (arrH m c i) (arrG m c) (arrE m c i) (arrW m c) (arrU m c) j

/-- The blocks of a point, read as entries of the arrays. -/
theorem next_eq (c : Dev nD) (t : Fin cfg0.N) (r : Fin 512) (j : Fin 2048) :
    next (fun k => (iblk m c 0 t : Vec Ideal S512x2048 .f32) (ix2 r k)) (fun k => (iblk m c 4 t : Vec Ideal S1x2048 .f32) (ix2 0 k))
      (fun k => (iblk m c 1 t : Vec Ideal S1x1x512x256 .bf16) (ix4 0 0 r k))
      (fun k l => (iblk m c 2 t : Vec Ideal S1x2048x2048 .bf16) (ix3 0 k l))
      (fun k l => (iblk m c 3 t : Vec Ideal S1x256x2048 .bf16) (ix3 0 k l)) j = total m c (row t r) j := by
  simp only [x0_apply, x1_apply, x2_apply, x3_apply, x4_apply]
  rfl

theorem total_upper (c : Dev nD) (t : Fin cfg0.N) (r : Fin 256) (j : Fin 2048) :
    k0_pay9 (View.ld (iblk m c 0 t) r0_0) (k0_pay12 (iblk m c 0 t) (iblk m c 1 t) (iblk m c 2 t) (iblk m c 3 t) (iblk m c 4 t) (iblk m c 5 t))
      (k0_pay13 (iblk m c 0 t) (iblk m c 1 t) (iblk m c 2 t) (iblk m c 3 t) (iblk m c 4 t) (iblk m c 5 t))
      (View.ld (iblk m c 1 t) r0_4) (View.ld (iblk m c 3 t) r0_5) (ix2 r j) = total m c (row t (upper r)) j :=
  (block_upper _ _ _ _ _ _ r j).trans (next_eq m c t (upper r) j)

theorem total_lower (c : Dev nD) (t : Fin cfg0.N) (r : Fin 256) (j : Fin 2048) :
    k0_pay2 (View.ld (iblk m c 0 t) r0_1) (k0_pay14 (iblk m c 0 t) (iblk m c 1 t) (iblk m c 2 t) (iblk m c 3 t) (iblk m c 4 t) (iblk m c 5 t))
      (k0_pay15 (iblk m c 0 t) (iblk m c 1 t) (iblk m c 2 t) (iblk m c 3 t) (iblk m c 4 t) (iblk m c 5 t)) (ix2 r j)
      = total m c (row t (lower r)) j :=
  (block_lower _ _ _ _ _ _ r j).trans (next_eq m c t (lower r) j)

/-- The two results. -/
def sums (c : Dev nD) : Vec Ideal S8192x2048 .f32 := fun y => total m c (y 0) (y 1)
def norms (c : Dev nD) : Vec Ideal S8192x2048 .f32 := fun y => normed (total m c (y 0)) (arrN m c) (y 1)

/-- The blocks a point leaves. -/
def left6 (c : Dev nD) (t : Fin cfg0.N) : Vec Ideal S512x2048 .f32 := fun y => total m c (row t (y 0)) (y 1)
def left7 (c : Dev nD) (t : Fin cfg0.N) : Vec Ideal S512x2048 .f32 := fun y => normed (total m c (row t (y 0))) (arrN m c) (y 1)

theorem idx_upper (r : Fin 256) (j : Fin 2048) : r0_0.idx (ix2 r j) = ix2 (upper r) j := by
  funext a; apply Fin.ext
  match a with
  | ⟨0, _⟩ => show 0 + 1 * r.val = r.val; omega
  | ⟨1, _⟩ => show 0 + 1 * j.val = j.val; omega

theorem idx_lower (r : Fin 256) (j : Fin 2048) : r0_1.idx (ix2 r j) = ix2 (lower r) j := by
  funext a; apply Fin.ext
  match a with
  | ⟨0, _⟩ => show 256 + 1 * r.val = 256 + r.val; omega
  | ⟨1, _⟩ => show 0 + 1 * j.val = j.val; omega

theorem out6_apply (c : Dev nD) (t : Fin cfg0.N) (y : S512x2048.Idx) :
    out0_6 (iblk m c 0 t) (iblk m c 1 t) (iblk m c 2 t) (iblk m c 3 t) (iblk m c 4 t) (iblk m c 5 t) y
      = left6 m c t y := by
  unfold out0_6
  refine View.canon_apply_of_pieces (left6 m c t) _ ?_ y (cover0_6 _ _ y)
  intro pc hpc
  rcases List.mem_cons.mp hpc with rfl | hpc
  · have a (r : Fin 256) (j : Fin 2048) := (total_lower m c t r j).trans
      (congrArg (left6 m c t) (idx_lower r j)).symm
    intro x; dsimp only at x ⊢; rw [eq_ix2 x]; exact a (x 0) (x 1)
  rcases List.mem_cons.mp hpc with rfl | hpc
  · have a (r : Fin 256) (j : Fin 2048) := (total_upper m c t r j).trans
      (congrArg (left6 m c t) (idx_upper r j)).symm
    intro x; dsimp only at x ⊢; rw [eq_ix2 x]; exact a (x 0) (x 1)
  nomatch hpc

/-- The norm of a block's halves, over blocks whose updated rows are `h`. -/
theorem halves (x0 : Vec Ideal S512x2048 .f32) (x1 : Vec Ideal S1x1x512x256 .bf16) (x2 : Vec Ideal S1x2048x2048 .bf16)
    (x3 : Vec Ideal S1x256x2048 .bf16) (x4 x5 : Vec Ideal S1x2048 .f32) (h : Fin 512 → Fin 2048 → EReal)
    (hh : ∀ r j, next (fun k => x0 (ix2 r k)) (fun k => x4 (ix2 0 k)) (fun k => x1 (ix4 0 0 r k))
      (fun k l => x2 (ix3 0 k l)) (fun k l => x3 (ix3 0 k l)) j = h r j) (y : S512x2048.Idx) :
    out0_7 x0 x1 x2 x3 x4 x5 y = normed (h (y 0)) (fun k => x5 (ix2 0 k)) (y 1) := by
  have g : View.ld x5 r0_2 = x5 := by simp (disch := decide) only [View.ld_unit_lit]
  unfold out0_7
  rw [g]
  refine View.canon_apply_of_pieces (Val := Elt Ideal) (fun y : S512x2048.Idx => (normed (h (y 0)) (fun k => x5 (ix2 0 k)) (y 1) : EReal)) _ ?_ y (cover0_7 _ _ y)
  intro pc hpc
  rcases List.mem_cons.mp hpc with rfl | hpc
  · have a (r : Fin 256) (j : Fin 2048) := (norm_lower _ _ _ x5 r j).trans
      (congrArg (fun p => normed p (fun k => x5 (ix2 0 k)) j)
        (funext fun k => (block_lower x0 x1 x2 x3 x4 x5 r k).trans (hh (lower r) k)))
    intro x
    dsimp only at x ⊢
    rw [eq_ix2 x]
    exact (a (x 0) (x 1)).trans
      (congrArg (fun y : S512x2048.Idx => normed (h (y 0)) (fun k => x5 (ix2 0 k)) (y 1)) (idx_lower (x 0) (x 1)).symm)
  rcases List.mem_cons.mp hpc with rfl | hpc
  · have a (r : Fin 256) (j : Fin 2048) := (norm_upper _ _ _ _ _ x5 r j).trans
      (congrArg (fun p => normed p (fun k => x5 (ix2 0 k)) j)
        (funext fun k => (block_upper x0 x1 x2 x3 x4 x5 r k).trans (hh (upper r) k)))
    intro x
    dsimp only at x ⊢
    rw [eq_ix2 x]
    exact (a (x 0) (x 1)).trans
      (congrArg (fun y : S512x2048.Idx => normed (h (y 0)) (fun k => x5 (ix2 0 k)) (y 1)) (idx_upper (x 0) (x 1)).symm)
  nomatch hpc

theorem out7_apply (c : Dev nD) (t : Fin cfg0.N) (y : S512x2048.Idx) :
    out0_7 (iblk m c 0 t) (iblk m c 1 t) (iblk m c 2 t) (iblk m c 3 t) (iblk m c 4 t) (iblk m c 5 t) y = left7 m c t y :=
  (halves _ _ _ _ _ _ (fun r => total m c (row t r)) (next_eq m c t) y).trans
    (congrArg (fun g => normed (total m c (row t (y 0))) g (y 1)) (funext (x5_apply m c t)))

theorem sums_eq (c : Dev nD) : (dats m 0 c).arrAt 6 cfg0.N = sums m c := by
  refine (dats m 0 c).arrAt_eq_of_cover 6 (sums m c) (fun t _ => ?_) fun i => ?_
  · rw [flushed6]
    have a (r : Fin 512) (j : Fin 2048) : out0_6 (iblk m c 0 t) (iblk m c 1 t) (iblk m c 2 t) (iblk m c 3 t) (iblk m c 4 t) (iblk m c 5 t)
        (ix2 r j) = sums m c (((cfg0.win 6).blk t).view.emb (ix2 r j)) := by
      rw [out6_apply]
      have e0 : win0_6.index t 0 = t.val := by rw [(index_eq t).2.2.2.2.2.2.1]; rfl
      have e1 : win0_6.index t 1 = 0 := by rw [(index_eq t).2.2.2.2.2.2.1]; rfl
      unfold sums left6
      congr 1
      · apply Fin.ext; show 512 * t.val + r.val = win0_6.index t 0 * 512 + 1 * r.val; omega
      · apply Fin.ext; show j.val = win0_6.index t 1 * 2048 + 1 * j.val; omega
    funext y
    show out0_6 (iblk m c 0 t) (iblk m c 1 t) (iblk m c 2 t) (iblk m c 3 t) (iblk m c 4 t) (iblk m c 5 t) y
      = sums m c (((cfg0.win 6).blk t).view.emb y)
    rw [eq_ix2 y]
    exact a (y 0) (y 1)
  · have h0 : (i 0).val < 8192 := (i 0).isLt
    have h1 : (i 1).val < 2048 := (i 1).isLt
    have hN : cfg0.N = 16 := N_0
    refine ⟨⟨(i 0).val / 512, by omega⟩, flush0_6 _, ?_⟩
    have e := (index_eq ⟨(i 0).val / 512, by omega⟩).2.2.2.2.2.2.1
    mem_blk [e]
    dsimp only
    omega

theorem norms_eq (c : Dev nD) : (dats m 0 c).arrAt 7 cfg0.N = norms m c := by
  refine (dats m 0 c).arrAt_eq_of_cover 7 (norms m c) (fun t _ => ?_) fun i => ?_
  · rw [flushed7]
    have a (r : Fin 512) (j : Fin 2048) : out0_7 (iblk m c 0 t) (iblk m c 1 t) (iblk m c 2 t) (iblk m c 3 t) (iblk m c 4 t) (iblk m c 5 t)
        (ix2 r j) = norms m c (((cfg0.win 7).blk t).view.emb (ix2 r j)) := by
      rw [out7_apply]
      have e0 : win0_7.index t 0 = t.val := by rw [(index_eq t).2.2.2.2.2.2.2]; rfl
      have e1 : win0_7.index t 1 = 0 := by rw [(index_eq t).2.2.2.2.2.2.2]; rfl
      unfold norms left7
      congr 1
      · refine congrArg (total m c) ?_
        apply Fin.ext; show 512 * t.val + r.val = win0_7.index t 0 * 512 + 1 * r.val; omega
      · apply Fin.ext; show j.val = win0_7.index t 1 * 2048 + 1 * j.val; omega
    funext y
    show out0_7 (iblk m c 0 t) (iblk m c 1 t) (iblk m c 2 t) (iblk m c 3 t) (iblk m c 4 t) (iblk m c 5 t) y
      = norms m c (((cfg0.win 7).blk t).view.emb y)
    rw [eq_ix2 y]
    exact a (y 0) (y 1)
  · have h0 : (i 0).val < 8192 := (i 0).isLt
    have h1 : (i 1).val < 2048 := (i 1).isLt
    have hN : cfg0.N = 16 := N_0
    refine ⟨⟨(i 0).val / 512, by omega⟩, flush0_7 _, ?_⟩
    have e := (index_eq ⟨(i 0).val / 512, by omega⟩).2.2.2.2.2.2.2
    mem_blk [e]
    dsimp only
    omega

/-- The reference runs, its arguments unchanged, every counter at zero. -/
theorem reference_frame : quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- From equal arguments the two programs end with equal results. -/
theorem values : algebraic_Kernel8Ideal_Reference8Ideal := by
  intro m g m' g' _ he
  refine ⟨fun c => sums m c, fun c => norms m c, ?_, ?_⟩
  · exact (θ_run Cert.Kernel8Ideal.defs _ _).mono
      (fun r h c => ⟨(h c).1.trans (sums_eq m c), (h c).2.1.trans (norms_eq m c), (h c).2.2⟩)
      (Cert.Kernel8Ideal.Value.run_blocks (F := Ideal) m g)
  refine (θ_run Cert.Reference8Ideal.defs _ _).mono (fun r h c => ⟨(h c).1.trans ?_, (h c).2.1.trans ?_, (h c).2.2⟩)
    (Cert.Reference8Ideal.Value.run (F := Ideal) m' g')
  · obtain ⟨e0, e1, e2, e3, e4, e5⟩ := he c
    simp only [e0, e1, e2, e3, e4]
    refine funext fun y => ?_
    rw [eq_ix2 y]
    exact sum_apply _ _ _ _ _ (y 0) (y 1)
  · obtain ⟨e0, e1, e2, e3, e4, e5⟩ := he c
    unfold Cert.Reference8Ideal.Value.res_main_v43
    simp only [e0, e1, e2, e3, e4, e5]
    refine funext fun y => ?_
    rw [eq_ix2 y]
    refine (after_apply _ _ (y 0) (y 1)).trans ?_
    exact congrArg (fun h => normed h (arrN m c) (y 1)) (funext fun k => sum_apply _ _ _ _ _ (y 0) k)

end Cert.Lookup

end
-- ==== Proof.Mixer.lean ====
/- The receptances, decays, keys and gates of the RWKV-7 mixer, a token at a time. -/
module

public import proofs.«01_k».proof.Proof.Gen.Reference9Ideal.Run
public import proofs.«01_k».proof.Proof.Squash

@[expose] public section

noncomputable section

namespace Cert.Mixer

open Idealize.ShloMosaic Idealize.ShloMosaic.TcCoe Idealize.SL.Sem Cert.Squash

/-- The sum over the head that a lane is in. -/
def head (x : Fin 512 → EReal) (j : Fin 512) : EReal := ∑ d : Fin 64, x ⟨j.val / 64 * 64 + d.val, by omega⟩

/-- The logarithm of a decay. -/
def decay (t : EReal) : EReal :=
  -Ideal.exp (-(max (-t) 0 + Ideal.log (1 + Ideal.exp (-(max t (-t))))) - Ideal.ofBits .f32 0x3F000000#32)

/-- The small matrices' products: into the decay, the rate and the output gate. -/
def fade {n : ℕ} (b : EReal) (x w : Fin n → EReal) : EReal := decay (b + ∑ p, Ideal.tanh (x p) * w p)
def rate {n : ℕ} (b : EReal) (x w : Fin n → EReal) : EReal := sg (b + ∑ p, x p * w p)
def open' {n : ℕ} (x w : Fin n → EReal) : EReal := ∑ p, sg (x p) * w p

/-- The removal key, of unit length in its head. -/
def unit (k g : Fin 512 → EReal) (j : Fin 512) : EReal :=
  Ideal.div (k j * g j) (max (Ideal.sqrt (head (fun l => (k l * g l) * (k l * g l)) j)) (Ideal.ofBits .f32 0x2B8CBCCC#32))

/-- A column of the projection, mixed with what it was at the token before. -/
def look (P : Fin 8192 → EReal) (u : EReal) (i : Fin 8192) : EReal :=
  P i + ((if i.val < 1 then 0 else P ⟨i.val - 1, by omega⟩) - P i) * u

/-- The key, scaled by the rate. -/
def key (k a g : EReal) : EReal := k * (1 + (a - 1) * g)

/-- The current token's own term. -/
def bonus (r k g v : Fin 512 → EReal) (j : Fin 512) : EReal := head (fun l => r l * k l * g l) j * v j

end Cert.Mixer

namespace Cert.Mixer

open Idealize.ShloMosaic Idealize.ShloMosaic.TcCoe Idealize.SL.Sem Cert.Squash Cert.Reference9Ideal Cert.Reference9Ideal.Gen

/-- The reference's rate. -/
def refRate (Z : FVec Ideal S8192x1984 .f32) (b : FVec Ideal S512 .f32) (w : FVec Ideal S96x512 .f32) : FVec Ideal S8192x512 .f32 :=
  Host.divf (broadcastInDim S8192x512 ![] bcast_S_S8192x512 (constant S_ .f32 0x3F800000#32)) (addf (broadcastInDim S8192x512 ![] bcast_S_S8192x512 (constant S_ .f32 0x3F800000#32)) (Host.exp (Host.negf (addf (broadcastInDim S8192x512 ![0, 1] bcast_S1x512_S8192x512_0_1 (broadcastInDim S1x512 ![1] bcast_S512_S1x512_1 b)) (Host.dotGeneral dot_S8192x96_S96x512_S8192x512_1_0_0_1_n_n none (extractStridedSlice S8192x96 ![0, 1632] Z slices_S8192x1984_S8192x96_0_1632) w)))))

/-- The reference's key. -/
def refKey (Z : FVec Ideal S8192x1984 .f32) (A : FVec Ideal S8192x512 .f32) (g : FVec Ideal S512 .f32) : FVec Ideal S8192x512 .f32 :=
  mulf (extractStridedSlice S8192x512 ![0, 512] Z slices_S8192x1984_S8192x512_0_512) (addf (broadcastInDim S8192x512 ![] bcast_S_S8192x512 (constant S_ .f32 0x3F800000#32)) (mulf (subf A (broadcastInDim S8192x512 ![] bcast_S_S8192x512 (constant S_ .f32 0x3F800000#32))) (broadcastInDim S8192x512 ![0, 1] bcast_S1x512_S8192x512_0_1 (broadcastInDim S1x512 ![1] bcast_S512_S1x512_1 g))))

/-- The reference's removal key. -/
def refUnit (Z : FVec Ideal S8192x1984 .f32) (g : FVec Ideal S512 .f32) : FVec Ideal S8192x512 .f32 :=
  shapeCast _ (Host.divf (shapeCast _ (mulf (extractStridedSlice S8192x512 ![0, 512] Z slices_S8192x1984_S8192x512_0_512) (broadcastInDim S8192x512 ![0, 1] bcast_S1x512_S8192x512_0_1 (broadcastInDim S1x512 ![1] bcast_S512_S1x512_1 g))) shapeCasts_S8192x512_S8192x8x64) (broadcastInDim S8192x8x64 ![0, 1, 2] bcast_S8192x8x1_S8192x8x64_0_1_2 (maximumf (Host.sqrt (broadcastInDim S8192x8x1 ![0, 1] bcast_S8192x8_S8192x8x1_0_1 (Host.reduceAdd (mulf (shapeCast _ (mulf (extractStridedSlice S8192x512 ![0, 512] Z slices_S8192x1984_S8192x512_0_512) (broadcastInDim S8192x512 ![0, 1] bcast_S1x512_S8192x512_0_1 (broadcastInDim S1x512 ![1] bcast_S512_S1x512_1 g))) shapeCasts_S8192x512_S8192x8x64) (shapeCast _ (mulf (extractStridedSlice S8192x512 ![0, 512] Z slices_S8192x1984_S8192x512_0_512) (broadcastInDim S8192x512 ![0, 1] bcast_S1x512_S8192x512_0_1 (broadcastInDim S1x512 ![1] bcast_S512_S1x512_1 g))) shapeCasts_S8192x512_S8192x8x64)) (constant S_ .f32 0x00000000#32) reducesTo_S8192x8x64_S8192x8_d2 h_S_))) (broadcastInDim S8192x8x1 ![] bcast_S_S8192x8x1 (constant S_ .f32 0x2B8CBCCC#32))))) shapeCasts_S8192x8x64_S8192x512

/-- The reference's own term, from its keys. -/
def refBonus (Z : FVec Ideal S8192x1984 .f32) (K : FVec Ideal S8192x512 .f32) (g : FVec Ideal S512 .f32) : FVec Ideal S8192x512 .f32 :=
  shapeCast _ (mulf (broadcastInDim S8192x8x64 ![0, 1, 2] bcast_S8192x8x1_S8192x8x64_0_1_2 (broadcastInDim S8192x8x1 ![0, 1] bcast_S8192x8_S8192x8x1_0_1 (Host.reduceAdd (shapeCast _ (mulf (mulf (extractStridedSlice S8192x512 ![0, 0] Z slices_S8192x1984_S8192x512_0_0) K) (broadcastInDim S8192x512 ![0, 1] bcast_S1x512_S8192x512_0_1 (broadcastInDim S1x512 ![1] bcast_S512_S1x512_1 g))) shapeCasts_S8192x512_S8192x8x64) (constant S_ .f32 0x00000000#32) reducesTo_S8192x8x64_S8192x8_d2 h_S_))) (shapeCast _ (extractStridedSlice S8192x512 ![0, 1024] Z slices_S8192x1984_S8192x512_0_1024) shapeCasts_S8192x512_S8192x8x64)) shapeCasts_S8192x8x64_S8192x512

/-- The reference's decay, from its argument. -/
def refDecay (t : FVec Ideal S8192x512 .f32) : FVec Ideal S8192x512 .f32 :=
  Host.negf (Host.exp (subf (Host.negf (select (cmpf .une (subf (Host.negf t) (broadcastInDim S8192x512 ![] bcast_S_S8192x512 (constant S_ .f32 0x00000000#32))) (subf (Host.negf t) (broadcastInDim S8192x512 ![] bcast_S_S8192x512 (constant S_ .f32 0x00000000#32)))) (addf (Host.negf t) (broadcastInDim S8192x512 ![] bcast_S_S8192x512 (constant S_ .f32 0x00000000#32))) (addf (maximumf (Host.negf t) (broadcastInDim S8192x512 ![] bcast_S_S8192x512 (constant S_ .f32 0x00000000#32))) (Host.log1p (Host.exp (Host.negf (Host.absf (subf (Host.negf t) (broadcastInDim S8192x512 ![] bcast_S_S8192x512 (constant S_ .f32 0x00000000#32)))))))))) (broadcastInDim S8192x512 ![] bcast_S_S8192x512 (constant S_ .f32 0x3F000000#32))))

/-- The argument of the reference's decay. -/
def refFade (Z : FVec Ideal S8192x1984 .f32) (b : FVec Ideal S512 .f32) (w : FVec Ideal S96x512 .f32) : FVec Ideal S8192x512 .f32 :=
  addf (broadcastInDim S8192x512 ![0, 1] bcast_S1x512_S8192x512_0_1 (broadcastInDim S1x512 ![1] bcast_S512_S1x512_1 b)) (Host.dotGeneral dot_S8192x96_S96x512_S8192x512_1_0_0_1_n_n none (Host.tanh (extractStridedSlice S8192x96 ![0, 1536] Z slices_S8192x1984_S8192x96_0_1536)) w)

/-- The reference's gate. -/
def refOpen (Z : FVec Ideal S8192x1984 .f32) (w : FVec Ideal S256x512 .f32) : FVec Ideal S8192x512 .f32 :=
  Host.dotGeneral dot_S8192x256_S256x512_S8192x512_1_0_0_1_n_n none (Host.divf (broadcastInDim S8192x256 ![] bcast_S_S8192x256 (constant S_ .f32 0x3F800000#32)) (addf (broadcastInDim S8192x256 ![] bcast_S_S8192x256 (constant S_ .f32 0x3F800000#32)) (Host.exp (Host.negf (extractStridedSlice S8192x256 ![0, 1728] Z slices_S8192x1984_S8192x256_0_1728))))) w

/-- The reference's projection, before it looks back. -/
def refProj (X : FVec Ideal S8192x2048 .bf16) (W : FVec Ideal S2048x2048 .bf16) : FVec Ideal S8192x1984 .f32 :=
  Host.dotGeneral (φ₁ := .f32) (φ₂ := .f32) dot_S8192x2048_S2048x1984_S8192x1984_1_0_0_1_n_n none (extf .f32 X bitsLt_bf16_f32) (transpose (α := Elt Ideal .f32) S2048x1984 [1, 0] ((concatenate S1984x2048 0 [⟨S1632x2048, ((extractStridedSlice S1632x2048 ![0, 0] (extf .f32 W bitsLt_bf16_f32) slices_S2048x2048_S1632x2048_0_0) : (⟨S1632x2048, .f32⟩ : BufTy).Contents (Elt Ideal))⟩, ⟨S96x2048, ((extractStridedSlice S96x2048 ![1664, 0] (extf .f32 W bitsLt_bf16_f32) slices_S2048x2048_S96x2048_1664_0) : (⟨S96x2048, .f32⟩ : BufTy).Contents (Elt Ideal))⟩, ⟨S256x2048, ((extractStridedSlice S256x2048 ![1792, 0] (extf .f32 W bitsLt_bf16_f32) slices_S2048x2048_S256x2048_1792_0) : (⟨S256x2048, .f32⟩ : BufTy).Contents (Elt Ideal))⟩] concatenates_S1632x2048_S96x2048_S256x2048_S1984x2048_d0 : (⟨S1984x2048, .f32⟩ : BufTy).Contents (Elt Ideal))) transposes_S1984x2048_S2048x1984_1_0)

/-- The reference's projection, mixed with the token before. -/
def refMix (P : FVec Ideal S8192x1984 .f32) (u : FVec Ideal S1984 .f32) : FVec Ideal S8192x1984 .f32 :=
  addf P (mulf (subf (extractStridedSlice S8192x1984 ![0, 0] (pad S8193x1984 ![1, 0] ![0, 0] ![0, 0] P (sitofp .f32 (constantI S_ 32 0#32)) pads_S8192x1984_S8193x1984_100_000 h_S_) slices_S8193x1984_S8192x1984_0_0) P) (broadcastInDim S8192x1984 ![0, 1] bcast_S1x1984_S8192x1984_0_1 (broadcastInDim S1x1984 ![1] bcast_S1984_S1x1984_1 u)))

theorem refRate_apply (Z b w) (i : Fin 8192) (j : Fin 512) :
    refRate Z b w (ix2 i j) = rate (b (ix1 j)) (fun p : Fin 96 => Z (ix2 i ⟨1632 + p.val, by omega⟩)) (fun p => w (ix2 p j)) := by
  unfold rate sg
  pointwise [refRate]

theorem refKey_apply (Z A g) (i : Fin 8192) (j : Fin 512) :
    refKey Z A g (ix2 i j) = key (Z (ix2 i ⟨512 + j.val, by omega⟩)) (A (ix2 i j)) (g (ix1 j)) := by
  unfold key
  pointwise [refKey]

theorem refUnit_apply (Z g) (i : Fin 8192) (j : Fin 512) :
    refUnit Z g (ix2 i j) = unit (fun l => Z (ix2 i ⟨512 + l.val, by omega⟩)) (fun l => g (ix1 l)) j := by
  unfold unit head
  pointwise [refUnit]

theorem refBonus_apply (Z K g) (i : Fin 8192) (j : Fin 512) :
    refBonus Z K g (ix2 i j) = bonus (fun l => Z (ix2 i ⟨l.val, by omega⟩)) (fun l => K (ix2 i l)) (fun l => g (ix1 l))
      (fun l => Z (ix2 i ⟨1024 + l.val, by omega⟩)) j := by
  unfold bonus head
  pointwise [refBonus]

theorem refDecay_apply (t : FVec Ideal S8192x512 .f32) (i : Fin 8192) (j : Fin 512) :
    refDecay t (ix2 i j) = decay (t (ix2 i j)) := by
  unfold decay
  pointwise [refDecay]
  rw [if_neg (fun h => h rfl)]
  show -Ideal.exp (-(max (-t (ix2 i j)) 0 + Ideal.log (1 + Ideal.exp (-max (-t (ix2 i j)) (- -t (ix2 i j))))) - _) = _
  rw [neg_neg, max_comm (t (ix2 i j))]

theorem refFade_apply (Z b w) (i : Fin 8192) (j : Fin 512) :
    refFade Z b w (ix2 i j) = b (ix1 j) + ∑ p : Fin 96, Ideal.tanh (Z (ix2 i ⟨1536 + p.val, by omega⟩)) * w (ix2 p j) := by
  pointwise [refFade]

theorem refOpen_apply (Z w) (i : Fin 8192) (j : Fin 512) :
    refOpen Z w (ix2 i j) = open' (fun p : Fin 256 => Z (ix2 i ⟨1728 + p.val, by omega⟩)) (fun p => w (ix2 p j)) := by
  unfold open' sg
  pointwise [refOpen]

/-- Where a column of the projection lies among the rows of the packed weight. -/
def place (c : Fin 1984) : Fin 2048 :=
  ⟨if c.val < 1632 then c.val else if c.val < 1728 then c.val + 32 else c.val + 64, by split_ifs <;> omega⟩

theorem refProj_apply (X W) (i : Fin 8192) (c : Fin 1984) :
    refProj X W (ix2 i c) = ∑ k : Fin 2048, X (ix2 i k) * W (ix2 (place c) k) := by
  unfold place
  pointwise [refProj]
  refine Finset.sum_congr rfl fun k _ => congrArg (X (ix2 i k) * ·) ?_
  have e : ∀ a b : Fin 2048, a.val = b.val → W (ix2 a k) = W (ix2 b k) := fun a b h => by rw [Fin.ext h]
  by_cases h1 : c.val < 1632
  · rw [dif_pos h1]; refine e _ _ ?_; dsimp only; rw [if_pos h1]
  rw [dif_neg h1]
  by_cases h2 : c.val - 1632 < 96
  · rw [dif_pos h2]; refine e _ _ ?_; dsimp only; rw [if_neg h1, if_pos (by omega)]; omega
  · rw [dif_neg h2]; refine e _ _ ?_; dsimp only; rw [if_neg h1, if_neg (by omega)]; omega

theorem refMix_apply (P u) (i : Fin 8192) (c : Fin 1984) :
    refMix P u (ix2 i c) = look (fun i => P (ix2 i c)) (u (ix1 c)) i := by
  unfold look
  pointwise [refMix]
  have z : FloatOps.sitofp (F := Ideal) FTy.f32 0#32 = 0 := by show (((0#32).toInt : ℝ) : EReal) = 0; simp
  rw [z]
  congr 3
  split_ifs with h1 h2 h2 <;> first | omega | rfl

/-- The reference's projection of its arguments. -/
def refZ (m : (l : Loc nD τ sig) → Buf (Elt Ideal) l) (c : Dev nD) : FVec Ideal S8192x1984 .f32 :=
  refMix (refProj (m ((c.tc : Thread nD τ).loc main_arg0)) (m ((c.tc : Thread nD τ).loc main_arg1))) (m ((c.tc : Thread nD τ).loc main_arg2))

open Cert.Reference9Ideal.Value

variable (m : (l : Loc nD τ sig) → Buf (Elt Ideal) l) (c : Dev nD)

theorem fade_eq : res_out1 m c = refDecay (refFade (refZ m c) (m ((c.tc : Thread nD τ).loc main_arg3)) (m ((c.tc : Thread nD τ).loc main_arg4))) := rfl
theorem key_eq : res_out2 m c = refKey (refZ m c) (refRate (refZ m c) (m ((c.tc : Thread nD τ).loc main_arg5)) (m ((c.tc : Thread nD τ).loc main_arg6)))
    (m ((c.tc : Thread nD τ).loc main_arg9)) := rfl
theorem unit_eq : res_out4 m c = refUnit (refZ m c) (m ((c.tc : Thread nD τ).loc main_arg8)) := rfl
theorem turn_eq : res_out5 m c = mulf (refUnit (refZ m c) (m ((c.tc : Thread nD τ).loc main_arg8)))
    (refRate (refZ m c) (m ((c.tc : Thread nD τ).loc main_arg5)) (m ((c.tc : Thread nD τ).loc main_arg6))) := rfl
theorem bonus_eq : res_out7 m c = refBonus (refZ m c) (refKey (refZ m c)
    (refRate (refZ m c) (m ((c.tc : Thread nD τ).loc main_arg5)) (m ((c.tc : Thread nD τ).loc main_arg6))) (m ((c.tc : Thread nD τ).loc main_arg9)))
    (m ((c.tc : Thread nD τ).loc main_arg10)) := rfl

end Cert.Mixer

end
-- ==== Proof.Prep.lean ====
/- The kernel that prepares the RWKV-7 mixer's operands. -/
module

public import proofs.«01_k».proof.Proof.Gen.Kernel9Ideal.Value
public import proofs.«01_k».proof.Proof.Mixer
public import proofs.«01_k».proof.Proof.Stored
public import proofs.«01_k».proof.Defs
public import Idealize.ShloMosaic.Lib.Claim
public import Idealize.ShloMosaic.Lib.Quiescent

@[expose] public section

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

/-- A real number, among the extended ones. -/
def IsReal (x : EReal) : Prop := ∃ y : ℝ, x = (y : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.sub_self {x : EReal} : IsReal x → x - x = 0 := by
  rintro ⟨a, rfl⟩; rw [← EReal.coe_sub, _root_.sub_self]; rfl
theorem isReal_zero : IsReal 0 := ⟨0, rfl⟩
theorem isReal_one : IsReal 1 := ⟨1, rfl⟩
theorem isReal_sum {n : ℕ} (f : Fin n → EReal) (h : ∀ k, IsReal (f k)) : IsReal (∑ k : Fin n, f k) := by
  choose g hg using h
  refine ⟨(∑ k : Fin n, g k : ℝ), ?_⟩
  rw [show f = fun k => (g k : EReal) from funext hg]
  exact (map_sum (⟨⟨fun x : ℝ => (x : EReal), rfl⟩, fun a b => EReal.coe_add a b⟩ : ℝ →+ EReal) g Finset.univ).symm
theorem isReal_sg (x : EReal) : IsReal (sg x) := by
  rw [show sg x = Ideal.logistic x from rfl]
  induction x using EReal.rec with
  | bot => exact ⟨0, Ideal.logistic_bot⟩
  | top => exact ⟨1, Ideal.logistic_top⟩
  | coe r => exact ⟨_, Ideal.logistic_coe r⟩
theorem isReal_key {k a g : EReal} (hk : IsReal k) (ha : IsReal a) (hg : IsReal g) : IsReal (key k a g) :=
  hk.mul (isReal_one.add ((ha.sub isReal_one).mul hg))

/-- One where two lanes are of one head, else zero: as the kernel makes it. -/
def same (l j : Fin 512) : EReal :=
  FloatOps.sitofp (F := Ideal) FTy.f32 (BitVec.setWidth 32 (IntOp.cmpi CmpIPredicate.eq
    (IntOp.shrui ArithUnit.vector (BitVec.ofNat 32 l.val) 6#32) (IntOp.shrui ArithUnit.vector (BitVec.ofNat 32 j.val) 6#32)))

theorem lane_head : ∀ l : Fin 512, IntOp.shrui ArithUnit.vector (BitVec.ofNat 32 l.val) 6#32 = BitVec.ofNat 32 (l.val / 64) := by
  decide +kernel
theorem heads_eq : ∀ a b : Fin 8, (BitVec.setWidth 32 (IntOp.cmpi CmpIPredicate.eq (BitVec.ofNat 32 a.val) (BitVec.ofNat 32 b.val)))
    = if a = b then 1#32 else 0#32 := by
  decide +kernel

theorem same_eq (l j : Fin 512) : same l j = if l.val / 64 = j.val / 64 then 1 else 0 := by
  unfold same
  rw [lane_head, lane_head]
  have h := heads_eq ⟨l.val / 64, by omega⟩ ⟨j.val / 64, by omega⟩
  dsimp only at h
  rw [h]
  by_cases e : l.val / 64 = j.val / 64
  · rw [if_pos (Fin.ext e), if_pos e]; show (((1#32).toInt : ℝ) : EReal) = 1; norm_num
  · rw [if_neg (fun h => e (congrArg Fin.val h)), if_neg e]; show (((0#32).toInt : ℝ) : EReal) = 0; norm_num

/-- The two products by the heads' mask are the sum over the head: what the rounding left is nothing. -/
theorem head_sum (f : Fin 512 → EReal) (hf : ∀ l, IsReal (f l)) (j : Fin 512) :
    (∑ l : Fin 512, f l * same l j) + (∑ l : Fin 512, (f l - f l) * same l j) = head f j := by
  simp only [fun l => (hf l).sub_self, zero_mul, Finset.sum_const_zero, add_zero, same_eq, mul_ite, mul_one, mul_zero, ite_self]
  rw [← Finset.sum_filter]
  unfold head
  symm
  refine Finset.sum_nbij' (M := EReal) (fun d : Fin 64 => (⟨j.val / 64 * 64 + d.val, by omega⟩ : Fin 512)) (fun l => (⟨l.val % 64, by omega⟩ : Fin 64))
    ?_ ?_ ?_ ?_ ?_
  · intro d _; simp only [Finset.mem_filter, Finset.mem_univ, true_and]; omega
  · intro l _; exact Finset.mem_univ _
  · intro d _; apply Fin.ext; simp only; omega
  · intro l hl; apply Fin.ext; simp only [Finset.mem_filter, Finset.mem_univ, true_and] at hl ⊢; omega
  · intro d _; rfl

/-! The upper half of a block, from its columns. -/

theorem upper_unit (k : FVec Ideal S256x512 .f32) (g : Vec Ideal S1x512 .f32) (r : Fin 256) (j : Fin 512)
    (hk : ∀ l, IsReal (k (ix2 r l))) (hg : ∀ l, IsReal (g (ix2 0 l))) :
    k0_pay21 k g (ix2 r j) = unit (fun l => k (ix2 r l)) (fun l => g (ix2 0 l)) j := by
  unfold unit
  rw [← head_sum _ (fun l => ((hk l).mul (hg l)).mul ((hk l).mul (hg l)))]
  pointwise [k0_pay21]
  rfl

theorem upper_fade (w0 : Vec Ideal S1x512 .f32) (x : FVec Ideal S256x128 .f32) (w : Vec Ideal S128x512 .bf16) (r : Fin 256) (j : Fin 512) :
    k0_pay26 (k0_pay17 (k0_pay15 w0) (tanh x) w) (ix2 r j) = fade (w0 (ix2 0 j)) (fun p => x (ix2 r p)) (fun p => w (ix2 p j)) := by
  unfold fade decay
  pointwise [k0_pay26, k0_pay17, k0_pay15]
  simp only [zero_sub]
  rfl

theorem upper_rate (b : Vec Ideal S1x512 .f32) (x : FVec Ideal S256x128 .f32) (w : Vec Ideal S128x512 .bf16) (r : Fin 256) (j : Fin 512) :
    k0_pay18 x b w (ix2 r j) = rate (b (ix2 0 j)) (fun p => x (ix2 r p)) (fun p => w (ix2 p j)) := by
  unfold rate sg
  simp only [← zero_sub]
  pointwise [k0_pay18]

theorem upper_open (x : FVec Ideal S256x256 .f32) (w : Vec Ideal S256x512 .bf16) (r : Fin 256) (j : Fin 512) :
    k0_pay20 (k0_pay19 x) (Scalar.ofBits .f32 0x3F800000#32) w (ix2 r j) = open' (fun p => x (ix2 r p)) (fun p => w (ix2 p j)) := by
  unfold open' sg
  simp only [← zero_sub]
  pointwise [k0_pay20, k0_pay19]

theorem upper_key (k a : FVec Ideal S256x512 .f32) (g : Vec Ideal S1x512 .f32) (r : Fin 256) (j : Fin 512) :
    k0_pay22 k a g (ix2 r j) = key (k (ix2 r j)) (a (ix2 r j)) (g (ix2 0 j)) := by
  unfold key
  pointwise [k0_pay22]

theorem upper_bonus (q k a v : FVec Ideal S256x512 .f32) (ka rk : Vec Ideal S1x512 .f32) (r : Fin 256) (j : Fin 512)
    (hq : ∀ l, IsReal (q (ix2 r l))) (hk : ∀ l, IsReal (k (ix2 r l))) (ha : ∀ l, IsReal (a (ix2 r l)))
    (hka : ∀ l, IsReal (ka (ix2 0 l))) (hrk : ∀ l, IsReal (rk (ix2 0 l))) :
    k0_pay25 v (k0_pay23 q k a ka) (k0_pay24 rk) (ix2 r j)
      = bonus (fun l => q (ix2 r l)) (fun l => key (k (ix2 r l)) (a (ix2 r l)) (ka (ix2 0 l))) (fun l => rk (ix2 0 l)) (fun l => v (ix2 r l)) j := by
  unfold bonus
  rw [← head_sum _ (fun l => ((hq l).mul (isReal_key (hk l) (ha l) (hka l))).mul (hrk l))]
  simp only [← upper_key]
  unfold k0_pay23
  generalize k0_pay22 k a ka = K
  pointwise [k0_pay25, k0_pay24]
  rfl

/-! The lower half. -/

theorem lower_unit (k : FVec Ideal S256x512 .f32) (g : Vec Ideal S1x512 .f32) (r : Fin 256) (j : Fin 512)
    (hk : ∀ l, IsReal (k (ix2 r l))) (hg : ∀ l, IsReal (g (ix2 0 l))) :
    k0_pay45 (k0_pay42 k g) (k0_pay43 k g) k0_pay44 (iota .tc S512x512 32 [1] iota_S512x512_d1_w32) 6#32 (ix2 r j)
      = unit (fun l => k (ix2 r l)) (fun l => g (ix2 0 l)) j := by
  unfold unit
  rw [← head_sum _ (fun l => ((hk l).mul (hg l)).mul ((hk l).mul (hg l)))]
  pointwise [k0_pay45, k0_pay42, k0_pay43, k0_pay44]
  rfl

theorem lower_rate (b : Vec Ideal S1x512 .f32) (x : FVec Ideal S256x128 .f32) (w : Vec Ideal S128x512 .bf16) (r : Fin 256) (j : Fin 512) :
    k0_pay40 x b w (ix2 r j) = rate (b (ix2 0 j)) (fun p => x (ix2 r p)) (fun p => w (ix2 p j)) := by
  unfold rate sg
  simp only [← zero_sub]
  pointwise [k0_pay40]

theorem lower_open (x : FVec Ideal S256x256 .f32) (w : Vec Ideal S256x512 .bf16) (r : Fin 256) (j : Fin 512) :
    k0_pay41 x w (ix2 r j) = open' (fun p => x (ix2 r p)) (fun p => w (ix2 p j)) := by
  unfold open' sg
  simp only [← zero_sub]
  pointwise [k0_pay41]

theorem lower_key (k a : FVec Ideal S256x512 .f32) (g : Vec Ideal S1x512 .f32) (r : Fin 256) (j : Fin 512) :
    k0_pay46 k a g (ix2 r j) = key (k (ix2 r j)) (a (ix2 r j)) (g (ix2 0 j)) := by
  unfold key
  pointwise [k0_pay46]

theorem lower_fade (x S : FVec Ideal S256x2048 .f32) (u : Vec Ideal S1x2048 .f32) (w0 : Vec Ideal S1x512 .f32)
    (w : Vec Ideal S128x512 .bf16) (r : Fin 256) (j : Fin 512) :
    k0_pay2 (k0_pay39 (k0_pay37 x S u w0 w) (k0_pay38 x S u w0 w)) (ix2 r j)
      = fade (w0 (ix2 0 j)) (fun p : Fin 128 => k0_pay30 x S u (ix2 r (⟨1536 + p.val, by omega⟩ : Fin 2048))) (fun p => w (ix2 p j)) := by
  unfold fade decay k0_pay37 k0_pay38 k0_pay36
  generalize k0_pay30 x S u = Z
  pointwise [k0_pay2, k0_pay39]
  simp only [zero_sub]
  rfl

theorem lower_bonus (q k a v : FVec Ideal S256x512 .f32) (ka rk : Vec Ideal S1x512 .f32) (r : Fin 256) (j : Fin 512)
    (hq : ∀ l, IsReal (q (ix2 r l))) (hk : ∀ l, IsReal (k (ix2 r l))) (ha : ∀ l, IsReal (a (ix2 r l)))
    (hka : ∀ l, IsReal (ka (ix2 0 l))) (hrk : ∀ l, IsReal (rk (ix2 0 l))) :
    k0_pay1 v (k0_pay50 q k a ka rk) (k0_pay51 q k a ka rk) (ix2 r j)
      = bonus (fun l => q (ix2 r l)) (fun l => key (k (ix2 r l)) (a (ix2 r l)) (ka (ix2 0 l))) (fun l => rk (ix2 0 l)) (fun l => v (ix2 r l)) j := by
  unfold bonus
  rw [← head_sum _ (fun l => ((hq l).mul (isReal_key (hk l) (ha l) (hka l))).mul (hrk l))]
  simp only [← lower_key]
  unfold k0_pay50 k0_pay51 k0_pay49 k0_pay47
  generalize k0_pay46 k a ka = K
  pointwise [k0_pay1, k0_pay48]
  rfl

end Cert.Prep

end
-- ==== Proof.Halves.lean ====
/- What a point of the kernel stores, and what it carries to the next. -/
module

public import proofs.«01_k».proof.Proof.Prep
public import Idealize.ShloMosaic.Lib.WritesUnit

@[expose] public section

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

/-- A half's rows, one row later, with a row kept above them: read out of what the two stores cover, -/
def lateCov (v : View sig .tc .vmem S264x2048 .f32) (top : Vec Ideal S8x2048 .f32) (body : Vec Ideal S256x2048 .f32) : Vec Ideal S256x2048 .f32 :=
  v.readCov (Val := Elt Ideal) [⟨Rect.unit ![8, 0] ![256, 2048] inb_S264x2048_S256x2048_8_0, body⟩,
    ⟨Rect.unit ![0, 0] ![8, 2048] inb_S264x2048_S8x2048_0_0, top⟩]
    (Rect.unit (s := S264x2048) ![7, 0] ![256, 2048] inb_S264x2048_S256x2048_7_0).toLoadRect
/-- or out of what the buffer held and one store covers. -/
def lateOver (v : View sig .tc .vmem S264x2048 .f32) (f : v.ty.Contents (Elt Ideal)) (body : Vec Ideal S256x2048 .f32) : Vec Ideal S256x2048 .f32 :=
  View.ld (View.read (Elt Ideal) v (v.writes (Elt Ideal) f [⟨Rect.unit ![8, 0] ![256, 2048] inb_S264x2048_S256x2048_8_0, body⟩]))
    (Rect.unit (s := S264x2048) ![7, 0] ![256, 2048] inb_S264x2048_S256x2048_7_0)

/-- A point's input blocks, and the rows before its upper half's. -/
structure Blk where
  x0 : Vec Ideal S512x2048 .bf16
  x1 : Vec Ideal S2048x2048 .bf16
  x2 : Vec Ideal S1x2048 .f32
  x3 : Vec Ideal S1x512 .f32
  x4 : Vec Ideal S1x512 .f32
  x5 : Vec Ideal S1x512 .f32
  x6 : Vec Ideal S1x512 .f32
  x7 : Vec Ideal S1x512 .f32
  x8 : Vec Ideal S128x512 .bf16
  x9 : Vec Ideal S128x512 .bf16
  x10 : Vec Ideal S256x512 .bf16
  s : Vec Ideal S256x2048 .f32

namespace Blk

variable (b : Blk)

/-- The two halves of the input block. -/
def xu : Vec Ideal S256x2048 .bf16 := View.ld b.x0 (Rect.unit ![0, 0] ![256, 2048] inb_S512x2048_S256x2048_0_0)
def xl : Vec Ideal S256x2048 .bf16 := View.ld b.x0 (Rect.unit ![256, 0] ![256, 2048] inb_S512x2048_S256x2048_256_0)
/-- The lower half's projection, and the rows before it. -/
def pl : FVec Ideal S256x2048 .f32 := k0_pay6 b.xl b.x1
def sl : Vec Ideal S256x2048 .f32 := lateCov (View.whole cc0_scratch1) (k0_pay8 b.xu b.x1) (k0_pay28 b.pl)

/-- The halves' columns. -/
def qu := k0_pay10 b.xu b.x1 b.s b.x2
def ku := k0_pay11 b.xu b.x1 b.s b.x2
def vu := k0_pay12 b.xu b.x1 b.s b.x2
def au := k0_pay18 (k0_pay13 b.xu b.x1 b.s b.x2) b.x4 b.x9
def ql := k0_pay31 b.pl b.sl b.x2
def kl := k0_pay32 b.pl b.sl b.x2
def vl := k0_pay33 b.pl b.sl b.x2
def al := k0_pay40 (k0_pay34 b.pl b.sl b.x2) b.x4 b.x9
def nu := k0_pay21 b.ku b.x5
def nl := k0_pay45 (k0_pay42 b.kl b.x5) (k0_pay43 b.kl b.x5) k0_pay44 (iota .tc S512x512 32 [1] iota_S512x512_d1_w32) 6#32

end Blk

/-- An output block, from its two halves. -/
def both (l u : Vec Ideal S256x512 .f32) : Vec Ideal S512x512 .f32 :=
  View.canon (Val := Elt Ideal) [(⟨Rect.unit ![256, 0] ![256, 512] inb_S512x512_S256x512_256_0, l⟩ : View.Piece (Elt Ideal) S512x512 .f32),
    ⟨Rect.unit ![0, 0] ![256, 512] inb_S512x512_S256x512_0_0, u⟩]

namespace Blk

variable (b : Blk)

/-- What a point leaves: its output blocks, and the rows it carries. -/
def outs (Z : List (View.Piece (Elt Ideal) S264x2048 .f32)) :
    Vec Ideal S512x512 .f32 × Vec Ideal S512x512 .f32 × Vec Ideal S512x512 .f32 × Vec Ideal S512x512 .f32 × Vec Ideal S512x512 .f32
      × Vec Ideal S512x512 .f32 × Vec Ideal S512x512 .f32 × Vec Ideal S512x512 .f32 × Vec Ideal S264x2048 .f32 :=
  (both b.ql b.qu,
    both (k0_pay2 (k0_pay39 (k0_pay37 b.pl b.sl b.x2 b.x3 b.x8) (k0_pay38 b.pl b.sl b.x2 b.x3 b.x8)))
      (k0_pay26 (k0_pay17 (k0_pay15 b.x3) (k0_pay16 b.xu b.x1 b.s b.x2) b.x8)),
    both (k0_pay46 b.kl b.al b.x6) (k0_pay22 b.ku b.au b.x6),
    both b.vl b.vu,
    both b.nl b.nu,
    both (k0_pay3 b.al b.nl) (k0_pay27 b.au b.nu),
    both (k0_pay41 (k0_pay35 b.pl b.sl b.x2) b.x10)
      (k0_pay20 (k0_pay19 (k0_pay14 b.xu b.x1 b.s b.x2)) (Scalar.ofBits .f32 0x3F800000#32) b.x10),
    both (k0_pay1 b.vl (k0_pay50 b.ql b.kl b.al b.x6 b.x7) (k0_pay51 b.ql b.kl b.al b.x6 b.x7))
      (k0_pay25 b.vu (k0_pay23 b.qu b.ku b.au b.x6) (k0_pay24 b.x7)),
    View.canon (Val := Elt Ideal) (⟨Rect.unit ![0, 0] ![8, 2048] inb_S264x2048_S8x2048_0_0, k0_pay29 b.pl⟩
      :: ⟨Rect.unit ![8, 0] ![256, 2048] inb_S264x2048_S256x2048_8_0, k0_pay7 b.xu b.x1⟩ :: Z))

end Blk

variable (m : (l : Loc nD τ sig) → Buf (Elt Ideal) l)

/-- A point's blocks, over the rows before. -/
def blk (c : Dev nD) (t : Fin cfg0.N) (s : Vec Ideal S256x2048 .f32) : Blk :=
  ⟨iblk m c 0 t, iblk m c 1 t, iblk m c 2 t, iblk m c 3 t, iblk m c 4 t, iblk m c 5 t, iblk m c 6 t, iblk m c 7 t, iblk m c 8 t, iblk m c 9 t,
    iblk m c 10 t, s⟩

/-- The upper half's rows before, at the first point: zeros, then the half's own. -/
def startS (x : Vec Ideal S512x2048 .bf16) (w : Vec Ideal S2048x2048 .bf16) : Vec Ideal S256x2048 .f32 :=
  lateCov (View.whole cc0_scratch0) (k0_pay4 (F := Ideal)) (k0_pay7 (View.ld x (Rect.unit ![0, 0] ![256, 2048] inb_S512x2048_S256x2048_0_0)) w)
/-- At a later point: what the point before left, then the half's own. -/
def nextS (acc : Vec Ideal S264x2048 .f32) (x : Vec Ideal S512x2048 .bf16) (w : Vec Ideal S2048x2048 .bf16) : Vec Ideal S256x2048 .f32 :=
  lateOver (View.whole cc0_scratch0) ((Memref.isWhole_whole cc0_scratch0).unread acc)
    (k0_pay7 (View.ld x (Rect.unit ![0, 0] ![256, 2048] inb_S512x2048_S256x2048_0_0)) w)

theorem start (c : Dev nD) (t : Fin cfg0.N) (acc) (h0 : t.val % 16 = 0) :
    stAt0 m c t.val t.isLt acc = (blk m c t (startS (iblk m c 0 t) (iblk m c 1 t))).outs
      [⟨Rect.unit ![0, 0] ![8, 2048] inb_S264x2048_S8x2048_0_0, k0_pay4 (F := Ideal)⟩] := by
  rw [stAt0_A m c t acc h0]
  unfold Blk.outs
  refine Prod.ext ?_ (Prod.ext ?_ (Prod.ext ?_ (Prod.ext ?_ (Prod.ext ?_ (Prod.ext ?_ (Prod.ext ?_ (Prod.ext ?_ ?_)))))))
  all_goals dsimp only
  all_goals first
    | unfold out0_A_11; rw [View.read_writes_eq_canon _ _ _ (fun y => cover0_A_11 (y := y) ..)]
    | unfold out0_A_12; rw [View.read_writes_eq_canon _ _ _ (fun y => cover0_A_12 (y := y) ..)]
    | unfold out0_A_13; rw [View.read_writes_eq_canon _ _ _ (fun y => cover0_A_13 (y := y) ..)]
    | unfold out0_A_14; rw [View.read_writes_eq_canon _ _ _ (fun y => cover0_A_14 (y := y) ..)]
    | unfold out0_A_15; rw [View.read_writes_eq_canon _ _ _ (fun y => cover0_A_15 (y := y) ..)]
    | unfold out0_A_16; rw [View.read_writes_eq_canon _ _ _ (fun y => cover0_A_16 (y := y) ..)]
    | unfold out0_A_17; rw [View.read_writes_eq_canon _ _ _ (fun y => cover0_A_17 (y := y) ..)]
    | unfold out0_A_18; rw [View.read_writes_eq_canon _ _ _ (fun y => cover0_A_18 (y := y) ..)]
    | unfold sout0_A_0; rw [View.read_writes_eq_canon _ _ _ (fun y => scover0_A_0 (y := y) ..)]
  all_goals
    unfold kernelRun0_A
    dsimp only
    sl_unfold_words
    simp only [View.readAt_eq_ld, Memref.IsWhole.read_unread]
    simp (disch := decide) only [View.ld_unit_lit]
    dsimp only [both, Blk.nu, Blk.nl, Blk.au, Blk.al, Blk.qu, Blk.ql, Blk.ku, Blk.kl, Blk.vu, Blk.vl, Blk.sl, Blk.pl, Blk.xu, Blk.xl, blk, startS, lateCov, lateOver]

theorem next (c : Dev nD) (t : Fin cfg0.N) (acc) (h0 : ¬t.val % 16 = 0) :
    stAt0 m c t.val t.isLt acc = (blk m c t (nextS acc.2.2.2.2.2.2.2.2 (iblk m c 0 t) (iblk m c 1 t))).outs [] := by
  rw [stAt0_B m c t acc h0]
  unfold Blk.outs
  refine Prod.ext ?_ (Prod.ext ?_ (Prod.ext ?_ (Prod.ext ?_ (Prod.ext ?_ (Prod.ext ?_ (Prod.ext ?_ (Prod.ext ?_ ?_)))))))
  all_goals dsimp only
  all_goals first
    | unfold out0_B_11; rw [View.read_writes_eq_canon _ _ _ (fun y => cover0_B_11 (y := y) ..)]
    | unfold out0_B_12; rw [View.read_writes_eq_canon _ _ _ (fun y => cover0_B_12 (y := y) ..)]
    | unfold out0_B_13; rw [View.read_writes_eq_canon _ _ _ (fun y => cover0_B_13 (y := y) ..)]
    | unfold out0_B_14; rw [View.read_writes_eq_canon _ _ _ (fun y => cover0_B_14 (y := y) ..)]
    | unfold out0_B_15; rw [View.read_writes_eq_canon _ _ _ (fun y => cover0_B_15 (y := y) ..)]
    | unfold out0_B_16; rw [View.read_writes_eq_canon _ _ _ (fun y => cover0_B_16 (y := y) ..)]
    | unfold out0_B_17; rw [View.read_writes_eq_canon _ _ _ (fun y => cover0_B_17 (y := y) ..)]
    | unfold out0_B_18; rw [View.read_writes_eq_canon _ _ _ (fun y => cover0_B_18 (y := y) ..)]
    | unfold sout0_B_0; rw [View.read_writes_eq_canon _ _ _ (fun y => scover0_B_0 (y := y) ..)]
  all_goals
    unfold kernelRun0_B
    dsimp only
    sl_unfold_words
    simp only [View.readAt_eq_ld, Memref.IsWhole.read_unread]
    simp (disch := decide) only [View.ld_unit_lit]
    dsimp only [both, Blk.nu, Blk.nl, Blk.au, Blk.al, Blk.qu, Blk.ql, Blk.ku, Blk.kl, Blk.vu, Blk.vl, Blk.sl, Blk.pl, Blk.xu, Blk.xl, blk, nextS, lateCov, lateOver]

theorem read_cov (v : View sig .tc .vmem S264x2048 .f32) (L : List (View.Piece (Elt Ideal) S264x2048 .f32)) (r : Rect S264x2048) (x : r.shape.Idx) :
    v.readCov L r.toLoadRect x = v.read (Elt Ideal) (v.writes (Elt Ideal) v.junk L) (r.emb x) := rfl

/-- The row before each row of a half: the half's own, but for the first, which is kept above it. -/
theorem back (v : View sig .tc .vmem S264x2048 .f32) (f : v.ty.Contents (Elt Ideal)) (body : Vec Ideal S256x2048 .f32)
    (L : List (View.Piece (Elt Ideal) S264x2048 .f32)) (r : Fin 256) (c : Fin 2048) :
    v.read (Elt Ideal) (v.writes (Elt Ideal) f (⟨Rect.unit ![8, 0] ![256, 2048] inb_S264x2048_S256x2048_8_0, body⟩ :: L))
        (ix2 (⟨7 + r.val, by omega⟩ : Fin 264) c)
      = if r.val < 1 then v.read (Elt Ideal) (v.writes (Elt Ideal) f L) (ix2 (7 : Fin 264) c)
        else body (ix2 (⟨r.val - 1, by omega⟩ : Fin 256) c) := by
  by_cases h : r.val < 1
  · rw [if_pos h]
    have e : (⟨7 + r.val, by omega⟩ : Fin 264) = 7 := Fin.ext (show 7 + r.val = 7 by omega)
    rw [e]
    exact View.read_writes_cons_rows_of_not_mem (W := 256) v f _ body L (ix2 (7 : Fin 264) c) rfl rfl (Or.inl (by show 7 < 8; omega))
  · rw [if_neg h]
    exact View.read_writes_cons_rows_of_mem v f _ body L _ (ix2 (⟨r.val - 1, by omega⟩ : Fin 256) c) rfl
      (show 7 + r.val = 8 + (r.val - 1) by omega) rfl

/-- The row kept above. -/
theorem above (v : View sig .tc .vmem S264x2048 .f32) (f : v.ty.Contents (Elt Ideal)) (top : Vec Ideal S8x2048 .f32)
    (L : List (View.Piece (Elt Ideal) S264x2048 .f32)) (c : Fin 2048) :
    v.read (Elt Ideal) (v.writes (Elt Ideal) f (⟨Rect.unit ![0, 0] ![8, 2048] inb_S264x2048_S8x2048_0_0, top⟩ :: L)) (ix2 (7 : Fin 264) c)
      = top (ix2 (7 : Fin 8) c) :=
  View.read_writes_cons_rows_of_mem v f _ top L _ (ix2 (7 : Fin 8) c) rfl rfl rfl

theorem row_idx (r : Fin 256) (c : Fin 2048) : (Rect.unit (s := S264x2048) ![7, 0] ![256, 2048] inb_S264x2048_S256x2048_7_0).emb (ix2 r c)
    = ix2 (⟨7 + r.val, by omega⟩ : Fin 264) c := by
  funext a; apply Fin.ext
  match a with
  | ⟨0, _⟩ => show 7 + 1 * r.val = 7 + r.val; omega
  | ⟨1, _⟩ => show 0 + 1 * c.val = c.val; omega

theorem lateCov_apply (v : View sig .tc .vmem S264x2048 .f32) (top : Vec Ideal S8x2048 .f32) (body : Vec Ideal S256x2048 .f32) (r : Fin 256)
    (c : Fin 2048) : lateCov v top body (ix2 r c)
      = if r.val < 1 then top (ix2 (7 : Fin 8) c) else body (ix2 (⟨r.val - 1, by omega⟩ : Fin 256) c) := by
  unfold lateCov
  refine (read_cov v _ _ _).trans ?_
  rw [row_idx]
  refine (back v _ body _ r c).trans ?_
  exact congrArg (fun z => if r.val < 1 then z else _) (above v _ top _ c)
theorem lateOver_apply (v : View sig .tc .vmem S264x2048 .f32) (f : v.ty.Contents (Elt Ideal)) (body : Vec Ideal S256x2048 .f32) (r : Fin 256)
    (c : Fin 2048) : lateOver v f body (ix2 r c)
      = if r.val < 1 then v.read (Elt Ideal) f (ix2 (7 : Fin 264) c) else body (ix2 (⟨r.val - 1, by omega⟩ : Fin 256) c) := by
  show View.read (Elt Ideal) v _ ((Rect.unit (s := S264x2048) ![7, 0] ![256, 2048] inb_S264x2048_S256x2048_7_0).emb (ix2 r c)) = _
  rw [row_idx]
  exact back v f body [] r c

theorem startS_apply (x w) (r : Fin 256) (c : Fin 2048) : startS x w (ix2 r c)
    = if r.val < 1 then 0 else k0_pay7 (View.ld x (Rect.unit ![0, 0] ![256, 2048] inb_S512x2048_S256x2048_0_0)) w (ix2 (⟨r.val - 1, by omega⟩ : Fin 256) c) := by
  refine (lateCov_apply _ _ _ r c).trans ?_
  refine congrArg (fun z => if r.val < 1 then z else _) ?_
  pointwise [k0_pay4]

theorem nextS_apply (acc x w) (r : Fin 256) (c : Fin 2048) : nextS acc x w (ix2 r c)
    = if r.val < 1 then acc (ix2 (7 : Fin 264) c)
      else k0_pay7 (View.ld x (Rect.unit ![0, 0] ![256, 2048] inb_S512x2048_S256x2048_0_0)) w (ix2 (⟨r.val - 1, by omega⟩ : Fin 256) c) := by
  refine (lateOver_apply _ _ _ r c).trans ?_
  exact congrArg (fun z : Vec Ideal S264x2048 .f32 => if r.val < 1 then z (ix2 (7 : Fin 264) c) else _)
    ((Memref.isWhole_whole cc0_scratch0).read_unread acc)

theorem Blk.sl_apply (b : Blk) (r : Fin 256) (c : Fin 2048) : b.sl (ix2 r c)
    = if r.val < 1 then k0_pay8 b.xu b.x1 (ix2 (7 : Fin 8) c) else k0_pay28 b.pl (ix2 (⟨r.val - 1, by omega⟩ : Fin 256) c) :=
  lateCov_apply _ _ _ r c

theorem top_row (T : Vec Ideal S8x2048 .f32) (L : List (View.Piece (Elt Ideal) S264x2048 .f32)) (c : Fin 2048) :
    View.canon (Val := Elt Ideal) (⟨Rect.unit ![0, 0] ![8, 2048] inb_S264x2048_S8x2048_0_0, T⟩ :: L) (ix2 (7 : Fin 264) c) = T (ix2 (7 : Fin 8) c) := by
  have e : (Rect.unit (s := S264x2048) ![0, 0] ![8, 2048] inb_S264x2048_S8x2048_0_0).emb (ix2 (7 : Fin 8) c) = ix2 (7 : Fin 264) c := by
    funext a; apply Fin.ext
    match a with
    | ⟨0, _⟩ => rfl
    | ⟨1, _⟩ => show 0 + 1 * c.val = c.val; omega
  have h := View.canon_cons_emb (Val := Elt Ideal) (Rect.unit (s := S264x2048) ![0, 0] ![8, 2048] inb_S264x2048_S8x2048_0_0) T L (ix2 (7 : Fin 8) c)
  rw [e] at h
  exact h

/-- The row carried to the next point. -/
theorem carried (b : Blk) (Z) (c : Fin 2048) : (b.outs Z).2.2.2.2.2.2.2.2 (ix2 (7 : Fin 264) c) = k0_pay29 b.pl (ix2 (7 : Fin 8) c) := by
  unfold Blk.outs
  dsimp only
  exact top_row (k0_pay29 b.pl) _ c

theorem both_upper (l u : Vec Ideal S256x512 .f32) (r : Fin 256) (j : Fin 512) : both l u (ix2 (⟨r.val, by omega⟩ : Fin 512) j) = u (ix2 r j) := by
  have e : (Rect.unit (s := S512x512) ![0, 0] ![256, 512] inb_S512x512_S256x512_0_0).emb (ix2 r j) = ix2 (⟨r.val, by omega⟩ : Fin 512) j := by
    funext a; apply Fin.ext
    match a with
    | ⟨0, _⟩ => show 0 + 1 * r.val = r.val; omega
    | ⟨1, _⟩ => show 0 + 1 * j.val = j.val; omega
  unfold both
  rw [View.canon_cons_of_not_mem, ← e]
  · exact View.canon_cons_emb _ _ _ _
  · rw [Rect.mem_set_unit]
    intro h
    have h0 : 256 ≤ r.val := (h 0).1
    omega
theorem both_lower (l u : Vec Ideal S256x512 .f32) (r : Fin 256) (j : Fin 512) :
    both l u (ix2 (⟨256 + r.val, by omega⟩ : Fin 512) j) = l (ix2 r j) := by
  have e : (Rect.unit (s := S512x512) ![256, 0] ![256, 512] inb_S512x512_S256x512_256_0).emb (ix2 r j) = ix2 (⟨256 + r.val, by omega⟩ : Fin 512) j := by
    funext a; apply Fin.ext
    match a with
    | ⟨0, _⟩ => show 256 + 1 * r.val = 256 + r.val; omega
    | ⟨1, _⟩ => show 0 + 1 * j.val = j.val; omega
  unfold both
  rw [← e]
  exact View.canon_cons_emb _ _ _ _

end Cert.Prep

end
-- ==== Proof.Inputs.lean ====
/- What the operands' kernel reads: its blocks, in the arrays the program is given. -/
module

public import proofs.«01_k».proof.Proof.Halves
public import Idealize.ShloMosaic.Lib.KernelVsHost

@[expose] public section

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

theorem point_lt (t : Fin cfg0.N) : t.val < 16 := lt_of_lt_of_eq t.isLt (show cfg0.N = 16 from N_0)

/-- Where a point's row lies. -/
def row (t : Fin cfg0.N) (r : Fin 512) : Fin 8192 := ⟨512 * t.val + r.val, by have := point_lt t; omega⟩

variable (m : (l : Loc nD τ sig) → Buf (Elt Ideal) l)

/-- The arrays the program is given. -/
def arrX (c : Dev nD) : Vec Ideal S8192x2048 .bf16 := m ((c.tc : Thread nD τ).loc main_arg0)
def arrW (c : Dev nD) : Vec Ideal S2048x2048 .bf16 := m ((c.tc : Thread nD τ).loc main_arg1)
def arrU (c : Dev nD) : Vec Ideal S1984 .f32 := m ((c.tc : Thread nD τ).loc main_arg2)
def arrD0 (c : Dev nD) : Vec Ideal S512 .f32 := m ((c.tc : Thread nD τ).loc main_arg3)
def arrD2 (c : Dev nD) : Vec Ideal S96x512 .f32 := m ((c.tc : Thread nD τ).loc main_arg4)
def arrA0 (c : Dev nD) : Vec Ideal S512 .f32 := m ((c.tc : Thread nD τ).loc main_arg5)
def arrA2 (c : Dev nD) : Vec Ideal S96x512 .f32 := m ((c.tc : Thread nD τ).loc main_arg6)
def arrG2 (c : Dev nD) : Vec Ideal S256x512 .f32 := m ((c.tc : Thread nD τ).loc main_arg7)
def arrN (c : Dev nD) : Vec Ideal S512 .f32 := m ((c.tc : Thread nD τ).loc main_arg8)
def arrK (c : Dev nD) : Vec Ideal S512 .f32 := m ((c.tc : Thread nD τ).loc main_arg9)
def arrR (c : Dev nD) : Vec Ideal S512 .f32 := m ((c.tc : Thread nD τ).loc main_arg10)

theorem x0_apply (c : Dev nD) (t : Fin cfg0.N) (r : Fin 512) (k : Fin 2048) :
    (iblk m c 0 t : Vec Ideal S512x2048 .bf16) (ix2 r k) = arrX m c (ix2 (row t r) k) := by
  have idx := (index_eq t).1
  unfold arrX row
  rw [← V_main_arg0 m c]
  blk_ext [iblk, idx]

theorem x1_apply (c : Dev nD) (t : Fin cfg0.N) (ch k : Fin 2048) :
    (iblk m c 1 t : Vec Ideal S2048x2048 .bf16) (ix2 ch k) = arrW m c (ix2 ch k) := by
  have idx := (index_eq t).2.1
  unfold arrW
  rw [← V_main_arg1 m c]
  blk_ext [iblk, idx]

/-- A vector, as a row. -/
def asRow (x : Vec Ideal S512 .f32) : Vec Ideal S1x512 .f32 := shapeCast S1x512 x shapeCasts_S512_S1x512
theorem asRow_apply (x : Vec Ideal S512 .f32) (j : Fin 512) : asRow x (ix2 0 j) = x (ix1 j) := by
  pointwise [asRow]

/-- A small matrix under zeros, and the mixing weights among zeros. -/
def under (x : Vec Ideal S96x512 .f32) : Vec Ideal S128x512 .bf16 :=
  truncf .bf16 (pad S128x512 ![0, 0] ![32, 0] ![0, 0] x (sitofp (F := Ideal) .f32 (constantI S_ 32 0#32)) pads_S96x512_S128x512_0320_000 h_S_) bitsLt_bf16_f32
def spread (u : Vec Ideal S1984 .f32) : Vec Ideal S1x2048 .f32 :=
  shapeCast S1x2048 (concatenate S2048 0 [⟨S1536, extractStridedSlice S1536 ![0] u slices_S1984_S1536_0⟩,
    ⟨S128, pad S128 ![0] ![32] ![0] (extractStridedSlice S96 ![1536] u slices_S1984_S96_1536) (sitofp (F := Ideal) .f32 (constantI S_ 32 0#32)) pads_S96_S128_0320 h_S_⟩,
    ⟨S128, pad S128 ![0] ![32] ![0] (extractStridedSlice S96 ![1632] u slices_S1984_S96_1632) (sitofp (F := Ideal) .f32 (constantI S_ 32 0#32)) pads_S96_S128_0320 h_S_⟩,
    ⟨S256, extractStridedSlice S256 ![1728] u slices_S1984_S256_1728⟩] concatenates_S1536_S128_S128_S256_S2048_d0) shapeCasts_S2048_S1x2048

theorem under_apply (x : Vec Ideal S96x512 .f32) (p : Fin 128) (j : Fin 512) :
    under x (ix2 p j) = if h : p.val < 96 then x (ix2 (⟨p.val, h⟩ : Fin 96) j) else 0 := by
  have z : FloatOps.sitofp (F := Ideal) FTy.f32 0#32 = 0 := by show (((0#32).toInt : ℝ) : EReal) = 0; simp
  pointwise [under]
  rw [z]

/-- Four vectors, one after the other. -/
theorem joined (a : Vec Ideal S1536 .f32) (b d : Vec Ideal S128 .f32) (e : Vec Ideal S256 .f32) (i : Fin 2048) :
    shapeCast S1x2048 (concatenate S2048 0 [⟨S1536, a⟩, ⟨S128, b⟩, ⟨S128, d⟩, ⟨S256, e⟩] concatenates_S1536_S128_S128_S256_S2048_d0)
        shapeCasts_S2048_S1x2048 (ix2 0 i)
      = if h : i.val < 1536 then a (ix1 ⟨i.val, h⟩) else if h : i.val < 1664 then b (ix1 ⟨i.val - 1536, by omega⟩)
        else if h : i.val < 1792 then d (ix1 ⟨i.val - 1664, by omega⟩) else e (ix1 ⟨i.val - 1792, by omega⟩) := by
  pointwise []
  by_cases h1 : i.val < 1536
  · rw [dif_pos h1, dif_pos h1]
  rw [dif_neg h1, dif_neg h1]
  by_cases h2 : i.val < 1664
  · rw [dif_pos (show i.val - 1536 < 128 by omega), dif_pos h2]
  rw [dif_neg (show ¬i.val - 1536 < 128 by omega), dif_neg h2]
  by_cases h3 : i.val < 1792
  · rw [dif_pos (show i.val - 1536 - 128 < 128 by omega), dif_pos h3]
    exact congrArg d (congrArg ix1 (Fin.ext (show i.val - 1536 - 128 = i.val - 1664 by omega)))
  · rw [dif_neg (show ¬i.val - 1536 - 128 < 128 by omega), dif_neg h3]
    exact congrArg e (congrArg ix1 (Fin.ext (show i.val - 1536 - 128 - 128 = i.val - 1792 by omega)))

theorem padded (x : Vec Ideal S96 .f32) (p : Fin 96) : pad S128 ![0] ![32] ![0] x (sitofp (F := Ideal) .f32 (constantI S_ 32 0#32)) pads_S96_S128_0320 h_S_
    (ix1 (⟨p.val, by omega⟩ : Fin 128)) = x (ix1 p) :=
  pad_apply_of_inside _ _ _ _ _ _ _ _ _ fun a => match a with | ⟨0, _⟩ => (by show p.val = 0 + p.val * (0 + 1); omega)

theorem spread_apply (u : Vec Ideal S1984 .f32) (c : Fin 1984) : spread u (ix2 0 (place c)) = u (ix1 c) := by
  have hc := c.isLt
  refine (joined _ _ _ _ _).trans ?_
  have e : ∀ a b : Fin 1984, a.val = b.val → u (ix1 a) = u (ix1 b) := fun a b h => by rw [Fin.ext h]
  have s1 : ∀ q : Fin 1536, extractStridedSlice S1536 ![0] u slices_S1984_S1536_0 (ix1 q) = u (ix1 ⟨q.val, by omega⟩) := fun q => by pointwise []
  have s2 : ∀ q : Fin 96, extractStridedSlice S96 ![1536] u slices_S1984_S96_1536 (ix1 q) = u (ix1 ⟨1536 + q.val, by omega⟩) := fun q => by pointwise []
  have s3 : ∀ q : Fin 96, extractStridedSlice S96 ![1632] u slices_S1984_S96_1632 (ix1 q) = u (ix1 ⟨1632 + q.val, by omega⟩) := fun q => by pointwise []
  have s4 : ∀ q : Fin 256, extractStridedSlice S256 ![1728] u slices_S1984_S256_1728 (ix1 q) = u (ix1 ⟨1728 + q.val, by omega⟩) := fun q => by pointwise []
  by_cases h1 : c.val < 1536
  · have p : (place c).val = c.val := by unfold place; dsimp only; rw [if_pos (by omega)]
    rw [dif_pos (by omega), s1]
    exact e _ _ p
  by_cases h2 : c.val < 1632
  · have p : (place c).val = c.val := by unfold place; dsimp only; rw [if_pos (by omega)]
    rw [dif_neg (by omega), dif_pos (by omega)]
    refine (padded _ ⟨(place c).val - 1536, by omega⟩).trans ((s2 _).trans (e _ _ ?_))
    dsimp only; omega
  by_cases h3 : c.val < 1728
  · have p : (place c).val = c.val + 32 := by unfold place; dsimp only; rw [if_neg (by omega), if_pos (by omega)]
    rw [dif_neg (by omega), dif_neg (by omega), dif_pos (by omega)]
    refine (padded _ ⟨(place c).val - 1664, by omega⟩).trans ((s3 _).trans (e _ _ ?_))
    dsimp only; omega
  · have p : (place c).val = c.val + 64 := by unfold place; dsimp only; rw [if_neg (by omega), if_neg (by omega)]
    rw [dif_neg (by omega), dif_neg (by omega), dif_neg (by omega), s4]
    exact e _ _ (by dsimp only; omega)

/-- The host's rows and matrices. -/
theorem host_eq (c : Dev nD) : (V m c main_v7 : Vec Ideal S1x2048 .f32) = spread (arrU m c)
    ∧ (V m c main_v8 : Vec Ideal S1x512 .f32) = asRow (arrD0 m c) ∧ (V m c main_v9 : Vec Ideal S1x512 .f32) = asRow (arrA0 m c)
    ∧ (V m c main_v10 : Vec Ideal S1x512 .f32) = asRow (arrN m c) ∧ (V m c main_v11 : Vec Ideal S1x512 .f32) = asRow (arrK m c)
    ∧ (V m c main_v12 : Vec Ideal S1x512 .f32) = asRow (arrR m c) ∧ (V m c main_v14 : Vec Ideal S128x512 .bf16) = under (arrD2 m c)
    ∧ (V m c main_v16 : Vec Ideal S128x512 .bf16) = under (arrA2 m c) ∧ (V m c main_v17 : Vec Ideal S256x512 .bf16) = arrG2 m c := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  refine ⟨?_, ?_, ?_, ?_, ?_, ?_, ?_, ?_, ?_⟩
  all_goals
    after_results
    rfl

theorem x2_eq (c : Dev nD) (t : Fin cfg0.N) (j : Fin 2048) : (iblk m c 2 t : Vec Ideal S1x2048 .f32) (ix2 0 j) = spread (arrU m c) (ix2 0 j) := by
  have idx := (index_eq t).2.2.1
  rw [← (host_eq m c).1]
  blk_ext [iblk, idx]
theorem x3_apply (c : Dev nD) (t : Fin cfg0.N) (j : Fin 512) : (iblk m c 3 t : Vec Ideal S1x512 .f32) (ix2 0 j) = arrD0 m c (ix1 j) := by
  have idx := (index_eq t).2.2.2.1
  rw [← asRow_apply (arrD0 m c) j, ← (host_eq m c).2.1]
  blk_ext [iblk, idx]
theorem x4_apply (c : Dev nD) (t : Fin cfg0.N) (j : Fin 512) : (iblk m c 4 t : Vec Ideal S1x512 .f32) (ix2 0 j) = arrA0 m c (ix1 j) := by
  have idx := (index_eq t).2.2.2.2.1
  rw [← asRow_apply (arrA0 m c) j, ← (host_eq m c).2.2.1]
  blk_ext [iblk, idx]
theorem x5_apply (c : Dev nD) (t : Fin cfg0.N) (j : Fin 512) : (iblk m c 5 t : Vec Ideal S1x512 .f32) (ix2 0 j) = arrN m c (ix1 j) := by
  have idx := (index_eq t).2.2.2.2.2.1
  rw [← asRow_apply (arrN m c) j, ← (host_eq m c).2.2.2.1]
  blk_ext [iblk, idx]
theorem x6_apply (c : Dev nD) (t : Fin cfg0.N) (j : Fin 512) : (iblk m c 6 t : Vec Ideal S1x512 .f32) (ix2 0 j) = arrK m c (ix1 j) := by
  have idx := (index_eq t).2.2.2.2.2.2.1
  rw [← asRow_apply (arrK m c) j, ← (host_eq m c).2.2.2.2.1]
  blk_ext [iblk, idx]
theorem x7_apply (c : Dev nD) (t : Fin cfg0.N) (j : Fin 512) : (iblk m c 7 t : Vec Ideal S1x512 .f32) (ix2 0 j) = arrR m c (ix1 j) := by
  have idx := (index_eq t).2.2.2.2.2.2.2.1
  rw [← asRow_apply (arrR m c) j, ← (host_eq m c).2.2.2.2.2.1]
  blk_ext [iblk, idx]
theorem x8_apply (c : Dev nD) (t : Fin cfg0.N) (p : Fin 128) (j : Fin 512) :
    (iblk m c 8 t : Vec Ideal S128x512 .bf16) (ix2 p j) = under (arrD2 m c) (ix2 p j) := by
  have idx := (index_eq t).2.2.2.2.2.2.2.2.1
  rw [← (host_eq m c).2.2.2.2.2.2.1]
  blk_ext [iblk, idx]
theorem x9_apply (c : Dev nD) (t : Fin cfg0.N) (p : Fin 128) (j : Fin 512) :
    (iblk m c 9 t : Vec Ideal S128x512 .bf16) (ix2 p j) = under (arrA2 m c) (ix2 p j) := by
  have idx := (index_eq t).2.2.2.2.2.2.2.2.2.1
  rw [← (host_eq m c).2.2.2.2.2.2.2.1]
  blk_ext [iblk, idx]
theorem x10_apply (c : Dev nD) (t : Fin cfg0.N) (p : Fin 256) (j : Fin 512) :
    (iblk m c 10 t : Vec Ideal S256x512 .bf16) (ix2 p j) = arrG2 m c (ix2 p j) := by
  have idx := (index_eq t).2.2.2.2.2.2.2.2.2.2
  refine Eq.trans ?_ (congrFun (host_eq m c).2.2.2.2.2.2.2.2 (ix2 p j))
  blk_ext [iblk, idx]

end Cert.Prep

end
-- ==== Proof.Rows.lean ====
/- What a point stores, an entry at a time, from the mixed row its entry lies in. -/
module

public import proofs.«01_k».proof.Proof.Inputs

@[expose] public section

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

/-- Some columns of a row, from the `o`th. -/
def from' {n : ℕ} (o : ℕ) (h : o + n ≤ 2048) (z : Fin 2048 → EReal) (p : Fin n) : EReal := z ⟨o + p.val, by omega⟩

theorem pay5_apply (x : Vec Ideal S256x2048 .bf16) (w : Vec Ideal S2048x2048 .bf16) (r : Fin 256) (c : Fin 2048) :
    k0_pay5 x w (ix2 r c) = ∑ k : Fin 2048, x (ix2 r k) * w (ix2 c k) := by
  pointwise [k0_pay5]
theorem pay6_apply (x : Vec Ideal S256x2048 .bf16) (w : Vec Ideal S2048x2048 .bf16) (r : Fin 256) (c : Fin 2048) :
    k0_pay6 x w (ix2 r c) = ∑ k : Fin 2048, x (ix2 r k) * w (ix2 c k) := by
  pointwise [k0_pay6]
theorem pay7_apply (x : Vec Ideal S256x2048 .bf16) (w : Vec Ideal S2048x2048 .bf16) (r : Fin 256) (c : Fin 2048) :
    k0_pay7 x w (ix2 r c) = k0_pay5 x w (ix2 r c) := by
  unfold k0_pay7
  generalize k0_pay5 x w = P
  pointwise []
theorem pay8_apply (x : Vec Ideal S256x2048 .bf16) (w : Vec Ideal S2048x2048 .bf16) (c : Fin 2048) :
    k0_pay8 x w (ix2 (7 : Fin 8) c) = k0_pay5 x w (ix2 (255 : Fin 256) c) := by
  unfold k0_pay8
  generalize k0_pay5 x w = P
  pointwise []
theorem pay28_apply (P : FVec Ideal S256x2048 .f32) (r : Fin 256) (c : Fin 2048) : k0_pay28 P (ix2 r c) = P (ix2 r c) := by
  pointwise [k0_pay28]
theorem pay29_apply (P : FVec Ideal S256x2048 .f32) (c : Fin 2048) : k0_pay29 P (ix2 (7 : Fin 8) c) = P (ix2 (255 : Fin 256) c) := by
  pointwise [k0_pay29]
theorem pay9_apply (x : Vec Ideal S256x2048 .bf16) (w : Vec Ideal S2048x2048 .bf16) (s : Vec Ideal S256x2048 .f32) (u : Vec Ideal S1x2048 .f32)
    (r : Fin 256) (c : Fin 2048) :
    k0_pay9 x w s u (ix2 r c) = k0_pay5 x w (ix2 r c) + (s (ix2 r c) - k0_pay5 x w (ix2 r c)) * u (ix2 0 c) := by
  unfold k0_pay9
  generalize k0_pay5 x w = P
  pointwise []
theorem pay30_apply (P : FVec Ideal S256x2048 .f32) (s : Vec Ideal S256x2048 .f32) (u : Vec Ideal S1x2048 .f32)
    (r : Fin 256) (c : Fin 2048) :
    k0_pay30 P s u (ix2 r c) = P (ix2 r c) + (s (ix2 r c) - P (ix2 r c)) * u (ix2 0 c) := by
  pointwise [k0_pay30]

namespace Blk

variable (b : Blk)

/-- The projection of a row of the block, and the mixed rows of its halves. -/
def pr (r : Fin 512) (c : Fin 2048) : EReal := ∑ k : Fin 2048, b.x0 (ix2 r k) * b.x1 (ix2 c k)
def zu (r : Fin 256) (c : Fin 2048) : EReal := k0_pay9 b.xu b.x1 b.s b.x2 (ix2 r c)
def zl (r : Fin 256) (c : Fin 2048) : EReal := k0_pay30 b.pl b.sl b.x2 (ix2 r c)

theorem xu_apply (r : Fin 256) (k : Fin 2048) : b.xu (ix2 r k) = b.x0 (ix2 (⟨r.val, by omega⟩ : Fin 512) k) := by
  have e : (Rect.unit (s := S512x2048) ![0, 0] ![256, 2048] inb_S512x2048_S256x2048_0_0).emb (ix2 r k) = ix2 (⟨r.val, by omega⟩ : Fin 512) k := by
    funext a; apply Fin.ext
    match a with
    | ⟨0, _⟩ => show 0 + 1 * r.val = r.val; omega
    | ⟨1, _⟩ => show 0 + 1 * k.val = k.val; omega
  exact congrArg b.x0 e
theorem xl_apply (r : Fin 256) (k : Fin 2048) : b.xl (ix2 r k) = b.x0 (ix2 (⟨256 + r.val, by omega⟩ : Fin 512) k) := by
  have e : (Rect.unit (s := S512x2048) ![256, 0] ![256, 2048] inb_S512x2048_S256x2048_256_0).emb (ix2 r k) = ix2 (⟨256 + r.val, by omega⟩ : Fin 512) k := by
    funext a; apply Fin.ext
    match a with
    | ⟨0, _⟩ => show 256 + 1 * r.val = 256 + r.val; omega
    | ⟨1, _⟩ => show 0 + 1 * k.val = k.val; omega
  exact congrArg b.x0 e

theorem pu_apply (r : Fin 256) (c : Fin 2048) : k0_pay5 b.xu b.x1 (ix2 r c) = b.pr ⟨r.val, by omega⟩ c := by
  rw [pay5_apply]
  simp only [xu_apply]
  rfl
theorem pl_apply (r : Fin 256) (c : Fin 2048) : b.pl (ix2 r c) = b.pr ⟨256 + r.val, by omega⟩ c := by
  refine (pay6_apply _ _ r c).trans ?_
  simp only [xl_apply]
  rfl

theorem zu_apply (r : Fin 256) (c : Fin 2048) :
    b.zu r c = b.pr ⟨r.val, by omega⟩ c + (b.s (ix2 r c) - b.pr ⟨r.val, by omega⟩ c) * b.x2 (ix2 0 c) := by
  unfold zu
  rw [pay9_apply, pu_apply]
theorem zl_apply (r : Fin 256) (c : Fin 2048) :
    b.zl r c = b.pr ⟨256 + r.val, by omega⟩ c + (b.pr ⟨255 + r.val, by omega⟩ c - b.pr ⟨256 + r.val, by omega⟩ c) * b.x2 (ix2 0 c) := by
  unfold zl
  have e : b.sl (ix2 r c) = b.pr ⟨255 + r.val, by omega⟩ c := by
    rw [sl_apply]
    split_ifs with h
    · rw [pay8_apply, pu_apply]
      exact congrArg (b.pr · c) (Fin.ext (show 255 = 255 + r.val by omega))
    · rw [pay28_apply, pl_apply]
      exact congrArg (b.pr · c) (Fin.ext (show 256 + (r.val - 1) = 255 + r.val by omega))
  rw [pay30_apply, pl_apply, e]

/-- The upper half's columns, and the lower half's. -/
theorem qu_apply (r : Fin 256) (j : Fin 512) : b.qu (ix2 r j) = from' 0 (by omega) (b.zu r) j := by
  unfold qu k0_pay10 from' zu
  generalize k0_pay9 b.xu b.x1 b.s b.x2 = Z
  pointwise []
theorem ku_apply (r : Fin 256) (j : Fin 512) : b.ku (ix2 r j) = from' 512 (by omega) (b.zu r) j := by
  unfold ku k0_pay11 from' zu
  generalize k0_pay9 b.xu b.x1 b.s b.x2 = Z
  pointwise []
theorem vu_apply (r : Fin 256) (j : Fin 512) : b.vu (ix2 r j) = from' 1024 (by omega) (b.zu r) j := by
  unfold vu k0_pay12 from' zu
  generalize k0_pay9 b.xu b.x1 b.s b.x2 = Z
  pointwise []
theorem au_apply (r : Fin 256) (j : Fin 512) :
    b.au (ix2 r j) = rate (b.x4 (ix2 0 j)) (from' 1664 (by omega) (b.zu r)) (fun p : Fin 128 => b.x9 (ix2 p j)) := by
  refine (upper_rate _ _ _ r j).trans ?_
  refine congrArg (fun f => rate _ f _) (funext fun p => ?_)
  unfold k0_pay13 from' zu
  generalize k0_pay9 b.xu b.x1 b.s b.x2 = Z
  pointwise []
theorem ql_apply (r : Fin 256) (j : Fin 512) : b.ql (ix2 r j) = from' 0 (by omega) (b.zl r) j := by
  unfold ql k0_pay31 from' zl
  generalize k0_pay30 b.pl b.sl b.x2 = Z
  pointwise []
theorem kl_apply (r : Fin 256) (j : Fin 512) : b.kl (ix2 r j) = from' 512 (by omega) (b.zl r) j := by
  unfold kl k0_pay32 from' zl
  generalize k0_pay30 b.pl b.sl b.x2 = Z
  pointwise []
theorem vl_apply (r : Fin 256) (j : Fin 512) : b.vl (ix2 r j) = from' 1024 (by omega) (b.zl r) j := by
  unfold vl k0_pay33 from' zl
  generalize k0_pay30 b.pl b.sl b.x2 = Z
  pointwise []
theorem al_apply (r : Fin 256) (j : Fin 512) :
    b.al (ix2 r j) = rate (b.x4 (ix2 0 j)) (from' 1664 (by omega) (b.zl r)) (fun p : Fin 128 => b.x9 (ix2 p j)) := by
  refine (lower_rate _ _ _ r j).trans ?_
  refine congrArg (fun f => rate _ f _) (funext fun p => ?_)
  unfold k0_pay34 from' zl
  generalize k0_pay30 b.pl b.sl b.x2 = Z
  pointwise []

/-- A row of the block is `z`, mixed: whichever half it lies in. -/
structure Row (r : Fin 512) (z : Fin 2048 → EReal) : Prop where
  up (h : r.val < 256) : b.zu ⟨r.val, h⟩ = z
  low (h : ¬r.val < 256) : b.zl ⟨r.val - 256, by omega⟩ = z

end Blk

/-- An entry of an output block, from whichever half it lies in. -/
theorem both_of {l u : Vec Ideal S256x512 .f32} {r : Fin 512} {j : Fin 512} {x : EReal}
    (hu : ∀ h : r.val < 256, u (ix2 (⟨r.val, h⟩ : Fin 256) j) = x)
    (hl : ∀ h : ¬r.val < 256, l (ix2 (⟨r.val - 256, by omega⟩ : Fin 256) j) = x) : both l u (ix2 r j) = x := by
  by_cases h : r.val < 256
  · exact (both_upper l u ⟨r.val, h⟩ j).trans (hu h)
  · have e : r = (⟨256 + (r.val - 256), by omega⟩ : Fin 512) := Fin.ext (by dsimp only; omega)
    rw [e]
    exact (both_lower l u ⟨r.val - 256, by omega⟩ j).trans (hl h)

section

variable {b : Blk} {r : Fin 512} {z : Fin 2048 → EReal} (hz : b.Row r z) (j : Fin 512)
include hz

theorem out_r : both b.ql b.qu (ix2 r j) = from' 0 (by omega) z j :=
  both_of (fun h => (b.qu_apply _ j).trans (by rw [hz.up h])) (fun h => (b.ql_apply _ j).trans (by rw [hz.low h]))
theorem out_v : both b.vl b.vu (ix2 r j) = from' 1024 (by omega) z j :=
  both_of (fun h => (b.vu_apply _ j).trans (by rw [hz.up h])) (fun h => (b.vl_apply _ j).trans (by rw [hz.low h]))
theorem out_d : both (k0_pay2 (k0_pay39 (k0_pay37 b.pl b.sl b.x2 b.x3 b.x8) (k0_pay38 b.pl b.sl b.x2 b.x3 b.x8)))
      (k0_pay26 (k0_pay17 (k0_pay15 b.x3) (k0_pay16 b.xu b.x1 b.s b.x2) b.x8)) (ix2 r j)
    = fade (b.x3 (ix2 0 j)) (from' 1536 (by omega) z) (fun p : Fin 128 => b.x8 (ix2 p j)) := by
  refine both_of (fun h => ?_) (fun h => ?_)
  · rw [← hz.up h]
    unfold from' Blk.zu k0_pay16
    generalize k0_pay9 b.xu b.x1 b.s b.x2 = Z
    refine (upper_fade _ _ _ _ j).trans ?_
    refine congrArg (fun f => fade _ f _) (funext fun p => ?_)
    pointwise []
  · rw [← hz.low h]
    unfold from' Blk.zl
    exact lower_fade _ _ _ _ _ _ j
theorem out_k : both (k0_pay46 b.kl b.al b.x6) (k0_pay22 b.ku b.au b.x6) (ix2 r j)
    = key (from' 512 (by omega) z j) (rate (b.x4 (ix2 0 j)) (from' 1664 (by omega) z) (fun p : Fin 128 => b.x9 (ix2 p j))) (b.x6 (ix2 0 j)) :=
  both_of (fun h => (upper_key _ _ _ _ j).trans (by rw [b.ku_apply, b.au_apply, hz.up h]))
    (fun h => (lower_key _ _ _ _ j).trans (by rw [b.kl_apply, b.al_apply, hz.low h]))
theorem out_g : both (k0_pay41 (k0_pay35 b.pl b.sl b.x2) b.x10)
      (k0_pay20 (k0_pay19 (k0_pay14 b.xu b.x1 b.s b.x2)) (Scalar.ofBits .f32 0x3F800000#32) b.x10) (ix2 r j)
    = open' (from' 1792 (by omega) z) (fun p : Fin 256 => b.x10 (ix2 p j)) := by
  refine both_of (fun h => ?_) (fun h => ?_)
  · refine (upper_open _ _ _ j).trans ?_
    refine congrArg (fun f => open' f _) (funext fun p => ?_)
    rw [← hz.up h]
    unfold k0_pay14 from' Blk.zu
    generalize k0_pay9 b.xu b.x1 b.s b.x2 = Z
    pointwise []
  · refine (lower_open _ _ _ j).trans ?_
    refine congrArg (fun f => open' f _) (funext fun p => ?_)
    rw [← hz.low h]
    unfold k0_pay35 from' Blk.zl
    generalize k0_pay30 b.pl b.sl b.x2 = Z
    pointwise []

/-- The removal keys need real keys. -/
theorem out_n (hk : ∀ l : Fin 512, IsReal (from' 512 (by omega) z l)) (hg : ∀ l, IsReal (b.x5 (ix2 0 l))) :
    both b.nl b.nu (ix2 r j) = unit (from' 512 (by omega) z) (fun l => b.x5 (ix2 0 l)) j := by
  refine both_of (fun h => ?_) (fun h => ?_)
  · have e : (fun l => b.ku (ix2 (⟨r.val, h⟩ : Fin 256) l)) = from' 512 (by omega) z := funext fun l => (b.ku_apply _ l).trans (by rw [hz.up h])
    refine (upper_unit _ _ _ j (fun l => ?_) hg).trans (by rw [e])
    rw [congrFun e l]; exact hk l
  · have e : (fun l => b.kl (ix2 (⟨r.val - 256, by omega⟩ : Fin 256) l)) = from' 512 (by omega) z :=
      funext fun l => (b.kl_apply _ l).trans (by rw [hz.low h])
    refine (lower_unit _ _ _ j (fun l => ?_) hg).trans (by rw [e])
    rw [congrFun e l]; exact hk l

theorem out_b (hk : ∀ l : Fin 512, IsReal (from' 512 (by omega) z l)) (hg : ∀ l, IsReal (b.x5 (ix2 0 l))) :
    both (k0_pay3 b.al b.nl) (k0_pay27 b.au b.nu) (ix2 r j)
      = unit (from' 512 (by omega) z) (fun l => b.x5 (ix2 0 l)) j
        * rate (b.x4 (ix2 0 j)) (from' 1664 (by omega) z) (fun p : Fin 128 => b.x9 (ix2 p j)) := by
  have n := out_n hz j hk hg
  refine both_of (fun h => ?_) (fun h => ?_)
  · have e : b.nu (ix2 (⟨r.val, h⟩ : Fin 256) j) = _ := (both_upper b.nl b.nu ⟨r.val, h⟩ j).symm.trans n
    refine Eq.trans (b := b.nu (ix2 (⟨r.val, h⟩ : Fin 256) j) * b.au (ix2 (⟨r.val, h⟩ : Fin 256) j)) rfl ?_
    rw [e, b.au_apply, hz.up h]
  · have e' : (⟨256 + (r.val - 256), by omega⟩ : Fin 512) = r := Fin.ext (by dsimp only; omega)
    have e : b.nl (ix2 (⟨r.val - 256, by omega⟩ : Fin 256) j) = unit (from' 512 (by omega) z) (fun l => b.x5 (ix2 0 l)) j :=
      (both_lower b.nl b.nu ⟨r.val - 256, by omega⟩ j).symm.trans ((congrArg (fun a => both b.nl b.nu (ix2 a j)) e').trans n)
    refine Eq.trans (b := b.nl (ix2 (⟨r.val - 256, by omega⟩ : Fin 256) j) * b.al (ix2 (⟨r.val - 256, by omega⟩ : Fin 256) j)) rfl ?_
    rw [e, b.al_apply, hz.low h]

/-- The current token's own term needs real receptances and keys. -/
theorem out_o (hq : ∀ l : Fin 512, IsReal (from' 0 (by omega) z l)) (hk : ∀ l : Fin 512, IsReal (from' 512 (by omega) z l))
    (hka : ∀ l, IsReal (b.x6 (ix2 0 l))) (hrk : ∀ l, IsReal (b.x7 (ix2 0 l))) :
    both (k0_pay1 b.vl (k0_pay50 b.ql b.kl b.al b.x6 b.x7) (k0_pay51 b.ql b.kl b.al b.x6 b.x7))
        (k0_pay25 b.vu (k0_pay23 b.qu b.ku b.au b.x6) (k0_pay24 b.x7)) (ix2 r j)
      = bonus (from' 0 (by omega) z) (fun l => key (from' 512 (by omega) z l)
          (rate (b.x4 (ix2 0 l)) (from' 1664 (by omega) z) (fun p : Fin 128 => b.x9 (ix2 p l))) (b.x6 (ix2 0 l)))
        (fun l => b.x7 (ix2 0 l)) (from' 1024 (by omega) z) j := by
  refine both_of (fun h => ?_) (fun h => ?_)
  · refine (upper_bonus _ _ _ _ _ _ _ j (fun l => ?_) (fun l => ?_) (fun l => ?_) hka hrk).trans ?_
    · rw [b.qu_apply, hz.up h]; exact hq l
    · rw [b.ku_apply, hz.up h]; exact hk l
    · rw [b.au_apply]; exact isReal_sg _
    · simp only [b.qu_apply, b.ku_apply, b.au_apply, b.vu_apply, hz.up h]
  · refine (lower_bonus _ _ _ _ _ _ _ j (fun l => ?_) (fun l => ?_) (fun l => ?_) hka hrk).trans ?_
    · rw [b.ql_apply, hz.low h]; exact hq l
    · rw [b.kl_apply, hz.low h]; exact hk l
    · rw [b.al_apply]; exact isReal_sg _
    · simp only [b.ql_apply, b.kl_apply, b.al_apply, b.vl_apply, hz.low h]

end

end Cert.Prep

end
-- ==== Proof.Cells.lean ====
/- The operands' kernel and its reference, an entry at a time. -/
module

public import proofs.«01_k».proof.Proof.Rows

@[expose] public section

set_option maxHeartbeats 1600000

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

variable (m : (l : Loc nD τ sig) → Buf (Elt Ideal) l)

/-- A token's projection, and its mixed row. -/
def proj (c : Dev nD) (i : Fin 8192) (ch : Fin 2048) : EReal := ∑ k : Fin 2048, arrX m c (ix2 i k) * arrW m c (ix2 ch k)
def mixed (c : Dev nD) (i : Fin 8192) (ch : Fin 2048) : EReal := look (fun i => proj m c i ch) (spread (arrU m c) (ix2 0 ch)) i

theorem pr_eq (c : Dev nD) (t : Fin cfg0.N) (s) (r : Fin 512) (ch : Fin 2048) : (blk m c t s).pr r ch = proj m c (row t r) ch :=
  Finset.sum_congr rfl fun k _ => congrArg₂ (fun x y : EReal => x * y) (x0_apply m c t r k) (x1_apply m c t ch k)

/-- The rows before a point's upper half's. -/
def Before (c : Dev nD) (t : Fin cfg0.N) (s : Vec Ideal S256x2048 .f32) : Prop :=
  ∀ (r : Fin 256) (ch : Fin 2048), s (ix2 r ch) = if (row t ⟨r.val, by omega⟩).val < 1 then 0
    else proj m c ⟨(row t ⟨r.val, by omega⟩).val - 1, by have := (row t ⟨r.val, by omega⟩).isLt; omega⟩ ch

theorem row_mixed (c : Dev nD) (t : Fin cfg0.N) (s) (hs : Before m c t s) (r : Fin 512) : (blk m c t s).Row r (mixed m c (row t r)) where
  up h := by
    funext ch
    rw [Blk.zu_apply, pr_eq]
    show proj m c (row t r) ch + (s (ix2 ⟨r.val, h⟩ ch) - proj m c (row t r) ch) * (iblk m c 2 t : Vec Ideal S1x2048 .f32) (ix2 0 ch) = _
    rw [hs]
    exact congrArg (fun u : EReal => proj m c (row t r) ch + (_ - proj m c (row t r) ch) * u) (x2_eq m c t ch)
  low h := by
    funext ch
    rw [Blk.zl_apply, pr_eq, pr_eq]
    have a : (⟨256 + (r.val - 256), by omega⟩ : Fin 512) = r := Fin.ext (by dsimp only; omega)
    have b : row t (⟨255 + (r.val - 256), by omega⟩ : Fin 512) = ⟨(row t r).val - 1, by have := (row t r).isLt; omega⟩ :=
      Fin.ext (by unfold row; dsimp only; omega)
    rw [a, b]
    unfold mixed look
    rw [if_neg (by unfold row; dsimp only; omega)]
    exact congrArg (fun u : EReal => proj m c (row t r) ch + (_ - proj m c (row t r) ch) * u) (x2_eq m c t ch)

theorem own (c : Dev nD) (t : Fin cfg0.N) (r : Fin 256) (ch : Fin 2048) :
    k0_pay7 (View.ld (iblk m c 0 t : Vec Ideal S512x2048 .bf16) (Rect.unit ![0, 0] ![256, 2048] inb_S512x2048_S256x2048_0_0)) (iblk m c 1 t) (ix2 r ch)
      = proj m c (row t ⟨r.val, by omega⟩) ch :=
  (pay7_apply _ _ r ch).trans (((blk m c t (fun _ => (0 : EReal))).pu_apply r ch).trans (pr_eq m c t _ _ ch))

/-- What a point leaves: its outputs, over the rows before. -/
theorem point (c : Dev nD) : ∀ (n : ℕ) (hn : n < cfg0.N), ∃ s Z, outsAt0 m c n hn = (blk m c ⟨n, hn⟩ s).outs Z ∧ Before m c ⟨n, hn⟩ s
  | 0, hn => by
    refine ⟨_, _, (outsAt0_zero m c hn).trans (start m c ⟨0, hn⟩ junk0 rfl), fun r ch => ?_⟩
    refine (startS_apply _ _ r ch).trans ?_
    have e : (row (⟨0, hn⟩ : Fin cfg0.N) ⟨r.val, by omega⟩).val = r.val := by unfold row; dsimp only; omega
    by_cases h : r.val < 1
    · rw [if_pos h, if_pos (by omega)]
    · rw [if_neg h, if_neg (by omega)]
      refine (own m c ⟨0, hn⟩ _ ch).trans (congrArg (fun i => proj m c i ch) (Fin.ext ?_))
      unfold row; dsimp only; omega
  | n + 1, hn => by
    have hN : cfg0.N = 16 := N_0
    obtain ⟨s, Z, e, -⟩ := point c n (Nat.lt_of_succ_lt hn)
    refine ⟨_, _, (outsAt0_succ m c n hn).trans (next m c ⟨n + 1, hn⟩ _ (by dsimp only; omega)), fun r ch => ?_⟩
    refine (nextS_apply _ _ _ r ch).trans ?_
    have v : (row (⟨n + 1, hn⟩ : Fin cfg0.N) ⟨r.val, by omega⟩).val = 512 * (n + 1) + r.val := rfl
    rw [if_neg (show ¬(row (⟨n + 1, hn⟩ : Fin cfg0.N) ⟨r.val, by omega⟩).val < 1 by omega)]
    by_cases h : r.val < 1
    · rw [if_pos h, e]
      refine (carried _ _ ch).trans ((pay29_apply _ ch).trans (((blk m c _ s).pl_apply 255 ch).trans ((pr_eq m c _ _ _ ch).trans
        (congrArg (fun i => proj m c i ch) (Fin.ext ?_)))))
      show 512 * n + (256 + 255) = 512 * (n + 1) + r.val - 1
      omega
    · rw [if_neg h]
      refine (own m c ⟨n + 1, hn⟩ _ ch).trans (congrArg (fun i => proj m c i ch) (Fin.ext ?_))
      show 512 * (n + 1) + (r.val - 1) = 512 * (n + 1) + r.val - 1
      omega

theorem place_at (i : Fin 8192) : i.val / 512 < cfg0.N := lt_of_lt_of_eq (by omega) (show 16 = cfg0.N from N_0.symm)

/-- What a point leaves in its outputs and the rows carried. -/
abbrev Left : Type :=
  Vec Ideal S512x512 .f32 × Vec Ideal S512x512 .f32 × Vec Ideal S512x512 .f32 × Vec Ideal S512x512 .f32 × Vec Ideal S512x512 .f32
    × Vec Ideal S512x512 .f32 × Vec Ideal S512x512 .f32 × Vec Ideal S512x512 .f32 × Vec Ideal S264x2048 .f32

theorem here (i : Fin 8192) (j : Fin 512) : 1 * (i.val / 512 - 0) + 1 * (j.val / 512 - 0) = i.val / 512 := by omega
theorem here_lt (i : Fin 8192) (j : Fin 512) : 1 * (i.val / 512 - 0) + 1 * (j.val / 512 - 0) < cfg0.N := lt_of_eq_of_lt (here i j) (place_at i)

/-- At a token, what its point leaves at its row. -/
theorem fetch (c : Dev nD) (i : Fin 8192) (j : Fin 512) (f : Left → Vec Ideal S512x512 .f32) (p : ℕ) (l : S512x512.Idx) (h : p < cfg0.N)
    (hp : p = 1 * (i.val / 512 - 0) + 1 * (j.val / 512 - 0)) (h0 : (l 0).val = i.val % 512) (h1 : (l 1).val = j.val % 512) :
    f (outsAt0 m c p h) l = f (outsAt0 m c (i.val / 512) (place_at i)) (ix2 (⟨i.val % 512, Nat.mod_lt _ (by decide)⟩ : Fin 512) j) := by
  have hp : p = i.val / 512 := hp.trans (here i j)
  have hl : l = ix2 (⟨i.val % 512, Nat.mod_lt _ (by decide)⟩ : Fin 512) j := by
    funext a; apply Fin.ext
    match a with
    | ⟨0, _⟩ => exact h0
    | ⟨1, _⟩ => exact h1.trans (Nat.mod_eq_of_lt j.isLt)
  subst hp
  rw [hl]

/-- A block that a token's row lies in. -/
structure Fits (c : Dev nD) (i : Fin 8192) (b : Blk) (r : Fin 512) : Prop where
  row : b.Row r (mixed m c i)
  x3 : ∀ j, b.x3 (ix2 0 j) = arrD0 m c (ix1 j)
  x4 : ∀ j, b.x4 (ix2 0 j) = arrA0 m c (ix1 j)
  x5 : ∀ j, b.x5 (ix2 0 j) = arrN m c (ix1 j)
  x6 : ∀ j, b.x6 (ix2 0 j) = arrK m c (ix1 j)
  x7 : ∀ j, b.x7 (ix2 0 j) = arrR m c (ix1 j)
  x8 : ∀ p j, b.x8 (ix2 p j) = under (arrD2 m c) (ix2 p j)
  x9 : ∀ p j, b.x9 (ix2 p j) = under (arrA2 m c) (ix2 p j)
  x10 : ∀ p j, b.x10 (ix2 p j) = arrG2 m c (ix2 p j)

theorem fits_blk (c : Dev nD) (t : Fin cfg0.N) (s) (hs : Before m c t s) (r : Fin 512) : Fits m c (row t r) (blk m c t s) r where
  row := row_mixed m c t s hs r
  x3 := x3_apply m c t
  x4 := x4_apply m c t
  x5 := x5_apply m c t
  x6 := x6_apply m c t
  x7 := x7_apply m c t
  x8 := x8_apply m c t
  x9 := x9_apply m c t
  x10 := x10_apply m c t

theorem fits (c : Dev nD) (i : Fin 8192) :
    ∃ b Z, outsAt0 m c (i.val / 512) (place_at i) = Blk.outs b Z ∧ Fits m c i b ⟨i.val % 512, Nat.mod_lt _ (by decide)⟩ := by
  obtain ⟨s, Z, e, hs⟩ := point m c _ (place_at i)
  have h := fits_blk m c ⟨_, place_at i⟩ s hs ⟨i.val % 512, Nat.mod_lt _ (by decide)⟩
  have hi : row (⟨_, place_at i⟩ : Fin cfg0.N) ⟨i.val % 512, Nat.mod_lt _ (by decide)⟩ = i := Fin.ext (Nat.div_add_mod i.val 512)
  rw [hi] at h
  exact ⟨blk m c ⟨_, place_at i⟩ s, Z, e, h⟩

/-- The rows under a small matrix add nothing. -/
theorem sum_under (x : Fin 128 → EReal) (w : Vec Ideal S96x512 .f32) (j : Fin 512) :
    ∑ p : Fin 128, x p * under w (ix2 p j) = ∑ p : Fin 96, x ⟨p.val, by omega⟩ * w (ix2 p j) := by
  refine (Fin.sum_univ_add (M := EReal) (a := 96) (b := 32) (fun p => x p * under w (ix2 p j))).trans ?_
  rw [Finset.sum_eq_zero (s := (Finset.univ : Finset (Fin 32))) (fun p _ => ?_), add_zero]
  · refine Finset.sum_congr rfl fun p _ => ?_
    rw [under_apply, dif_pos (show (Fin.castAdd 32 p).val < 96 from p.isLt)]
    rfl
  · rw [under_apply, dif_neg (show ¬(Fin.natAdd 96 p).val < 96 by rw [Fin.val_natAdd]; omega), mul_zero]

/-- The rate, as the two programs have it. -/
def turn (c : Dev nD) (i : Fin 8192) (j : Fin 512) : EReal :=
  rate (arrA0 m c (ix1 j)) (from' (n := 96) 1664 (by omega) (mixed m c i)) (fun p => arrA2 m c (ix2 p j))

theorem turn_under (c : Dev nD) (i : Fin 8192) (j : Fin 512) :
    rate (arrA0 m c (ix1 j)) (from' (n := 128) 1664 (by omega) (mixed m c i)) (fun p => under (arrA2 m c) (ix2 p j)) = turn m c i j := by
  unfold turn rate
  rw [sum_under]
  rfl

theorem r_eq (c : Dev nD) (i : Fin 8192) (j : Fin 512) :
    (G11 m c : Vec Ideal S8192x512 .f32) (ix2 i j) = from' 0 (by omega) (mixed m c i) j := by
  unfold G11
  have hb : pt11Of (ix2 i j) < cfg0.N := here_lt i j
  rw [dif_pos hb, ← outsAt0_sweep m c _ hb]
  refine (fetch m c i j (fun o => o.1) (pt11Of (ix2 i j)) (loc11Of (ix2 i j)) hb rfl rfl rfl).trans ?_
  obtain ⟨b, Z, e, h⟩ := fits m c i
  have q := out_r h.row j
  rw [e]
  unfold Blk.outs
  exact q
theorem v_eq (c : Dev nD) (i : Fin 8192) (j : Fin 512) :
    (G14 m c : Vec Ideal S8192x512 .f32) (ix2 i j) = from' 1024 (by omega) (mixed m c i) j := by
  unfold G14
  have hb : pt14Of (ix2 i j) < cfg0.N := here_lt i j
  rw [dif_pos hb, ← outsAt0_sweep m c _ hb]
  refine (fetch m c i j (fun o => o.2.2.2.1) (pt14Of (ix2 i j)) (loc14Of (ix2 i j)) hb rfl rfl rfl).trans ?_
  obtain ⟨b, Z, e, h⟩ := fits m c i
  have q := out_v h.row j
  rw [e]
  unfold Blk.outs
  exact q
theorem d_eq (c : Dev nD) (i : Fin 8192) (j : Fin 512) : (G12 m c : Vec Ideal S8192x512 .f32) (ix2 i j)
    = fade (arrD0 m c (ix1 j)) (from' (n := 96) 1536 (by omega) (mixed m c i)) (fun p => arrD2 m c (ix2 p j)) := by
  unfold G12
  have hb : pt12Of (ix2 i j) < cfg0.N := here_lt i j
  rw [dif_pos hb, ← outsAt0_sweep m c _ hb]
  refine (fetch m c i j (fun o => o.2.1) (pt12Of (ix2 i j)) (loc12Of (ix2 i j)) hb rfl rfl rfl).trans ?_
  obtain ⟨b, Z, e, h⟩ := fits m c i
  have q := out_d h.row j
  rw [e]
  unfold Blk.outs
  refine q.trans ?_
  simp only [h.x3, h.x8]
  unfold fade
  rw [sum_under (fun p => Ideal.tanh (from' 1536 (by omega) (mixed m c i) p))]
  rfl
theorem k_eq (c : Dev nD) (i : Fin 8192) (j : Fin 512) : (G13 m c : Vec Ideal S8192x512 .f32) (ix2 i j)
    = key (from' 512 (by omega) (mixed m c i) j) (turn m c i j) (arrK m c (ix1 j)) := by
  unfold G13
  have hb : pt13Of (ix2 i j) < cfg0.N := here_lt i j
  rw [dif_pos hb, ← outsAt0_sweep m c _ hb]
  refine (fetch m c i j (fun o => o.2.2.1) (pt13Of (ix2 i j)) (loc13Of (ix2 i j)) hb rfl rfl rfl).trans ?_
  obtain ⟨b, Z, e, h⟩ := fits m c i
  have q := out_k h.row j
  rw [e]
  unfold Blk.outs
  refine q.trans ?_
  simp only [h.x4, h.x6, h.x9, turn_under]
theorem g_eq (c : Dev nD) (i : Fin 8192) (j : Fin 512) : (G17 m c : Vec Ideal S8192x512 .f32) (ix2 i j)
    = open' (from' 1792 (by omega) (mixed m c i)) (fun p : Fin 256 => arrG2 m c (ix2 p j)) := by
  unfold G17
  have hb : pt17Of (ix2 i j) < cfg0.N := here_lt i j
  rw [dif_pos hb, ← outsAt0_sweep m c _ hb]
  refine (fetch m c i j (fun o => o.2.2.2.2.2.2.1) (pt17Of (ix2 i j)) (loc17Of (ix2 i j)) hb rfl rfl rfl).trans ?_
  obtain ⟨b, Z, e, h⟩ := fits m c i
  have q := out_g h.row j
  rw [e]
  unfold Blk.outs
  refine q.trans ?_
  simp only [h.x10]

/-- What the precondition says of the arrays. -/
structure Finite (c : Dev nD) : Prop where
  x : ∀ i k, IsReal (arrX m c (ix2 i k))
  w : ∀ ch k : Fin 2048, ch.val < 1024 → IsReal (arrW m c (ix2 ch k))
  u : ∀ ch : Fin 1984, ch.val < 1024 → IsReal (arrU m c (ix1 ch))
  n : ∀ j, IsReal (arrN m c (ix1 j))
  k : ∀ j, IsReal (arrK m c (ix1 j))
  r : ∀ j, IsReal (arrR m c (ix1 j))

section

variable {m} {c : Dev nD} (hf : Finite m c)
include hf

theorem proj_real (i : Fin 8192) (ch : Fin 2048) (h : ch.val < 1024) : IsReal (proj m c i ch) :=
  isReal_sum _ fun k => (hf.x i k).mul (hf.w ch k h)

theorem mixed_real (i : Fin 8192) (ch : Fin 2048) (h : ch.val < 1024) : IsReal (mixed m c i ch) := by
  unfold mixed look
  have e : ch = place ⟨ch.val, by omega⟩ := Fin.ext (by unfold place; dsimp only; rw [if_pos (by omega)])
  refine (proj_real hf i ch h).add (IsReal.mul (IsReal.sub ?_ (proj_real hf i ch h)) ?_)
  · split_ifs
    · exact isReal_zero
    · exact proj_real hf _ ch h
  · rw [e, spread_apply]
    exact hf.u _ h

theorem n_eq (i : Fin 8192) (j : Fin 512) : (G15 m c : Vec Ideal S8192x512 .f32) (ix2 i j)
    = unit (from' 512 (by omega) (mixed m c i)) (fun l => arrN m c (ix1 l)) j := by
  unfold G15
  have hb : pt15Of (ix2 i j) < cfg0.N := here_lt i j
  rw [dif_pos hb, ← outsAt0_sweep m c _ hb]
  refine (fetch m c i j (fun o => o.2.2.2.2.1) (pt15Of (ix2 i j)) (loc15Of (ix2 i j)) hb rfl rfl rfl).trans ?_
  obtain ⟨b, Z, e, h⟩ := fits m c i
  have q := out_n h.row j (fun l => mixed_real hf i _ (by dsimp only; omega)) (fun l => by rw [h.x5]; exact hf.n l)
  rw [e]
  unfold Blk.outs
  refine q.trans ?_
  simp only [h.x5]
theorem b_eq (i : Fin 8192) (j : Fin 512) : (G16 m c : Vec Ideal S8192x512 .f32) (ix2 i j)
    = unit (from' 512 (by omega) (mixed m c i)) (fun l => arrN m c (ix1 l)) j * turn m c i j := by
  unfold G16
  have hb : pt16Of (ix2 i j) < cfg0.N := here_lt i j
  rw [dif_pos hb, ← outsAt0_sweep m c _ hb]
  refine (fetch m c i j (fun o => o.2.2.2.2.2.1) (pt16Of (ix2 i j)) (loc16Of (ix2 i j)) hb rfl rfl rfl).trans ?_
  obtain ⟨b, Z, e, h⟩ := fits m c i
  have q := out_b h.row j (fun l => mixed_real hf i _ (by dsimp only; omega)) (fun l => by rw [h.x5]; exact hf.n l)
  rw [e]
  unfold Blk.outs
  refine q.trans ?_
  simp only [h.x4, h.x5, h.x9, turn_under]
theorem o_eq (i : Fin 8192) (j : Fin 512) : (G18 m c : Vec Ideal S8192x512 .f32) (ix2 i j)
    = bonus (from' 0 (by omega) (mixed m c i)) (fun l => key (from' 512 (by omega) (mixed m c i) l) (turn m c i l) (arrK m c (ix1 l)))
      (fun l => arrR m c (ix1 l)) (from' 1024 (by omega) (mixed m c i)) j := by
  unfold G18
  have hb : pt18Of (ix2 i j) < cfg0.N := here_lt i j
  rw [dif_pos hb, ← outsAt0_sweep m c _ hb]
  refine (fetch m c i j (fun o => o.2.2.2.2.2.2.2.1) (pt18Of (ix2 i j)) (loc18Of (ix2 i j)) hb rfl rfl rfl).trans ?_
  obtain ⟨b, Z, e, h⟩ := fits m c i
  have q := out_o h.row j (fun l => mixed_real hf i _ (by dsimp only; omega)) (fun l => mixed_real hf i _ (by dsimp only; omega))
    (fun l => by rw [h.x6]; exact hf.k l) (fun l => by rw [h.x7]; exact hf.r l)
  rw [e]
  unfold Blk.outs
  refine q.trans ?_
  simp only [h.x4, h.x6, h.x7, h.x9, turn_under]

end

end Cert.Prep

end
-- ==== Proof.Whole.lean ====
/- The operands' kernel and its reference: the two claims. -/
module

public import proofs.«01_k».proof.Proof.Cells
public import proofs.«01_k».proof.Proof.Result

@[expose] public section

set_option maxHeartbeats 1600000

noncomputable section

namespace Cert.Prep

open Idealize.ShloMosaic Idealize.ShloMosaic.TcCoe Idealize.SL.Sem Cert.Kernel9Ideal Cert.Kernel9Ideal.Gen Cert.Kernel9Ideal.Value
  Cert.Stored Cert.Squash Cert.Mixer

instance preFacts9 : Cert.Pre_finite9.Facts where
  bcast_S_S8192x2048 := by decide
  slices_S2048x2048_S1024x2048_0_0 := by decide
  bcast_S_S1024x2048 := by decide
  slices_S1984_S1024_0 := by decide
  bcast_S_S1024 := by decide
  bcast_S_S512 := by decide

theorem isReal_of_lt (x : EReal) (h : Ideal.cmp .olt (max x (-x)) (Ideal.ofBits .f32 0x7F800000#32) = 1#1) : IsReal x :=
  ⟨x.toReal, (Cert.Result.real_of_lt x h).symm⟩
theorem isReal_of_lt_short (x : EReal) (h : Ideal.cmp .olt (max x (-x)) (Ideal.ofBits .bf16 0x7F80#16) = 1#1) : IsReal x := by
  refine isReal_of_lt x ?_
  rw [Cert.Result.ofBits_inf]
  rwa [show Ideal.ofBits .bf16 0x7F80#16 = ⊤ by simp [Ideal.ofBits, Ideal.ieee]] at h

variable {m : (l : Loc nD τ sig) → Buf (Elt Ideal) l}

/-- The precondition, an entry at a time. -/
theorem finite_of (c : Dev nD) (hp : Pre_Kernel9Ideal_finite9 m) : Finite m c := by
  obtain ⟨h0, h1, h2, h3, h4, h5⟩ := hp c
  refine ⟨fun i k => isReal_of_lt_short _ (congrFun h0 (ix2 i k)), fun ch k h => ?_, fun ch h => ?_,
    fun j => isReal_of_lt _ (congrFun h3 (ix1 j)), fun j => isReal_of_lt _ (congrFun h4 (ix1 j)), fun j => isReal_of_lt _ (congrFun h5 (ix1 j))⟩
  · have g := congrFun h1 (ix2 (⟨ch.val, h⟩ : Fin 1024) k)
    have e : extractStridedSlice Cert.Pre_finite9.S1024x2048 ![0, 0] (arrW m c) Cert.Pre_finite9.Facts.slices_S2048x2048_S1024x2048_0_0
        (ix2 (⟨ch.val, h⟩ : Fin 1024) k) = arrW m c (ix2 ch k) := by
      pointwise []
    refine isReal_of_lt_short _ ?_
    rw [← e]
    exact g
  · have g := congrFun h2 (ix1 (⟨ch.val, h⟩ : Fin 1024))
    have e : extractStridedSlice Cert.Pre_finite9.S1024 ![0] (arrU m c) Cert.Pre_finite9.Facts.slices_S1984_S1024_0
        (ix1 (⟨ch.val, h⟩ : Fin 1024)) = arrU m c (ix1 ch) := by
      pointwise []
    refine isReal_of_lt _ ?_
    rw [← e]
    exact g

theorem place_low (c : Fin 1984) (h : c.val < 1632) : (place c).val = c.val := by
  unfold place; dsimp only; rw [if_pos h]
theorem place_mid (c : Fin 1984) (h : ¬c.val < 1632) (h' : c.val < 1728) : (place c).val = c.val + 32 := by
  unfold place; dsimp only; rw [if_neg h, if_pos h']
theorem place_high (c : Fin 1984) (h : ¬c.val < 1728) : (place c).val = c.val + 64 := by
  unfold place; dsimp only; rw [if_neg (by omega), if_neg h]

/-- A cut of the reference's mixed rows. -/
theorem cut_low (Z : FVec Ideal Cert.Reference9Ideal.S8192x1984 .f32) (h) (i : Fin 8192) (j : Fin 512) :
    extractStridedSlice Cert.Reference9Ideal.S8192x512 ![0, 0] Z h (ix2 i j) = Z (ix2 i ⟨j.val, by omega⟩) := by
  pointwise []
theorem cut_high (Z : FVec Ideal Cert.Reference9Ideal.S8192x1984 .f32) (h) (i : Fin 8192) (j : Fin 512) :
    extractStridedSlice Cert.Reference9Ideal.S8192x512 ![0, 1024] Z h (ix2 i j) = Z (ix2 i ⟨1024 + j.val, by omega⟩) := by
  pointwise []

section

variable {c : Dev nD} {Z : FVec Ideal Cert.Reference9Ideal.S8192x1984 .f32} (hZ : ∀ i ch, Z (ix2 i ch) = mixed m c i (place ch))
include hZ

theorem at_low {n : ℕ} (o : ℕ) (h : o + n ≤ 1632) (i : Fin 8192) (p : Fin n) :
    Z (ix2 i ⟨o + p.val, by omega⟩) = from' o (by omega) (mixed m c i) p :=
  (hZ i _).trans (congrArg (mixed m c i) (Fin.ext (place_low _ (by dsimp only; omega))))

theorem ref_rate (i : Fin 8192) (j : Fin 512) : refRate Z (arrA0 m c) (arrA2 m c) (ix2 i j) = turn m c i j := by
  refine (refRate_apply _ _ _ i j).trans ?_
  unfold turn
  refine congrArg (fun f => rate _ f _) (funext fun p => ?_)
  refine (hZ i _).trans (congrArg (mixed m c i) (Fin.ext ((place_mid _ (by dsimp only; omega) (by dsimp only; omega)).trans ?_)))
  show 1632 + p.val + 32 = 1664 + p.val
  omega

theorem ref_fade (i : Fin 8192) (j : Fin 512) : refDecay (refFade Z (arrD0 m c) (arrD2 m c)) (ix2 i j)
    = fade (arrD0 m c (ix1 j)) (from' (n := 96) 1536 (by omega) (mixed m c i)) (fun p => arrD2 m c (ix2 p j)) := by
  refine (refDecay_apply _ i j).trans ?_
  rw [refFade_apply]
  unfold fade
  refine congrArg (fun s : EReal => decay (_ + s)) (Finset.sum_congr rfl fun p _ => ?_)
  rw [at_low hZ 1536 (by omega) i p]

theorem ref_key (i : Fin 8192) (j : Fin 512) : refKey Z (refRate Z (arrA0 m c) (arrA2 m c)) (arrK m c) (ix2 i j)
    = key (from' 512 (by omega) (mixed m c i) j) (turn m c i j) (arrK m c (ix1 j)) := by
  refine (refKey_apply _ _ _ i j).trans ?_
  rw [ref_rate hZ, at_low hZ 512 (by omega) i j]

theorem ref_unit (i : Fin 8192) (j : Fin 512) : refUnit Z (arrN m c) (ix2 i j)
    = unit (from' 512 (by omega) (mixed m c i)) (fun l => arrN m c (ix1 l)) j :=
  (refUnit_apply _ _ i j).trans (congrArg (fun f => unit f _ j) (funext fun l => at_low hZ 512 (by omega) i l))

theorem ref_turn (i : Fin 8192) (j : Fin 512) : mulf (refUnit Z (arrN m c)) (refRate Z (arrA0 m c) (arrA2 m c)) (ix2 i j)
    = unit (from' 512 (by omega) (mixed m c i)) (fun l => arrN m c (ix1 l)) j * turn m c i j :=
  congrArg₂ (fun x y : EReal => x * y) (ref_unit hZ i j) (ref_rate hZ i j)

theorem ref_open (i : Fin 8192) (j : Fin 512) : refOpen Z (arrG2 m c) (ix2 i j)
    = open' (from' 1792 (by omega) (mixed m c i)) (fun p : Fin 256 => arrG2 m c (ix2 p j)) := by
  refine (refOpen_apply _ _ i j).trans ?_
  refine congrArg (fun f => open' f _) (funext fun p => ?_)
  refine (hZ i _).trans (congrArg (mixed m c i) (Fin.ext ((place_high _ (by dsimp only; omega)).trans ?_)))
  show 1728 + p.val + 64 = 1792 + p.val
  omega

theorem ref_r (h) (i : Fin 8192) (j : Fin 512) : extractStridedSlice Cert.Reference9Ideal.S8192x512 ![0, 0] Z h (ix2 i j)
    = from' 0 (by omega) (mixed m c i) j := by
  refine (cut_low Z h i j).trans ((hZ i _).trans (congrArg (mixed m c i) (Fin.ext ((place_low _ (by dsimp only; omega)).trans ?_))))
  show j.val = 0 + j.val
  omega

theorem ref_v (h) (i : Fin 8192) (j : Fin 512) : extractStridedSlice Cert.Reference9Ideal.S8192x512 ![0, 1024] Z h (ix2 i j)
    = from' 1024 (by omega) (mixed m c i) j :=
  (cut_high Z h i j).trans (at_low hZ 1024 (by omega) i j)

theorem ref_bonus (i : Fin 8192) (j : Fin 512) :
    refBonus Z (refKey Z (refRate Z (arrA0 m c) (arrA2 m c)) (arrK m c)) (arrR m c) (ix2 i j)
    = bonus (from' 0 (by omega) (mixed m c i)) (fun l => key (from' 512 (by omega) (mixed m c i) l) (turn m c i l) (arrK m c (ix1 l)))
      (fun l => arrR m c (ix1 l)) (from' 1024 (by omega) (mixed m c i)) j := by
  refine (refBonus_apply _ _ _ i j).trans ?_
  have a : (fun l : Fin 512 => Z (ix2 i ⟨l.val, by omega⟩)) = from' 0 (by omega) (mixed m c i) := funext fun l =>
    (hZ i _).trans (congrArg (mixed m c i) (Fin.ext ((place_low _ (by dsimp only; omega)).trans (Nat.zero_add l.val).symm)))
  have b : (fun l : Fin 512 => Z (ix2 i ⟨1024 + l.val, by omega⟩)) = from' 1024 (by omega) (mixed m c i) :=
    funext fun l => at_low hZ 1024 (by omega) i l
  rw [a, b]
  exact congrArg (fun f => bonus _ f _ _ j) (funext fun l => ref_key hZ i l)

end

/-- The reference's mixed rows are the kernel's, at the columns' places. -/
theorem ref_mixed (c : Dev nD) (i : Fin 8192) (ch : Fin 1984) : refMix (refProj (arrX m c) (arrW m c)) (arrU m c) (ix2 i ch) = mixed m c i (place ch) := by
  refine (refMix_apply _ _ i ch).trans ?_
  unfold mixed
  rw [spread_apply]
  exact congrArg (fun f => look f _ i) (funext fun i => refProj_apply _ _ i ch)

/-- The reference runs, its arguments unchanged, every counter at zero. -/
theorem reference_frame : quiescent_Reference9Ideal := fun m ρ _ =>
  (θ_run Cert.Reference9Ideal.defs _ _).mono
    (fun r h => ⟨fun c => (h c).2.2.2.2.2.2.2.2, sem_eq_zero_of_no_sems (by decide) r.2⟩)
    (Cert.Reference9Ideal.Value.run (F := Ideal) m ρ)

/-- From equal arguments the two programs end with equal results. -/
theorem values : algebraic_Kernel9Ideal_Reference9Ideal_pre_finite9 := by
  intro m g m' g' hp he
  refine ⟨fun c => G11 m c, fun c => G12 m c, fun c => G13 m c, fun c => G14 m c, fun c => G15 m c, fun c => G16 m c, fun c => G17 m c,
    fun c => G18 m c, Cert.Kernel9Ideal.Value.run (F := Ideal) m g, ?_⟩
  refine (θ_run Cert.Reference9Ideal.defs _ _).mono (fun r h c => ?_) (Cert.Reference9Ideal.Value.run (F := Ideal) m' g')
  obtain ⟨e0, e1, e2, e3, e4, e5, e6, e7, e8, e9, e10⟩ := he c
  have hf := finite_of c hp
  have hz : refZ m' c = refMix (refProj (arrX m c) (arrW m c)) (arrU m c) := by
    unfold refZ
    rw [e0, e1, e2]
    rfl
  have hZ : ∀ i ch, refZ m' c (ix2 i ch) = mixed m c i (place ch) := fun i ch => (congrFun hz _).trans (ref_mixed c i ch)
  have a1 := fade_eq m' c
  have a2 := key_eq m' c
  have a4 := unit_eq m' c
  have a5 := turn_eq m' c
  have a7 := bonus_eq m' c
  rw [e3, e4] at a1
  rw [e5, e6, e9] at a2
  rw [e8] at a4
  rw [e8, e5, e6] at a5
  rw [e5, e6, e9, e10] at a7
  have a6 := (h c).2.2.2.2.2.2.1
  rw [e7] at a6
  refine ⟨(h c).1.trans (funext fun y => ?_), ((h c).2.1.trans a1).trans (funext fun y => ?_), ((h c).2.2.1.trans a2).trans (funext fun y => ?_),
    (h c).2.2.2.1.trans (funext fun y => ?_), ((h c).2.2.2.2.1.trans a4).trans (funext fun y => ?_),
    ((h c).2.2.2.2.2.1.trans a5).trans (funext fun y => ?_), a6.trans (funext fun y => ?_),
    ((h c).2.2.2.2.2.2.2.1.trans a7).trans (funext fun y => ?_), (h c).2.2.2.2.2.2.2.2⟩ <;> rw [eq_ix2 y]
  · exact (ref_r hZ _ (y 0) (y 1)).trans (r_eq m c (y 0) (y 1)).symm
  · exact (ref_fade hZ (y 0) (y 1)).trans (d_eq m c (y 0) (y 1)).symm
  · exact (ref_key hZ (y 0) (y 1)).trans (k_eq m c (y 0) (y 1)).symm
  · exact (ref_v hZ _ (y 0) (y 1)).trans (v_eq m c (y 0) (y 1)).symm
  · exact (ref_unit hZ (y 0) (y 1)).trans (n_eq hf (y 0) (y 1)).symm
  · exact (ref_turn hZ (y 0) (y 1)).trans (b_eq hf (y 0) (y 1)).symm
  · exact (ref_open hZ (y 0) (y 1)).trans (g_eq m c (y 0) (y 1)).symm
  · exact (ref_bonus hZ (y 0) (y 1)).trans (o_eq hf (y 0) (y 1)).symm

end Cert.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Trips
public import proofs.«01_k».proof.Proof.Result
public import proofs.«01_k».proof.Proof.Up
public import proofs.«01_k».proof.Proof.Down
public import proofs.«01_k».proof.Proof.Gates
public import proofs.«01_k».proof.Proof.Inner
public import proofs.«01_k».proof.Proof.Merge
public import proofs.«01_k».proof.Proof.Norm
public import proofs.«01_k».proof.Proof.Lookup
public import proofs.«01_k».proof.Proof.Whole
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its arguments unchanged, every counter at zero. -/
theorem reference_frame : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the two programs end with equal results. -/
theorem values : algebraic_KernelIdeal_ReferenceIdeal_pre_finite := by
  intro m g m' g' hp he
  refine ⟨fun c => Cert.KernelIdeal.Value.G9 m c, Cert.KernelIdeal.Value.run (F := Ideal) m g, ?_⟩
  refine (θ_run Cert.ReferenceIdeal.defs _ _).mono (fun r h c => ⟨(h c).1.trans ?_, (h c).2⟩)
    (Cert.ReferenceIdeal.Trips.run_iter (F := Ideal) m' g'
      (fun c => Cert.ReferenceIdeal.Step.states (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)))
      (fun _ => rfl) (fun _ _ => rfl))
  obtain ⟨e0, e1, e2, e3, e4, e5⟩ := he c
  simp only [e0, e1, e2, e3, e4, e5]
  exact Cert.Result.same m c (Cert.Result.reals (hp c).1 (hp c).2)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Result.preFacts, Cert.Prep.preFacts9,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ, fun m ρ _ => Cert.Kernel2Ideal.Gen.frame m ρ, Cert.Up.reference_frame,
    fun m ρ _ => Cert.Kernel3.Gen.frame m ρ, fun m ρ _ => Cert.Kernel3Ideal.Gen.frame m ρ, Cert.Down.reference_frame,
    fun m ρ _ => Cert.Kernel4.Gen.frame m ρ, fun m ρ _ => Cert.Kernel4Ideal.Gen.frame m ρ, Cert.Gates.reference_frame,
    fun m ρ _ => Cert.Kernel5.Gen.frame m ρ, fun m ρ _ => Cert.Kernel5Ideal.Gen.frame m ρ, Cert.Inner.reference_frame,
    fun m ρ _ => Cert.Kernel6.Gen.frame m ρ, fun m ρ _ => Cert.Kernel6Ideal.Gen.frame m ρ, Cert.Merge.reference_frame,
    fun m ρ _ => Cert.Kernel7.Gen.frame m ρ, fun m ρ _ => Cert.Kernel7Ideal.Gen.frame m ρ, Cert.Norm.reference_frame,
    fun m ρ _ => Cert.Kernel8.Gen.frame m ρ, fun m ρ _ => Cert.Kernel8Ideal.Gen.frame m ρ, Cert.Lookup.reference_frame,
    fun m ρ _ => Cert.Kernel9.Gen.frame m ρ,
    fun m ρ _ => Cert.Kernel9Ideal.Gen.frame m ρ,
    fun m ρ _ => Cert.Kernel9Ideal.Gen.frame m ρ,
    fun m ρ _ => Cert.Prep.reference_frame m ρ trivial,
    fun m ρ _ => Cert.Prep.reference_frame m ρ trivial,
    trivial, values,
    trivial, Cert.Up.values,
    trivial, Cert.Down.values,
    trivial, Cert.Gates.values,
    trivial, Cert.Inner.values,
    trivial, Cert.Merge.values,
    trivial, Cert.Norm.values,
    trivial, Cert.Lookup.values,
    trivial, Cert.Prep.values⟩

end Cert.Proof

end
